-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain [hPre_plain : Cert.Pre_plain.Facts] (m : (ℓ : Loc Cert.KernelIdeal.nD Cert.KernelIdeal.τ Cert.KernelIdeal.sig) → Buf (Elt Ideal) ℓ) : Prop :=
  ∀ c : Dev Cert.KernelIdeal.nD,
    (Cert.Pre_plain.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain [hPre_plain : Cert.Pre_plain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_plain [hKernelIdeal : Cert.KernelIdeal.Facts] [hPre_plain : Cert.Pre_plain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_plain [hReferenceIdeal : Cert.ReferenceIdeal.Facts] [hPre_plain : Cert.Pre_plain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_plain [hKernelIdeal : Cert.KernelIdeal.Facts] [hReferenceIdeal : Cert.ReferenceIdeal.Facts] [hPre_plain : Cert.Pre_plain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_plain : Cert.Pre_plain.Facts),
    quiescent_Kernel (hKernel := hKernel)
    ∧ quiescent_KernelIdeal (hKernelIdeal := hKernelIdeal)
    ∧ quiescent_KernelIdeal_pre_plain (hKernelIdeal := hKernelIdeal) (hPre_plain := hPre_plain)
    ∧ quiescent_ReferenceIdeal (hReferenceIdeal := hReferenceIdeal)
    ∧ quiescent_ReferenceIdeal_pre_plain (hReferenceIdeal := hReferenceIdeal) (hPre_plain := hPre_plain)
    ∧ preserves_Kernel_KernelIdeal
    ∧ algebraic_KernelIdeal_ReferenceIdeal_pre_plain (hKernelIdeal := hKernelIdeal) (hReferenceIdeal := hReferenceIdeal) (hPre_plain := hPre_plain)
-- ==== Pre_plain.lean ====
abbrev S16x8192x32 : Shape := ⟨3, ![16, 8192, 32]⟩
abbrev S_ : Shape := ⟨0, ![]⟩
abbrev S16x8192 : Shape := ⟨2, ![16, 8192]⟩
abbrev S16x8192x1 : Shape := ⟨3, ![16, 8192, 1]⟩

class Facts : Prop where
  bcast_S_S16x8192x32 : S_.BroadcastsInDim S16x8192x32 (![] : Fin 0 → Fin S16x8192x32.rank)
  reducesTo_S16x8192x32_S16x8192_d2 : S16x8192x32.ReducesTo [2] S16x8192
  h_S_ : 0 < S_.numel
  bcast_S16x8192_S16x8192x1_0_1 : S16x8192.BroadcastsInDim S16x8192x1 (![0, 1] : Fin 2 → Fin S16x8192x1.rank)
  bcast_S16x8192x1_S16x8192x32_0_1_2 : S16x8192x1.BroadcastsInDim S16x8192x32 (![0, 1, 2] : Fin 3 → Fin S16x8192x32.rank)

variable [Facts]

def fn {F : FTy → Type} [FloatOps F] (main_arg0 : FVec F S16x8192x32 .f32) : IVec S16x8192x32 1 :=
  let main_cst : FVec F S_ .f32 := constant S_ .f32 0x00000000#32
  let main_v0 : FVec F S16x8192x32 .f32 := broadcastInDim S16x8192x32 ![] bcast_S_S16x8192x32 main_cst
  let main_v1 : IVec S16x8192x32 1 := cmpf .ogt main_arg0 main_v0
  let main_c : IVec S_ 1 := constantI S_ 1 0#1
  let main_v2 : IVec S16x8192 1 := (fun x v => Host.reduce IntOp.ori x v reducesTo_S16x8192x32_S16x8192_d2 h_S_) main_v1 main_c
  let main_v3 : IVec S16x8192x1 1 := broadcastInDim S16x8192x1 ![0, 1] bcast_S16x8192_S16x8192x1_0_1 main_v2
  let main_cst_0 : FVec F S_ .f32 := constant S_ .f32 0x00000000#32
  let main_v4 : FVec F S16x8192x32 .f32 := broadcastInDim S16x8192x32 ![] bcast_S_S16x8192x32 main_cst_0
  let main_v5 : IVec S16x8192x32 1 := cmpf .oeq main_arg0 main_v4
  let main_c_1 : IVec S_ 1 := constantI S_ 1 1#1
  let main_v6 : IVec S16x8192 1 := (fun x v => Host.reduce IntOp.andi x v reducesTo_S16x8192x32_S16x8192_d2 h_S_) main_v5 main_c_1
  let main_v7 : IVec S16x8192x1 1 := broadcastInDim S16x8192x1 ![0, 1] bcast_S16x8192_S16x8192x1_0_1 main_v6
  let main_v8 : FVec F S16x8192x32 .f32 := Host.absf main_arg0
  let main_cst_2 : FVec F S_ .f32 := constant S_ .f32 0x7F800000#32
  let main_v9 : FVec F S16x8192x32 .f32 := broadcastInDim S16x8192x32 ![] bcast_S_S16x8192x32 main_cst_2
  let main_v10 : IVec S16x8192x32 1 := cmpf .olt main_v8 main_v9
  let main_v11 : IVec S16x8192x1 1 := ori main_v3 main_v7
  let main_v12 : IVec S16x8192x32 1 := broadcastInDim S16x8192x32 ![0, 1, 2] bcast_S16x8192x1_S16x8192x32_0_1_2 main_v11
  let main_v13 : IVec S16x8192x32 1 := andi main_v10 main_v12
  main_v13
-- ==== Kernel.lean ====
abbrev S16x8192x32 : Shape := ⟨3, ![16, 8192, 32]⟩
abbrev S_ : Shape := ⟨0, ![]⟩
abbrev S1 : Shape := ⟨1, ![1]⟩
abbrev S2 : Shape := ⟨1, ![2]⟩
abbrev S8192 : Shape := ⟨1, ![8192]⟩
abbrev S2x1 : Shape := ⟨2, ![2, 1]⟩
abbrev S2x2 : Shape := ⟨2, ![2, 2]⟩
abbrev S1x2 : Shape := ⟨2, ![1, 2]⟩
abbrev S64 : Shape := ⟨1, ![64]⟩
abbrev S64x1 : Shape := ⟨2, ![64, 1]⟩
abbrev S16x64x32 : Shape := ⟨3, ![16, 64, 32]⟩
abbrev S16x32x64 : Shape := ⟨3, ![16, 32, 64]⟩
abbrev S16x1x8192 : Shape := ⟨3, ![16, 1, 8192]⟩
abbrev S1x8192x32 : Shape := ⟨3, ![1, 8192, 32]⟩
abbrev S1x32x64 : Shape := ⟨3, ![1, 32, 64]⟩
abbrev S1x1x8192 : Shape := ⟨3, ![1, 1, 8192]⟩
abbrev S1x64x32 : Shape := ⟨3, ![1, 64, 32]⟩
abbrev S64x512 : Shape := ⟨2, ![64, 512]⟩
abbrev S32x64 : Shape := ⟨2, ![32, 64]⟩
abbrev S1x64 : Shape := ⟨2, ![1, 64]⟩
abbrev S64x32 : Shape := ⟨2, ![64, 32]⟩
abbrev S1x512x32 : Shape := ⟨3, ![1, 512, 32]⟩
abbrev S512x32 : Shape := ⟨2, ![512, 32]⟩
abbrev S32x512 : Shape := ⟨2, ![32, 512]⟩
abbrev S512x64 : Shape := ⟨2, ![512, 64]⟩
abbrev S512 : Shape := ⟨1, ![512]⟩
abbrev S1x512 : Shape := ⟨2, ![1, 512]⟩
abbrev S1x1x512 : Shape := ⟨3, ![1, 1, 512]⟩

abbrev nBuf : Space → Nat
  | .hbm => 985
  | .vmem => 8
  | .smem => 0
  | _ => 0

abbrev hbmTy0_0 (i : Nat) : BufTy := match i % 128 with
  | 0 => ⟨S16x8192x32, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S8192, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x8192x32, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S1, .i32⟩
  | 127 => ⟨S_, .i32⟩
  | _ => ⟨S16x8192x32, .f32⟩

abbrev hbmTy0_2 (i : Nat) : BufTy := match i % 128 with
  | 0 => ⟨S1, .i32⟩
  | 1 => ⟨S_, .i32⟩
  | 2 => ⟨S8192, .i64⟩
  | 3 => ⟨S_, .i64⟩
  | 4 => ⟨S8192, .i64⟩
  | 5 => ⟨S8192, .i64⟩
  | 6 => ⟨S_, .i64⟩
  | 7 => ⟨S8192, .i64⟩
  | 8 => ⟨S8192, .i64⟩
  | 9 => ⟨S8192, .i32⟩
  | 10 => ⟨S8192, .i32⟩
  | 11 => ⟨S_, .i32⟩
  | 12 => ⟨S_, .i32⟩
  | 13 => ⟨S_, .i32⟩
  | 14 => ⟨S8192, .i32⟩
  | 15 => ⟨S8192, .i32⟩
  | 16 => ⟨S8192, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192, .i32⟩
  | 26 => ⟨S8192, .i32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S8192, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192, .i32⟩
  | 44 => ⟨S8192, .i32⟩
  | 45 => ⟨S8192, .i32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S8192, .i32⟩
  | 53 => ⟨S8192, .i32⟩
  | 54 => ⟨S8192, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .i32⟩
  | 78 => ⟨S8192, .i32⟩
  | 79 => ⟨S8192, .i32⟩
  | 80 => ⟨S_, .i32⟩
  | 81 => ⟨S8192, .i32⟩
  | 82 => ⟨S8192, .i32⟩
  | 83 => ⟨S_, .i32⟩
  | 84 => ⟨S8192, .i32⟩
  | 85 => ⟨S8192, .i32⟩
  | 86 => ⟨S8192, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .i32⟩
  | 96 => ⟨S8192, .i32⟩
  | 97 => ⟨S8192, .i32⟩
  | 98 => ⟨S8192, .i32⟩
  | 99 => ⟨S8192, .i32⟩
  | 100 => ⟨S8192, .i32⟩
  | 101 => ⟨S_, .i32⟩
  | 102 => ⟨S8192, .i32⟩
  | 103 => ⟨S8192, .i32⟩
  | 104 => ⟨S8192, .i32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S8192, .i32⟩
  | 121 => ⟨S8192, .i32⟩
  | 122 => ⟨S8192, .i32⟩
  | 123 => ⟨S_, .i32⟩
  | 124 => ⟨S8192, .i32⟩
  | 125 => ⟨S8192, .i32⟩
  | 126 => ⟨S_, .i32⟩
  | 127 => ⟨S8192, .i32⟩
  | _ => ⟨S16x8192x32, .f32⟩

abbrev hbmTy0_3 (i : Nat) : BufTy := match i % 128 with
  | 0 => ⟨S8192, .i32⟩
  | 1 => ⟨S8192, .i32⟩
  | 2 => ⟨S8192, .i32⟩
  | 3 => ⟨S8192, .i32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192, .i32⟩
  | 11 => ⟨S8192, .i32⟩
  | 12 => ⟨S8192, .i32⟩
  | 13 => ⟨S8192, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S8192, .i32⟩
  | 54 => ⟨S8192, .i32⟩
  | 55 => ⟨S8192, .i32⟩
  | 56 => ⟨S8192, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .i32⟩
  | 97 => ⟨S8192, .i32⟩
  | 98 => ⟨S8192, .i32⟩
  | 99 => ⟨S8192, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .i32⟩
  | 106 => ⟨S8192, .i32⟩
  | 107 => ⟨S8192, .i32⟩
  | 108 => ⟨S1, .i32⟩
  | 109 => ⟨S_, .i32⟩
  | 110 => ⟨S1, .i32⟩
  | 111 => ⟨S_, .i32⟩
  | 112 => ⟨S2, .i64⟩
  | 113 => ⟨S_, .i64⟩
  | 114 => ⟨S2, .i64⟩
  | 115 => ⟨S2, .i64⟩
  | 116 => ⟨S_, .i64⟩
  | 117 => ⟨S2, .i64⟩
  | 118 => ⟨S2, .i64⟩
  | 119 => ⟨S2, .i32⟩
  | 120 => ⟨S2, .i32⟩
  | 121 => ⟨S_, .i32⟩
  | 122 => ⟨S_, .i32⟩
  | 123 => ⟨S_, .i32⟩
  | 124 => ⟨S2, .i32⟩
  | 125 => ⟨S2, .i32⟩
  | 126 => ⟨S2, .i32⟩
  | 127 => ⟨S2, .i32⟩
  | _ => ⟨S16x8192x32, .f32⟩

abbrev hbmTy0_4 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x8192x32, .f32⟩

abbrev hbmTy0_5 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2x1, .i32⟩
  | 88 => ⟨S2x1, .i32⟩
  | 89 => ⟨S2x2, .i32⟩
  | 90 => ⟨S1x2, .i32⟩
  | 91 => ⟨S2, .i32⟩
  | 92 => ⟨S1x2, .i32⟩
  | 93 => ⟨S2, .i32⟩
  | 94 => ⟨S1, .i32⟩
  | 95 => ⟨S_, .i32⟩
  | 96 => ⟨S1, .i32⟩
  | 97 => ⟨S_, .i32⟩
  | 98 => ⟨S8192, .i64⟩
  | 99 => ⟨S_, .i64⟩
  | 100 => ⟨S8192, .i64⟩
  | 101 => ⟨S8192, .i64⟩
  | 102 => ⟨S_, .i64⟩
  | 103 => ⟨S8192, .i64⟩
  | 104 => ⟨S8192, .i64⟩
  | 105 => ⟨S8192, .i32⟩
  | 106 => ⟨S8192, .i32⟩
  | 107 => ⟨S_, .i32⟩
  | 108 => ⟨S_, .i32⟩
  | 109 => ⟨S_, .i32⟩
  | 110 => ⟨S8192, .i32⟩
  | 111 => ⟨S8192, .i32⟩
  | 112 => ⟨S8192, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S16x8192x32, .f32⟩

abbrev hbmTy0_6 (i : Nat) : BufTy := match i % 128 with
  | 0 => ⟨S8192, .i32⟩
  | 1 => ⟨S8192, .i32⟩
  | 2 => ⟨S8192, .i32⟩
  | 3 => ⟨S8192, .i32⟩
  | 4 => ⟨S8192, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S8192, .i32⟩
  | 21 => ⟨S8192, .i32⟩
  | 22 => ⟨S8192, .i32⟩
  | 23 => ⟨S8192, .i32⟩
  | 24 => ⟨S8192, .i32⟩
  | 25 => ⟨S8192, .i32⟩
  | 26 => ⟨S_, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .i32⟩
  | 37 => ⟨S8192, .i32⟩
  | 38 => ⟨S8192, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .i32⟩
  | 55 => ⟨S8192, .i32⟩
  | 56 => ⟨S8192, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .i32⟩
  | 89 => ⟨S8192, .i32⟩
  | 90 => ⟨S8192, .i32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192, .i32⟩
  | 98 => ⟨S8192, .i32⟩
  | 99 => ⟨S8192, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .i32⟩
  | 107 => ⟨S8192, .i32⟩
  | 108 => ⟨S8192, .i32⟩
  | 109 => ⟨S8192, .i32⟩
  | 110 => ⟨S8192, .i32⟩
  | 111 => ⟨S8192, .i32⟩
  | 112 => ⟨S_, .i32⟩
  | 113 => ⟨S8192, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S8192, .i32⟩
  | 123 => ⟨S8192, .i32⟩
  | 124 => ⟨S8192, .i32⟩
  | 125 => ⟨S_, .i32⟩
  | 126 => ⟨S8192, .i32⟩
  | 127 => ⟨S8192, .i32⟩
  | _ => ⟨S16x8192x32, .f32⟩

abbrev hbmTy0_7 (i : Nat) : BufTy := match i % 128 with
  | 0 => ⟨S_, .i32⟩
  | 1 => ⟨S8192, .i32⟩
  | 2 => ⟨S8192, .i32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S8192, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S8192, .i32⟩
  | 22 => ⟨S8192, .i32⟩
  | 23 => ⟨S8192, .i32⟩
  | 24 => ⟨S8192, .i32⟩
  | 25 => ⟨S8192, .i32⟩
  | 26 => ⟨S8192, .i32⟩
  | 27 => ⟨S_, .i32⟩
  | 28 => ⟨S8192, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .i32⟩
  | 74 => ⟨S8192, .i32⟩
  | 75 => ⟨S8192, .i32⟩
  | 76 => ⟨S64, .i32⟩
  | 77 => ⟨S_, .i32⟩
  | 78 => ⟨S64, .i32⟩
  | 79 => ⟨S64, .i1⟩
  | 80 => ⟨S_, .i32⟩
  | 81 => ⟨S64, .i32⟩
  | 82 => ⟨S64, .i32⟩
  | 83 => ⟨S64, .i32⟩
  | 84 => ⟨S64x1, .i32⟩
  | 85 => ⟨S16x64x32, .f32⟩
  | 86 => ⟨S16x32x64, .f32⟩
  | 87 => ⟨S16x1x8192, .i32⟩
  | 88 => ⟨S16x64x32, .f32⟩
  | _ => ⟨S16x8192x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16x8192x32, .f32⟩

abbrev bufTy : (tb : Table) → Fin (tcTables nBuf tb) → BufTy
  | .hbm, ⟨i, _⟩ => hbmTy i
  | .local _ .vmem, ⟨0, _⟩ => ⟨S1x8192x32, .f32⟩
  | .local _ .vmem, ⟨1, _⟩ => ⟨S1x8192x32, .f32⟩
  | .local _ .vmem, ⟨2, _⟩ => ⟨S1x32x64, .f32⟩
  | .local _ .vmem, ⟨3, _⟩ => ⟨S1x32x64, .f32⟩
  | .local _ .vmem, ⟨4, _⟩ => ⟨S1x1x8192, .i32⟩
  | .local _ .vmem, ⟨5, _⟩ => ⟨S1x1x8192, .i32⟩
  | .local _ .vmem, ⟨6, _⟩ => ⟨S1x64x32, .f32⟩
  | .local _ .vmem, ⟨7, _⟩ => ⟨S1x64x32, .f32⟩
  | _, _ => ⟨S16x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_c_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c_1 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_call0_call0_v0 : Ref sig .tc := ⟨.hbm, 12, rfl⟩
abbrev main_call0_call0_call0_v1 : Ref sig .tc := ⟨.hbm, 13, rfl⟩
abbrev main_call0_call0_call0_v2 : Ref sig .tc := ⟨.hbm, 14, rfl⟩
abbrev main_call0_call0_call0_v3 : Ref sig .tc := ⟨.hbm, 15, rfl⟩
abbrev main_call0_call0_call0_v4 : Ref sig .tc := ⟨.hbm, 16, rfl⟩
abbrev main_call0_call0_call0_c : Ref sig .tc := ⟨.hbm, 17, rfl⟩
abbrev main_call0_call0_call0_v5 : Ref sig .tc := ⟨.hbm, 18, rfl⟩
abbrev main_call0_call0_call0_v6 : Ref sig .tc := ⟨.hbm, 19, rfl⟩
abbrev main_call0_call0_call0_c_0 : Ref sig .tc := ⟨.hbm, 20, rfl⟩
abbrev main_call0_call0_call0_v7 : Ref sig .tc := ⟨.hbm, 21, rfl⟩
abbrev main_call0_call0_call0_v8 : Ref sig .tc := ⟨.hbm, 22, rfl⟩
abbrev main_call0_call0_call0_v9 : Ref sig .tc := ⟨.hbm, 23, rfl⟩
abbrev main_call0_call0_call0_v10 : Ref sig .tc := ⟨.hbm, 24, rfl⟩
abbrev main_call0_call0_call0_call0_v0 : Ref sig .tc := ⟨.hbm, 25, rfl⟩
abbrev main_call0_call0_call0_call0_c : Ref sig .tc := ⟨.hbm, 26, rfl⟩
abbrev main_call0_call0_call0_call0_v1 : Ref sig .tc := ⟨.hbm, 27, rfl⟩
abbrev main_call0_call0_call0_call0_v2 : Ref sig .tc := ⟨.hbm, 28, rfl⟩
abbrev main_call0_call0_call0_call0_v3 : Ref sig .tc := ⟨.hbm, 29, rfl⟩
abbrev main_call0_call0_call0_call0_v4 : Ref sig .tc := ⟨.hbm, 30, rfl⟩
abbrev main_call0_call0_call0_call0_v5 : Ref sig .tc := ⟨.hbm, 31, rfl⟩
abbrev main_call0_call0_call0_call0_v6 : Ref sig .tc := ⟨.hbm, 32, rfl⟩
abbrev main_call0_call0_call0_call0_c_0 : Ref sig .tc := ⟨.hbm, 33, rfl⟩
abbrev main_call0_call0_call0_call0_v7 : Ref sig .tc := ⟨.hbm, 34, rfl⟩
abbrev main_call0_call0_call0_call0_v8 : Ref sig .tc := ⟨.hbm, 35, rfl⟩
abbrev main_call0_call0_call0_call0_c_1 : Ref sig .tc := ⟨.hbm, 36, rfl⟩
abbrev main_call0_call0_call0_call0_v9 : Ref sig .tc := ⟨.hbm, 37, rfl⟩
abbrev main_call0_call0_call0_call0_v10 : Ref sig .tc := ⟨.hbm, 38, rfl⟩
abbrev main_call0_call0_call0_call0_v11 : Ref sig .tc := ⟨.hbm, 39, rfl⟩
abbrev main_call0_call0_call0_call0_v12 : Ref sig .tc := ⟨.hbm, 40, rfl⟩
abbrev main_call0_call0_call0_call0_v13 : Ref sig .tc := ⟨.hbm, 41, rfl⟩
abbrev main_call0_call0_call0_call0_c_2 : Ref sig .tc := ⟨.hbm, 42, rfl⟩
abbrev main_call0_call0_call0_call0_v14 : Ref sig .tc := ⟨.hbm, 43, rfl⟩
abbrev main_call0_call0_call0_call0_v15 : Ref sig .tc := ⟨.hbm, 44, rfl⟩
abbrev main_call0_call0_call0_call0_c_3 : Ref sig .tc := ⟨.hbm, 45, rfl⟩
abbrev main_call0_call0_call0_call0_v16 : Ref sig .tc := ⟨.hbm, 46, rfl⟩
abbrev main_call0_call0_call0_call0_v17 : Ref sig .tc := ⟨.hbm, 47, rfl⟩
abbrev main_call0_call0_call0_call0_v18 : Ref sig .tc := ⟨.hbm, 48, rfl⟩
abbrev main_call0_call0_call0_call0_v19 : Ref sig .tc := ⟨.hbm, 49, rfl⟩
abbrev main_call0_call0_call0_call0_v20 : Ref sig .tc := ⟨.hbm, 50, rfl⟩
abbrev main_call0_call0_call0_call0_c_4 : Ref sig .tc := ⟨.hbm, 51, rfl⟩
abbrev main_call0_call0_call0_call0_v21 : Ref sig .tc := ⟨.hbm, 52, rfl⟩
abbrev main_call0_call0_call0_call0_v22 : Ref sig .tc := ⟨.hbm, 53, rfl⟩
abbrev main_call0_call0_call0_call0_c_5 : Ref sig .tc := ⟨.hbm, 54, rfl⟩
abbrev main_call0_call0_call0_call0_v23 : Ref sig .tc := ⟨.hbm, 55, rfl⟩
abbrev main_call0_call0_call0_call0_v24 : Ref sig .tc := ⟨.hbm, 56, rfl⟩
abbrev main_call0_call0_call0_call0_v25 : Ref sig .tc := ⟨.hbm, 57, rfl⟩
abbrev main_call0_call0_call0_call0_v26 : Ref sig .tc := ⟨.hbm, 58, rfl⟩
abbrev main_call0_call0_call0_call0_v27 : Ref sig .tc := ⟨.hbm, 59, rfl⟩
abbrev main_call0_call0_call0_call0_c_6 : Ref sig .tc := ⟨.hbm, 60, rfl⟩
abbrev main_call0_call0_call0_call0_v28 : Ref sig .tc := ⟨.hbm, 61, rfl⟩
abbrev main_call0_call0_call0_call0_v29 : Ref sig .tc := ⟨.hbm, 62, rfl⟩
abbrev main_call0_call0_call0_call0_c_7 : Ref sig .tc := ⟨.hbm, 63, rfl⟩
abbrev main_call0_call0_call0_call0_v30 : Ref sig .tc := ⟨.hbm, 64, rfl⟩
abbrev main_call0_call0_call0_call0_v31 : Ref sig .tc := ⟨.hbm, 65, rfl⟩
abbrev main_call0_call0_call0_call0_v32 : Ref sig .tc := ⟨.hbm, 66, rfl⟩
abbrev main_call0_call0_call0_call0_v33 : Ref sig .tc := ⟨.hbm, 67, rfl⟩
abbrev main_call0_call0_call0_call0_v34 : Ref sig .tc := ⟨.hbm, 68, rfl⟩
abbrev main_call0_call0_call0_call0_v35 : Ref sig .tc := ⟨.hbm, 69, rfl⟩
abbrev main_call0_call0_call0_call0_v36 : Ref sig .tc := ⟨.hbm, 70, rfl⟩
abbrev main_call0_call0_call0_call0_v37 : Ref sig .tc := ⟨.hbm, 71, rfl⟩
abbrev main_call0_call0_call0_call0_c_8 : Ref sig .tc := ⟨.hbm, 72, rfl⟩
abbrev main_call0_call0_call0_call0_v38 : Ref sig .tc := ⟨.hbm, 73, rfl⟩
abbrev main_call0_call0_call0_call0_v39 : Ref sig .tc := ⟨.hbm, 74, rfl⟩
abbrev main_call0_call0_call0_call0_v40 : Ref sig .tc := ⟨.hbm, 75, rfl⟩
abbrev main_call0_call0_call0_call0_c_9 : Ref sig .tc := ⟨.hbm, 76, rfl⟩
abbrev main_call0_call0_call0_call0_v41 : Ref sig .tc := ⟨.hbm, 77, rfl⟩
abbrev main_call0_call0_call0_call0_v42 : Ref sig .tc := ⟨.hbm, 78, rfl⟩
abbrev main_call0_call0_call0_call0_c_10 : Ref sig .tc := ⟨.hbm, 79, rfl⟩
abbrev main_call0_call0_call0_call0_v43 : Ref sig .tc := ⟨.hbm, 80, rfl⟩
abbrev main_call0_call0_call0_call0_v44 : Ref sig .tc := ⟨.hbm, 81, rfl⟩
abbrev main_call0_call0_call0_call0_v45 : Ref sig .tc := ⟨.hbm, 82, rfl⟩
abbrev main_call0_call0_call0_call0_v46 : Ref sig .tc := ⟨.hbm, 83, rfl⟩
abbrev main_call0_call0_call0_call0_v47 : Ref sig .tc := ⟨.hbm, 84, rfl⟩
abbrev main_call0_call0_call0_call0_c_11 : Ref sig .tc := ⟨.hbm, 85, rfl⟩
abbrev main_call0_call0_call0_call0_v48 : Ref sig .tc := ⟨.hbm, 86, rfl⟩
abbrev main_call0_call0_call0_call0_v49 : Ref sig .tc := ⟨.hbm, 87, rfl⟩
abbrev main_call0_call0_call0_call0_c_12 : Ref sig .tc := ⟨.hbm, 88, rfl⟩
abbrev main_call0_call0_call0_call0_v50 : Ref sig .tc := ⟨.hbm, 89, rfl⟩
abbrev main_call0_call0_call0_call0_v51 : Ref sig .tc := ⟨.hbm, 90, rfl⟩
abbrev main_call0_call0_call0_call0_v52 : Ref sig .tc := ⟨.hbm, 91, rfl⟩
abbrev main_call0_call0_call0_call0_v53 : Ref sig .tc := ⟨.hbm, 92, rfl⟩
abbrev main_call0_call0_call0_call0_v54 : Ref sig .tc := ⟨.hbm, 93, rfl⟩
abbrev main_call0_call0_call0_call0_c_13 : Ref sig .tc := ⟨.hbm, 94, rfl⟩
abbrev main_call0_call0_call0_call0_v55 : Ref sig .tc := ⟨.hbm, 95, rfl⟩
abbrev main_call0_call0_call0_call0_v56 : Ref sig .tc := ⟨.hbm, 96, rfl⟩
abbrev main_call0_call0_call0_call0_c_14 : Ref sig .tc := ⟨.hbm, 97, rfl⟩
abbrev main_call0_call0_call0_call0_v57 : Ref sig .tc := ⟨.hbm, 98, rfl⟩
abbrev main_call0_call0_call0_call0_v58 : Ref sig .tc := ⟨.hbm, 99, rfl⟩
abbrev main_call0_call0_call0_call0_v59 : Ref sig .tc := ⟨.hbm, 100, rfl⟩
abbrev main_call0_call0_call0_call0_v60 : Ref sig .tc := ⟨.hbm, 101, rfl⟩
abbrev main_call0_call0_call0_call0_v61 : Ref sig .tc := ⟨.hbm, 102, rfl⟩
abbrev main_call0_call0_call0_call0_c_15 : Ref sig .tc := ⟨.hbm, 103, rfl⟩
abbrev main_call0_call0_call0_call0_v62 : Ref sig .tc := ⟨.hbm, 104, rfl⟩
abbrev main_call0_call0_call0_call0_v63 : Ref sig .tc := ⟨.hbm, 105, rfl⟩
abbrev main_call0_call0_call0_call0_c_16 : Ref sig .tc := ⟨.hbm, 106, rfl⟩
abbrev main_call0_call0_call0_call0_v64 : Ref sig .tc := ⟨.hbm, 107, rfl⟩
abbrev main_call0_call0_call0_call0_v65 : Ref sig .tc := ⟨.hbm, 108, rfl⟩
abbrev main_call0_call0_call0_call0_v66 : Ref sig .tc := ⟨.hbm, 109, rfl⟩
abbrev main_call0_call0_call0_call0_v67 : Ref sig .tc := ⟨.hbm, 110, rfl⟩
abbrev main_call0_call0_call0_call0_v68 : Ref sig .tc := ⟨.hbm, 111, rfl⟩
abbrev main_call0_call0_call0_call0_v69 : Ref sig .tc := ⟨.hbm, 112, rfl⟩
abbrev main_call0_call0_call0_call0_v70 : Ref sig .tc := ⟨.hbm, 113, rfl⟩
abbrev main_call0_call0_call0_call0_v71 : Ref sig .tc := ⟨.hbm, 114, rfl⟩
abbrev main_call0_call0_call0_call0_c_17 : Ref sig .tc := ⟨.hbm, 115, rfl⟩
abbrev main_call0_call0_call0_call0_v72 : Ref sig .tc := ⟨.hbm, 116, rfl⟩
abbrev main_call0_call0_call0_call0_v73 : Ref sig .tc := ⟨.hbm, 117, rfl⟩
abbrev main_call0_call0_call0_call0_v74 : Ref sig .tc := ⟨.hbm, 118, rfl⟩
abbrev main_call0_call0_call0_call0_c_18 : Ref sig .tc := ⟨.hbm, 119, rfl⟩
abbrev main_call0_call0_call0_call0_v75 : Ref sig .tc := ⟨.hbm, 120, rfl⟩
abbrev main_call0_call0_call0_call0_v76 : Ref sig .tc := ⟨.hbm, 121, rfl⟩
abbrev main_call0_call0_call0_call0_c_19 : Ref sig .tc := ⟨.hbm, 122, rfl⟩
abbrev main_call0_call0_call0_call0_v77 : Ref sig .tc := ⟨.hbm, 123, rfl⟩
abbrev main_call0_call0_call0_call0_v78 : Ref sig .tc := ⟨.hbm, 124, rfl⟩
abbrev main_call0_call0_call0_call0_v79 : Ref sig .tc := ⟨.hbm, 125, rfl⟩
abbrev main_call0_call0_call0_call0_v80 : Ref sig .tc := ⟨.hbm, 126, rfl⟩
abbrev main_call0_call0_call0_call0_v81 : Ref sig .tc := ⟨.hbm, 127, rfl⟩
abbrev main_call0_call0_call0_call0_c_20 : Ref sig .tc := ⟨.hbm, 128, rfl⟩
abbrev main_call0_call0_call0_call0_v82 : Ref sig .tc := ⟨.hbm, 129, rfl⟩
abbrev main_call0_call0_call0_call0_v83 : Ref sig .tc := ⟨.hbm, 130, rfl⟩
abbrev main_call0_call0_call0_call0_c_21 : Ref sig .tc := ⟨.hbm, 131, rfl⟩
abbrev main_call0_call0_call0_call0_v84 : Ref sig .tc := ⟨.hbm, 132, rfl⟩
abbrev main_call0_call0_call0_call0_v85 : Ref sig .tc := ⟨.hbm, 133, rfl⟩
abbrev main_call0_call0_call0_call0_v86 : Ref sig .tc := ⟨.hbm, 134, rfl⟩
abbrev main_call0_call0_call0_call0_v87 : Ref sig .tc := ⟨.hbm, 135, rfl⟩
abbrev main_call0_call0_call0_call0_v88 : Ref sig .tc := ⟨.hbm, 136, rfl⟩
abbrev main_call0_call0_call0_call0_c_22 : Ref sig .tc := ⟨.hbm, 137, rfl⟩
abbrev main_call0_call0_call0_call0_v89 : Ref sig .tc := ⟨.hbm, 138, rfl⟩
abbrev main_call0_call0_call0_call0_v90 : Ref sig .tc := ⟨.hbm, 139, rfl⟩
abbrev main_call0_call0_call0_call0_c_23 : Ref sig .tc := ⟨.hbm, 140, rfl⟩
abbrev main_call0_call0_call0_call0_v91 : Ref sig .tc := ⟨.hbm, 141, rfl⟩
abbrev main_call0_call0_call0_call0_v92 : Ref sig .tc := ⟨.hbm, 142, rfl⟩
abbrev main_call0_call0_call0_call0_v93 : Ref sig .tc := ⟨.hbm, 143, rfl⟩
abbrev main_call0_call0_call0_call0_v94 : Ref sig .tc := ⟨.hbm, 144, rfl⟩
abbrev main_call0_call0_call0_call0_v95 : Ref sig .tc := ⟨.hbm, 145, rfl⟩
abbrev main_call0_call0_call0_call0_c_24 : Ref sig .tc := ⟨.hbm, 146, rfl⟩
abbrev main_call0_call0_call0_call0_v96 : Ref sig .tc := ⟨.hbm, 147, rfl⟩
abbrev main_call0_call0_call0_call0_v97 : Ref sig .tc := ⟨.hbm, 148, rfl⟩
abbrev main_call0_call0_call0_call0_c_25 : Ref sig .tc := ⟨.hbm, 149, rfl⟩
abbrev main_call0_call0_call0_call0_v98 : Ref sig .tc := ⟨.hbm, 150, rfl⟩
abbrev main_call0_call0_call0_call0_v99 : Ref sig .tc := ⟨.hbm, 151, rfl⟩
abbrev main_call0_call0_call0_call0_v100 : Ref sig .tc := ⟨.hbm, 152, rfl⟩
abbrev main_call0_call0_call0_call0_v101 : Ref sig .tc := ⟨.hbm, 153, rfl⟩
abbrev main_call0_call0_call0_call0_v102 : Ref sig .tc := ⟨.hbm, 154, rfl⟩
abbrev main_call0_call0_call0_call0_v103 : Ref sig .tc := ⟨.hbm, 155, rfl⟩
abbrev main_call0_call0_call0_call0_v104 : Ref sig .tc := ⟨.hbm, 156, rfl⟩
abbrev main_call0_call0_call0_call0_v105 : Ref sig .tc := ⟨.hbm, 157, rfl⟩
abbrev main_call0_call0_call0_call0_c_26 : Ref sig .tc := ⟨.hbm, 158, rfl⟩
abbrev main_call0_call0_call0_call0_v106 : Ref sig .tc := ⟨.hbm, 159, rfl⟩
abbrev main_call0_call0_call0_call0_v107 : Ref sig .tc := ⟨.hbm, 160, rfl⟩
abbrev main_call0_call0_call0_call0_v108 : Ref sig .tc := ⟨.hbm, 161, rfl⟩
abbrev main_call0_call0_call0_call0_c_27 : Ref sig .tc := ⟨.hbm, 162, rfl⟩
abbrev main_call0_call0_call0_call0_v109 : Ref sig .tc := ⟨.hbm, 163, rfl⟩
abbrev main_call0_call0_call0_call0_v110 : Ref sig .tc := ⟨.hbm, 164, rfl⟩
abbrev main_call0_call0_call0_call0_c_28 : Ref sig .tc := ⟨.hbm, 165, rfl⟩
abbrev main_call0_call0_call0_call0_v111 : Ref sig .tc := ⟨.hbm, 166, rfl⟩
abbrev main_call0_call0_call0_call0_v112 : Ref sig .tc := ⟨.hbm, 167, rfl⟩
abbrev main_call0_call0_call0_call0_v113 : Ref sig .tc := ⟨.hbm, 168, rfl⟩
abbrev main_call0_call0_call0_call0_v114 : Ref sig .tc := ⟨.hbm, 169, rfl⟩
abbrev main_call0_call0_call0_call0_v115 : Ref sig .tc := ⟨.hbm, 170, rfl⟩
abbrev main_call0_call0_call0_call0_c_29 : Ref sig .tc := ⟨.hbm, 171, rfl⟩
abbrev main_call0_call0_call0_call0_v116 : Ref sig .tc := ⟨.hbm, 172, rfl⟩
abbrev main_call0_call0_call0_call0_v117 : Ref sig .tc := ⟨.hbm, 173, rfl⟩
abbrev main_call0_call0_call0_call0_c_30 : Ref sig .tc := ⟨.hbm, 174, rfl⟩
abbrev main_call0_call0_call0_call0_v118 : Ref sig .tc := ⟨.hbm, 175, rfl⟩
abbrev main_call0_call0_call0_call0_v119 : Ref sig .tc := ⟨.hbm, 176, rfl⟩
abbrev main_call0_call0_call0_call0_v120 : Ref sig .tc := ⟨.hbm, 177, rfl⟩
abbrev main_call0_call0_call0_call0_v121 : Ref sig .tc := ⟨.hbm, 178, rfl⟩
abbrev main_call0_call0_call0_call0_v122 : Ref sig .tc := ⟨.hbm, 179, rfl⟩
abbrev main_call0_call0_call0_call0_c_31 : Ref sig .tc := ⟨.hbm, 180, rfl⟩
abbrev main_call0_call0_call0_call0_v123 : Ref sig .tc := ⟨.hbm, 181, rfl⟩
abbrev main_call0_call0_call0_call0_v124 : Ref sig .tc := ⟨.hbm, 182, rfl⟩
abbrev main_call0_call0_call0_call0_c_32 : Ref sig .tc := ⟨.hbm, 183, rfl⟩
abbrev main_call0_call0_call0_call0_v125 : Ref sig .tc := ⟨.hbm, 184, rfl⟩
abbrev main_call0_call0_call0_call0_v126 : Ref sig .tc := ⟨.hbm, 185, rfl⟩
abbrev main_call0_call0_call0_call0_v127 : Ref sig .tc := ⟨.hbm, 186, rfl⟩
abbrev main_call0_call0_call0_call0_v128 : Ref sig .tc := ⟨.hbm, 187, rfl⟩
abbrev main_call0_call0_call0_call0_v129 : Ref sig .tc := ⟨.hbm, 188, rfl⟩
abbrev main_call0_call0_call0_call0_c_33 : Ref sig .tc := ⟨.hbm, 189, rfl⟩
abbrev main_call0_call0_call0_call0_v130 : Ref sig .tc := ⟨.hbm, 190, rfl⟩
abbrev main_call0_call0_call0_call0_v131 : Ref sig .tc := ⟨.hbm, 191, rfl⟩
abbrev main_call0_call0_call0_call0_c_34 : Ref sig .tc := ⟨.hbm, 192, rfl⟩
abbrev main_call0_call0_call0_call0_v132 : Ref sig .tc := ⟨.hbm, 193, rfl⟩
abbrev main_call0_call0_call0_call0_v133 : Ref sig .tc := ⟨.hbm, 194, rfl⟩
abbrev main_call0_call0_call0_call0_v134 : Ref sig .tc := ⟨.hbm, 195, rfl⟩
abbrev main_call0_call0_call0_call0_v135 : Ref sig .tc := ⟨.hbm, 196, rfl⟩
abbrev main_call0_call0_call0_call0_v136 : Ref sig .tc := ⟨.hbm, 197, rfl⟩
abbrev main_call0_call0_call0_call0_v137 : Ref sig .tc := ⟨.hbm, 198, rfl⟩
abbrev main_call0_call0_call0_call0_v138 : Ref sig .tc := ⟨.hbm, 199, rfl⟩
abbrev main_call0_call0_call0_call0_v139 : Ref sig .tc := ⟨.hbm, 200, rfl⟩
abbrev main_call0_call0_call0_call0_c_35 : Ref sig .tc := ⟨.hbm, 201, rfl⟩
abbrev main_call0_call0_call0_call0_v140 : Ref sig .tc := ⟨.hbm, 202, rfl⟩
abbrev main_call0_call0_call0_call0_v141 : Ref sig .tc := ⟨.hbm, 203, rfl⟩
abbrev main_call0_call0_call0_call0_v142 : Ref sig .tc := ⟨.hbm, 204, rfl⟩
abbrev main_call0_call0_call0_call0_c_36 : Ref sig .tc := ⟨.hbm, 205, rfl⟩
abbrev main_call0_call0_call0_call0_v143 : Ref sig .tc := ⟨.hbm, 206, rfl⟩
abbrev main_call0_call0_call0_call0_v144 : Ref sig .tc := ⟨.hbm, 207, rfl⟩
abbrev main_call0_call0_call0_call0_c_37 : Ref sig .tc := ⟨.hbm, 208, rfl⟩
abbrev main_call0_call0_call0_call0_v145 : Ref sig .tc := ⟨.hbm, 209, rfl⟩
abbrev main_call0_call0_call0_call0_v146 : Ref sig .tc := ⟨.hbm, 210, rfl⟩
abbrev main_call0_call0_call0_call0_v147 : Ref sig .tc := ⟨.hbm, 211, rfl⟩
abbrev main_call0_call0_call0_call0_v148 : Ref sig .tc := ⟨.hbm, 212, rfl⟩
abbrev main_call0_call0_call0_call0_v149 : Ref sig .tc := ⟨.hbm, 213, rfl⟩
abbrev main_call0_call0_call0_call0_c_38 : Ref sig .tc := ⟨.hbm, 214, rfl⟩
abbrev main_call0_call0_call0_call0_v150 : Ref sig .tc := ⟨.hbm, 215, rfl⟩
abbrev main_call0_call0_call0_call0_v151 : Ref sig .tc := ⟨.hbm, 216, rfl⟩
abbrev main_call0_call0_call0_call0_c_39 : Ref sig .tc := ⟨.hbm, 217, rfl⟩
abbrev main_call0_call0_call0_call0_v152 : Ref sig .tc := ⟨.hbm, 218, rfl⟩
abbrev main_call0_call0_call0_call0_v153 : Ref sig .tc := ⟨.hbm, 219, rfl⟩
abbrev main_call0_call0_call0_call0_v154 : Ref sig .tc := ⟨.hbm, 220, rfl⟩
abbrev main_call0_call0_call0_call0_v155 : Ref sig .tc := ⟨.hbm, 221, rfl⟩
abbrev main_call0_call0_call0_call0_v156 : Ref sig .tc := ⟨.hbm, 222, rfl⟩
abbrev main_call0_call0_call0_call0_c_40 : Ref sig .tc := ⟨.hbm, 223, rfl⟩
abbrev main_call0_call0_call0_call0_v157 : Ref sig .tc := ⟨.hbm, 224, rfl⟩
abbrev main_call0_call0_call0_call0_v158 : Ref sig .tc := ⟨.hbm, 225, rfl⟩
abbrev main_call0_call0_call0_call0_c_41 : Ref sig .tc := ⟨.hbm, 226, rfl⟩
abbrev main_call0_call0_call0_call0_v159 : Ref sig .tc := ⟨.hbm, 227, rfl⟩
abbrev main_call0_call0_call0_call0_v160 : Ref sig .tc := ⟨.hbm, 228, rfl⟩
abbrev main_call0_call0_call0_call0_v161 : Ref sig .tc := ⟨.hbm, 229, rfl⟩
abbrev main_call0_call0_call0_call0_v162 : Ref sig .tc := ⟨.hbm, 230, rfl⟩
abbrev main_call0_call0_call0_call0_v163 : Ref sig .tc := ⟨.hbm, 231, rfl⟩
abbrev main_call0_call0_call0_call0_c_42 : Ref sig .tc := ⟨.hbm, 232, rfl⟩
abbrev main_call0_call0_call0_call0_v164 : Ref sig .tc := ⟨.hbm, 233, rfl⟩
abbrev main_call0_call0_call0_call0_v165 : Ref sig .tc := ⟨.hbm, 234, rfl⟩
abbrev main_call0_call0_call0_call0_c_43 : Ref sig .tc := ⟨.hbm, 235, rfl⟩
abbrev main_call0_call0_call0_call0_v166 : Ref sig .tc := ⟨.hbm, 236, rfl⟩
abbrev main_call0_call0_call0_call0_v167 : Ref sig .tc := ⟨.hbm, 237, rfl⟩
abbrev main_call0_call0_call0_call0_v168 : Ref sig .tc := ⟨.hbm, 238, rfl⟩
abbrev main_call0_call0_call0_call0_v169 : Ref sig .tc := ⟨.hbm, 239, rfl⟩
abbrev main_call0_call0_call0_call0_v170 : Ref sig .tc := ⟨.hbm, 240, rfl⟩
abbrev main_call0_call0_call0_v11_0 : Ref sig .tc := ⟨.hbm, 241, rfl⟩
abbrev main_call0_call0_call0_call0_v172 : Ref sig .tc := ⟨.hbm, 242, rfl⟩
abbrev main_call0_call0_call0_call0_v173 : Ref sig .tc := ⟨.hbm, 243, rfl⟩
abbrev main_call0_call0_call0_call0_c_44 : Ref sig .tc := ⟨.hbm, 244, rfl⟩
abbrev main_call0_call0_call0_call0_v174 : Ref sig .tc := ⟨.hbm, 245, rfl⟩
abbrev main_call0_call0_call0_v11_1 : Ref sig .tc := ⟨.hbm, 246, rfl⟩
abbrev main_call0_call0_call0_v12 : Ref sig .tc := ⟨.hbm, 247, rfl⟩
abbrev main_call0_call0_call0_v13 : Ref sig .tc := ⟨.hbm, 248, rfl⟩
abbrev main_call0_call0_v0 : Ref sig .tc := ⟨.hbm, 249, rfl⟩
abbrev main_call0_call0_v1 : Ref sig .tc := ⟨.hbm, 250, rfl⟩
abbrev main_call0_call0_v2 : Ref sig .tc := ⟨.hbm, 251, rfl⟩
abbrev main_call0_call0_v3 : Ref sig .tc := ⟨.hbm, 252, rfl⟩
abbrev main_call0_call0_v4 : Ref sig .tc := ⟨.hbm, 253, rfl⟩
abbrev main_call0_call0_v5 : Ref sig .tc := ⟨.hbm, 254, rfl⟩
abbrev main_call0_call0_v6 : Ref sig .tc := ⟨.hbm, 255, rfl⟩
abbrev main_call0_call0_v7 : Ref sig .tc := ⟨.hbm, 256, rfl⟩
abbrev main_call0_call0_v8 : Ref sig .tc := ⟨.hbm, 257, rfl⟩
abbrev main_call0_call0_v9 : Ref sig .tc := ⟨.hbm, 258, rfl⟩
abbrev main_call0_call0_c : Ref sig .tc := ⟨.hbm, 259, rfl⟩
abbrev main_call0_call0_v10 : Ref sig .tc := ⟨.hbm, 260, rfl⟩
abbrev main_call0_call0_v11 : Ref sig .tc := ⟨.hbm, 261, rfl⟩
abbrev main_call0_call0_c_0 : Ref sig .tc := ⟨.hbm, 262, rfl⟩
abbrev main_call0_call0_v12 : Ref sig .tc := ⟨.hbm, 263, rfl⟩
abbrev main_call0_call0_v13 : Ref sig .tc := ⟨.hbm, 264, rfl⟩
abbrev main_call0_call0_v14 : Ref sig .tc := ⟨.hbm, 265, rfl⟩
abbrev main_call0_call0_v15 : Ref sig .tc := ⟨.hbm, 266, rfl⟩
abbrev main_call0_call0_call1_v0 : Ref sig .tc := ⟨.hbm, 267, rfl⟩
abbrev main_call0_call0_call1_c : Ref sig .tc := ⟨.hbm, 268, rfl⟩
abbrev main_call0_call0_call1_v1 : Ref sig .tc := ⟨.hbm, 269, rfl⟩
abbrev main_call0_call0_call1_v2 : Ref sig .tc := ⟨.hbm, 270, rfl⟩
abbrev main_call0_call0_call1_v3 : Ref sig .tc := ⟨.hbm, 271, rfl⟩
abbrev main_call0_call0_call1_v4 : Ref sig .tc := ⟨.hbm, 272, rfl⟩
abbrev main_call0_call0_call1_v5 : Ref sig .tc := ⟨.hbm, 273, rfl⟩
abbrev main_call0_call0_call1_v6 : Ref sig .tc := ⟨.hbm, 274, rfl⟩
abbrev main_call0_call0_call1_c_0 : Ref sig .tc := ⟨.hbm, 275, rfl⟩
abbrev main_call0_call0_call1_v7 : Ref sig .tc := ⟨.hbm, 276, rfl⟩
abbrev main_call0_call0_call1_v8 : Ref sig .tc := ⟨.hbm, 277, rfl⟩
abbrev main_call0_call0_call1_c_1 : Ref sig .tc := ⟨.hbm, 278, rfl⟩
abbrev main_call0_call0_call1_v9 : Ref sig .tc := ⟨.hbm, 279, rfl⟩
abbrev main_call0_call0_call1_v10 : Ref sig .tc := ⟨.hbm, 280, rfl⟩
abbrev main_call0_call0_call1_v11 : Ref sig .tc := ⟨.hbm, 281, rfl⟩
abbrev main_call0_call0_call1_v12 : Ref sig .tc := ⟨.hbm, 282, rfl⟩
abbrev main_call0_call0_call1_v13 : Ref sig .tc := ⟨.hbm, 283, rfl⟩
abbrev main_call0_call0_call1_c_2 : Ref sig .tc := ⟨.hbm, 284, rfl⟩
abbrev main_call0_call0_call1_v14 : Ref sig .tc := ⟨.hbm, 285, rfl⟩
abbrev main_call0_call0_call1_v15 : Ref sig .tc := ⟨.hbm, 286, rfl⟩
abbrev main_call0_call0_call1_c_3 : Ref sig .tc := ⟨.hbm, 287, rfl⟩
abbrev main_call0_call0_call1_v16 : Ref sig .tc := ⟨.hbm, 288, rfl⟩
abbrev main_call0_call0_call1_v17 : Ref sig .tc := ⟨.hbm, 289, rfl⟩
abbrev main_call0_call0_call1_v18 : Ref sig .tc := ⟨.hbm, 290, rfl⟩
abbrev main_call0_call0_call1_v19 : Ref sig .tc := ⟨.hbm, 291, rfl⟩
abbrev main_call0_call0_call1_v20 : Ref sig .tc := ⟨.hbm, 292, rfl⟩
abbrev main_call0_call0_call1_c_4 : Ref sig .tc := ⟨.hbm, 293, rfl⟩
abbrev main_call0_call0_call1_v21 : Ref sig .tc := ⟨.hbm, 294, rfl⟩
abbrev main_call0_call0_call1_v22 : Ref sig .tc := ⟨.hbm, 295, rfl⟩
abbrev main_call0_call0_call1_c_5 : Ref sig .tc := ⟨.hbm, 296, rfl⟩
abbrev main_call0_call0_call1_v23 : Ref sig .tc := ⟨.hbm, 297, rfl⟩
abbrev main_call0_call0_call1_v24 : Ref sig .tc := ⟨.hbm, 298, rfl⟩
abbrev main_call0_call0_call1_v25 : Ref sig .tc := ⟨.hbm, 299, rfl⟩
abbrev main_call0_call0_call1_v26 : Ref sig .tc := ⟨.hbm, 300, rfl⟩
abbrev main_call0_call0_call1_v27 : Ref sig .tc := ⟨.hbm, 301, rfl⟩
abbrev main_call0_call0_call1_c_6 : Ref sig .tc := ⟨.hbm, 302, rfl⟩
abbrev main_call0_call0_call1_v28 : Ref sig .tc := ⟨.hbm, 303, rfl⟩
abbrev main_call0_call0_call1_v29 : Ref sig .tc := ⟨.hbm, 304, rfl⟩
abbrev main_call0_call0_call1_c_7 : Ref sig .tc := ⟨.hbm, 305, rfl⟩
abbrev main_call0_call0_call1_v30 : Ref sig .tc := ⟨.hbm, 306, rfl⟩
abbrev main_call0_call0_call1_v31 : Ref sig .tc := ⟨.hbm, 307, rfl⟩
abbrev main_call0_call0_call1_v32 : Ref sig .tc := ⟨.hbm, 308, rfl⟩
abbrev main_call0_call0_call1_v33 : Ref sig .tc := ⟨.hbm, 309, rfl⟩
abbrev main_call0_call0_call1_v34 : Ref sig .tc := ⟨.hbm, 310, rfl⟩
abbrev main_call0_call0_call1_v35 : Ref sig .tc := ⟨.hbm, 311, rfl⟩
abbrev main_call0_call0_call1_v36 : Ref sig .tc := ⟨.hbm, 312, rfl⟩
abbrev main_call0_call0_call1_v37 : Ref sig .tc := ⟨.hbm, 313, rfl⟩
abbrev main_call0_call0_call1_c_8 : Ref sig .tc := ⟨.hbm, 314, rfl⟩
abbrev main_call0_call0_call1_v38 : Ref sig .tc := ⟨.hbm, 315, rfl⟩
abbrev main_call0_call0_call1_v39 : Ref sig .tc := ⟨.hbm, 316, rfl⟩
abbrev main_call0_call0_call1_v40 : Ref sig .tc := ⟨.hbm, 317, rfl⟩
abbrev main_call0_call0_call1_c_9 : Ref sig .tc := ⟨.hbm, 318, rfl⟩
abbrev main_call0_call0_call1_v41 : Ref sig .tc := ⟨.hbm, 319, rfl⟩
abbrev main_call0_call0_call1_v42 : Ref sig .tc := ⟨.hbm, 320, rfl⟩
abbrev main_call0_call0_call1_c_10 : Ref sig .tc := ⟨.hbm, 321, rfl⟩
abbrev main_call0_call0_call1_v43 : Ref sig .tc := ⟨.hbm, 322, rfl⟩
abbrev main_call0_call0_call1_v44 : Ref sig .tc := ⟨.hbm, 323, rfl⟩
abbrev main_call0_call0_call1_v45 : Ref sig .tc := ⟨.hbm, 324, rfl⟩
abbrev main_call0_call0_call1_v46 : Ref sig .tc := ⟨.hbm, 325, rfl⟩
abbrev main_call0_call0_call1_v47 : Ref sig .tc := ⟨.hbm, 326, rfl⟩
abbrev main_call0_call0_call1_c_11 : Ref sig .tc := ⟨.hbm, 327, rfl⟩
abbrev main_call0_call0_call1_v48 : Ref sig .tc := ⟨.hbm, 328, rfl⟩
abbrev main_call0_call0_call1_v49 : Ref sig .tc := ⟨.hbm, 329, rfl⟩
abbrev main_call0_call0_call1_c_12 : Ref sig .tc := ⟨.hbm, 330, rfl⟩
abbrev main_call0_call0_call1_v50 : Ref sig .tc := ⟨.hbm, 331, rfl⟩
abbrev main_call0_call0_call1_v51 : Ref sig .tc := ⟨.hbm, 332, rfl⟩
abbrev main_call0_call0_call1_v52 : Ref sig .tc := ⟨.hbm, 333, rfl⟩
abbrev main_call0_call0_call1_v53 : Ref sig .tc := ⟨.hbm, 334, rfl⟩
abbrev main_call0_call0_call1_v54 : Ref sig .tc := ⟨.hbm, 335, rfl⟩
abbrev main_call0_call0_call1_c_13 : Ref sig .tc := ⟨.hbm, 336, rfl⟩
abbrev main_call0_call0_call1_v55 : Ref sig .tc := ⟨.hbm, 337, rfl⟩
abbrev main_call0_call0_call1_v56 : Ref sig .tc := ⟨.hbm, 338, rfl⟩
abbrev main_call0_call0_call1_c_14 : Ref sig .tc := ⟨.hbm, 339, rfl⟩
abbrev main_call0_call0_call1_v57 : Ref sig .tc := ⟨.hbm, 340, rfl⟩
abbrev main_call0_call0_call1_v58 : Ref sig .tc := ⟨.hbm, 341, rfl⟩
abbrev main_call0_call0_call1_v59 : Ref sig .tc := ⟨.hbm, 342, rfl⟩
abbrev main_call0_call0_call1_v60 : Ref sig .tc := ⟨.hbm, 343, rfl⟩
abbrev main_call0_call0_call1_v61 : Ref sig .tc := ⟨.hbm, 344, rfl⟩
abbrev main_call0_call0_call1_c_15 : Ref sig .tc := ⟨.hbm, 345, rfl⟩
abbrev main_call0_call0_call1_v62 : Ref sig .tc := ⟨.hbm, 346, rfl⟩
abbrev main_call0_call0_call1_v63 : Ref sig .tc := ⟨.hbm, 347, rfl⟩
abbrev main_call0_call0_call1_c_16 : Ref sig .tc := ⟨.hbm, 348, rfl⟩
abbrev main_call0_call0_call1_v64 : Ref sig .tc := ⟨.hbm, 349, rfl⟩
abbrev main_call0_call0_call1_v65 : Ref sig .tc := ⟨.hbm, 350, rfl⟩
abbrev main_call0_call0_call1_v66 : Ref sig .tc := ⟨.hbm, 351, rfl⟩
abbrev main_call0_call0_call1_v67 : Ref sig .tc := ⟨.hbm, 352, rfl⟩
abbrev main_call0_call0_call1_v68 : Ref sig .tc := ⟨.hbm, 353, rfl⟩
abbrev main_call0_call0_call1_v69 : Ref sig .tc := ⟨.hbm, 354, rfl⟩
abbrev main_call0_call0_call1_v70 : Ref sig .tc := ⟨.hbm, 355, rfl⟩
abbrev main_call0_call0_call1_v71 : Ref sig .tc := ⟨.hbm, 356, rfl⟩
abbrev main_call0_call0_call1_c_17 : Ref sig .tc := ⟨.hbm, 357, rfl⟩
abbrev main_call0_call0_call1_v72 : Ref sig .tc := ⟨.hbm, 358, rfl⟩
abbrev main_call0_call0_call1_v73 : Ref sig .tc := ⟨.hbm, 359, rfl⟩
abbrev main_call0_call0_call1_v74 : Ref sig .tc := ⟨.hbm, 360, rfl⟩
abbrev main_call0_call0_call1_c_18 : Ref sig .tc := ⟨.hbm, 361, rfl⟩
abbrev main_call0_call0_call1_v75 : Ref sig .tc := ⟨.hbm, 362, rfl⟩
abbrev main_call0_call0_call1_v76 : Ref sig .tc := ⟨.hbm, 363, rfl⟩
abbrev main_call0_call0_call1_c_19 : Ref sig .tc := ⟨.hbm, 364, rfl⟩
abbrev main_call0_call0_call1_v77 : Ref sig .tc := ⟨.hbm, 365, rfl⟩
abbrev main_call0_call0_call1_v78 : Ref sig .tc := ⟨.hbm, 366, rfl⟩
abbrev main_call0_call0_call1_v79 : Ref sig .tc := ⟨.hbm, 367, rfl⟩
abbrev main_call0_call0_call1_v80 : Ref sig .tc := ⟨.hbm, 368, rfl⟩
abbrev main_call0_call0_call1_v81 : Ref sig .tc := ⟨.hbm, 369, rfl⟩
abbrev main_call0_call0_call1_c_20 : Ref sig .tc := ⟨.hbm, 370, rfl⟩
abbrev main_call0_call0_call1_v82 : Ref sig .tc := ⟨.hbm, 371, rfl⟩
abbrev main_call0_call0_call1_v83 : Ref sig .tc := ⟨.hbm, 372, rfl⟩
abbrev main_call0_call0_call1_c_21 : Ref sig .tc := ⟨.hbm, 373, rfl⟩
abbrev main_call0_call0_call1_v84 : Ref sig .tc := ⟨.hbm, 374, rfl⟩
abbrev main_call0_call0_call1_v85 : Ref sig .tc := ⟨.hbm, 375, rfl⟩
abbrev main_call0_call0_call1_v86 : Ref sig .tc := ⟨.hbm, 376, rfl⟩
abbrev main_call0_call0_call1_v87 : Ref sig .tc := ⟨.hbm, 377, rfl⟩
abbrev main_call0_call0_call1_v88 : Ref sig .tc := ⟨.hbm, 378, rfl⟩
abbrev main_call0_call0_call1_c_22 : Ref sig .tc := ⟨.hbm, 379, rfl⟩
abbrev main_call0_call0_call1_v89 : Ref sig .tc := ⟨.hbm, 380, rfl⟩
abbrev main_call0_call0_call1_v90 : Ref sig .tc := ⟨.hbm, 381, rfl⟩
abbrev main_call0_call0_call1_c_23 : Ref sig .tc := ⟨.hbm, 382, rfl⟩
abbrev main_call0_call0_call1_v91 : Ref sig .tc := ⟨.hbm, 383, rfl⟩
abbrev main_call0_call0_call1_v92 : Ref sig .tc := ⟨.hbm, 384, rfl⟩
abbrev main_call0_call0_call1_v93 : Ref sig .tc := ⟨.hbm, 385, rfl⟩
abbrev main_call0_call0_call1_v94 : Ref sig .tc := ⟨.hbm, 386, rfl⟩
abbrev main_call0_call0_call1_v95 : Ref sig .tc := ⟨.hbm, 387, rfl⟩
abbrev main_call0_call0_call1_c_24 : Ref sig .tc := ⟨.hbm, 388, rfl⟩
abbrev main_call0_call0_call1_v96 : Ref sig .tc := ⟨.hbm, 389, rfl⟩
abbrev main_call0_call0_call1_v97 : Ref sig .tc := ⟨.hbm, 390, rfl⟩
abbrev main_call0_call0_call1_c_25 : Ref sig .tc := ⟨.hbm, 391, rfl⟩
abbrev main_call0_call0_call1_v98 : Ref sig .tc := ⟨.hbm, 392, rfl⟩
abbrev main_call0_call0_call1_v99 : Ref sig .tc := ⟨.hbm, 393, rfl⟩
abbrev main_call0_call0_call1_v100 : Ref sig .tc := ⟨.hbm, 394, rfl⟩
abbrev main_call0_call0_call1_v101 : Ref sig .tc := ⟨.hbm, 395, rfl⟩
abbrev main_call0_call0_call1_v102 : Ref sig .tc := ⟨.hbm, 396, rfl⟩
abbrev main_call0_call0_call1_v103 : Ref sig .tc := ⟨.hbm, 397, rfl⟩
abbrev main_call0_call0_call1_v104 : Ref sig .tc := ⟨.hbm, 398, rfl⟩
abbrev main_call0_call0_call1_v105 : Ref sig .tc := ⟨.hbm, 399, rfl⟩
abbrev main_call0_call0_call1_c_26 : Ref sig .tc := ⟨.hbm, 400, rfl⟩
abbrev main_call0_call0_call1_v106 : Ref sig .tc := ⟨.hbm, 401, rfl⟩
abbrev main_call0_call0_call1_v107 : Ref sig .tc := ⟨.hbm, 402, rfl⟩
abbrev main_call0_call0_call1_v108 : Ref sig .tc := ⟨.hbm, 403, rfl⟩
abbrev main_call0_call0_call1_c_27 : Ref sig .tc := ⟨.hbm, 404, rfl⟩
abbrev main_call0_call0_call1_v109 : Ref sig .tc := ⟨.hbm, 405, rfl⟩
abbrev main_call0_call0_call1_v110 : Ref sig .tc := ⟨.hbm, 406, rfl⟩
abbrev main_call0_call0_call1_c_28 : Ref sig .tc := ⟨.hbm, 407, rfl⟩
abbrev main_call0_call0_call1_v111 : Ref sig .tc := ⟨.hbm, 408, rfl⟩
abbrev main_call0_call0_call1_v112 : Ref sig .tc := ⟨.hbm, 409, rfl⟩
abbrev main_call0_call0_call1_v113 : Ref sig .tc := ⟨.hbm, 410, rfl⟩
abbrev main_call0_call0_call1_v114 : Ref sig .tc := ⟨.hbm, 411, rfl⟩
abbrev main_call0_call0_call1_v115 : Ref sig .tc := ⟨.hbm, 412, rfl⟩
abbrev main_call0_call0_call1_c_29 : Ref sig .tc := ⟨.hbm, 413, rfl⟩
abbrev main_call0_call0_call1_v116 : Ref sig .tc := ⟨.hbm, 414, rfl⟩
abbrev main_call0_call0_call1_v117 : Ref sig .tc := ⟨.hbm, 415, rfl⟩
abbrev main_call0_call0_call1_c_30 : Ref sig .tc := ⟨.hbm, 416, rfl⟩
abbrev main_call0_call0_call1_v118 : Ref sig .tc := ⟨.hbm, 417, rfl⟩
abbrev main_call0_call0_call1_v119 : Ref sig .tc := ⟨.hbm, 418, rfl⟩
abbrev main_call0_call0_call1_v120 : Ref sig .tc := ⟨.hbm, 419, rfl⟩
abbrev main_call0_call0_call1_v121 : Ref sig .tc := ⟨.hbm, 420, rfl⟩
abbrev main_call0_call0_call1_v122 : Ref sig .tc := ⟨.hbm, 421, rfl⟩
abbrev main_call0_call0_call1_c_31 : Ref sig .tc := ⟨.hbm, 422, rfl⟩
abbrev main_call0_call0_call1_v123 : Ref sig .tc := ⟨.hbm, 423, rfl⟩
abbrev main_call0_call0_call1_v124 : Ref sig .tc := ⟨.hbm, 424, rfl⟩
abbrev main_call0_call0_call1_c_32 : Ref sig .tc := ⟨.hbm, 425, rfl⟩
abbrev main_call0_call0_call1_v125 : Ref sig .tc := ⟨.hbm, 426, rfl⟩
abbrev main_call0_call0_call1_v126 : Ref sig .tc := ⟨.hbm, 427, rfl⟩
abbrev main_call0_call0_call1_v127 : Ref sig .tc := ⟨.hbm, 428, rfl⟩
abbrev main_call0_call0_call1_v128 : Ref sig .tc := ⟨.hbm, 429, rfl⟩
abbrev main_call0_call0_call1_v129 : Ref sig .tc := ⟨.hbm, 430, rfl⟩
abbrev main_call0_call0_call1_c_33 : Ref sig .tc := ⟨.hbm, 431, rfl⟩
abbrev main_call0_call0_call1_v130 : Ref sig .tc := ⟨.hbm, 432, rfl⟩
abbrev main_call0_call0_call1_v131 : Ref sig .tc := ⟨.hbm, 433, rfl⟩
abbrev main_call0_call0_call1_c_34 : Ref sig .tc := ⟨.hbm, 434, rfl⟩
abbrev main_call0_call0_call1_v132 : Ref sig .tc := ⟨.hbm, 435, rfl⟩
abbrev main_call0_call0_call1_v133 : Ref sig .tc := ⟨.hbm, 436, rfl⟩
abbrev main_call0_call0_call1_v134 : Ref sig .tc := ⟨.hbm, 437, rfl⟩
abbrev main_call0_call0_call1_v135 : Ref sig .tc := ⟨.hbm, 438, rfl⟩
abbrev main_call0_call0_call1_v136 : Ref sig .tc := ⟨.hbm, 439, rfl⟩
abbrev main_call0_call0_call1_v137 : Ref sig .tc := ⟨.hbm, 440, rfl⟩
abbrev main_call0_call0_call1_v138 : Ref sig .tc := ⟨.hbm, 441, rfl⟩
abbrev main_call0_call0_call1_v139 : Ref sig .tc := ⟨.hbm, 442, rfl⟩
abbrev main_call0_call0_call1_c_35 : Ref sig .tc := ⟨.hbm, 443, rfl⟩
abbrev main_call0_call0_call1_v140 : Ref sig .tc := ⟨.hbm, 444, rfl⟩
abbrev main_call0_call0_call1_v141 : Ref sig .tc := ⟨.hbm, 445, rfl⟩
abbrev main_call0_call0_call1_v142 : Ref sig .tc := ⟨.hbm, 446, rfl⟩
abbrev main_call0_call0_call1_c_36 : Ref sig .tc := ⟨.hbm, 447, rfl⟩
abbrev main_call0_call0_call1_v143 : Ref sig .tc := ⟨.hbm, 448, rfl⟩
abbrev main_call0_call0_call1_v144 : Ref sig .tc := ⟨.hbm, 449, rfl⟩
abbrev main_call0_call0_call1_c_37 : Ref sig .tc := ⟨.hbm, 450, rfl⟩
abbrev main_call0_call0_call1_v145 : Ref sig .tc := ⟨.hbm, 451, rfl⟩
abbrev main_call0_call0_call1_v146 : Ref sig .tc := ⟨.hbm, 452, rfl⟩
abbrev main_call0_call0_call1_v147 : Ref sig .tc := ⟨.hbm, 453, rfl⟩
abbrev main_call0_call0_call1_v148 : Ref sig .tc := ⟨.hbm, 454, rfl⟩
abbrev main_call0_call0_call1_v149 : Ref sig .tc := ⟨.hbm, 455, rfl⟩
abbrev main_call0_call0_call1_c_38 : Ref sig .tc := ⟨.hbm, 456, rfl⟩
abbrev main_call0_call0_call1_v150 : Ref sig .tc := ⟨.hbm, 457, rfl⟩
abbrev main_call0_call0_call1_v151 : Ref sig .tc := ⟨.hbm, 458, rfl⟩
abbrev main_call0_call0_call1_c_39 : Ref sig .tc := ⟨.hbm, 459, rfl⟩
abbrev main_call0_call0_call1_v152 : Ref sig .tc := ⟨.hbm, 460, rfl⟩
abbrev main_call0_call0_call1_v153 : Ref sig .tc := ⟨.hbm, 461, rfl⟩
abbrev main_call0_call0_call1_v154 : Ref sig .tc := ⟨.hbm, 462, rfl⟩
abbrev main_call0_call0_call1_v155 : Ref sig .tc := ⟨.hbm, 463, rfl⟩
abbrev main_call0_call0_call1_v156 : Ref sig .tc := ⟨.hbm, 464, rfl⟩
abbrev main_call0_call0_call1_c_40 : Ref sig .tc := ⟨.hbm, 465, rfl⟩
abbrev main_call0_call0_call1_v157 : Ref sig .tc := ⟨.hbm, 466, rfl⟩
abbrev main_call0_call0_call1_v158 : Ref sig .tc := ⟨.hbm, 467, rfl⟩
abbrev main_call0_call0_call1_c_41 : Ref sig .tc := ⟨.hbm, 468, rfl⟩
abbrev main_call0_call0_call1_v159 : Ref sig .tc := ⟨.hbm, 469, rfl⟩
abbrev main_call0_call0_call1_v160 : Ref sig .tc := ⟨.hbm, 470, rfl⟩
abbrev main_call0_call0_call1_v161 : Ref sig .tc := ⟨.hbm, 471, rfl⟩
abbrev main_call0_call0_call1_v162 : Ref sig .tc := ⟨.hbm, 472, rfl⟩
abbrev main_call0_call0_call1_v163 : Ref sig .tc := ⟨.hbm, 473, rfl⟩
abbrev main_call0_call0_call1_c_42 : Ref sig .tc := ⟨.hbm, 474, rfl⟩
abbrev main_call0_call0_call1_v164 : Ref sig .tc := ⟨.hbm, 475, rfl⟩
abbrev main_call0_call0_call1_v165 : Ref sig .tc := ⟨.hbm, 476, rfl⟩
abbrev main_call0_call0_call1_c_43 : Ref sig .tc := ⟨.hbm, 477, rfl⟩
abbrev main_call0_call0_call1_v166 : Ref sig .tc := ⟨.hbm, 478, rfl⟩
abbrev main_call0_call0_call1_v167 : Ref sig .tc := ⟨.hbm, 479, rfl⟩
abbrev main_call0_call0_call1_v168 : Ref sig .tc := ⟨.hbm, 480, rfl⟩
abbrev main_call0_call0_call1_v169 : Ref sig .tc := ⟨.hbm, 481, rfl⟩
abbrev main_call0_call0_call1_v170 : Ref sig .tc := ⟨.hbm, 482, rfl⟩
abbrev main_call0_call0_v16_0 : Ref sig .tc := ⟨.hbm, 483, rfl⟩
abbrev main_call0_call0_call1_v172 : Ref sig .tc := ⟨.hbm, 484, rfl⟩
abbrev main_call0_call0_call1_v173 : Ref sig .tc := ⟨.hbm, 485, rfl⟩
abbrev main_call0_call0_call1_c_44 : Ref sig .tc := ⟨.hbm, 486, rfl⟩
abbrev main_call0_call0_call1_v174 : Ref sig .tc := ⟨.hbm, 487, rfl⟩
abbrev main_call0_call0_v16_1 : Ref sig .tc := ⟨.hbm, 488, rfl⟩
abbrev main_call0_call0_v17 : Ref sig .tc := ⟨.hbm, 489, rfl⟩
abbrev main_call0_call0_v18_0 : Ref sig .tc := ⟨.hbm, 490, rfl⟩
abbrev main_call0_call0_v18_1 : Ref sig .tc := ⟨.hbm, 491, rfl⟩
abbrev main_call0_call0_call2_v0 : Ref sig .tc := ⟨.hbm, 492, rfl⟩
abbrev main_call0_call0_call2_v1 : Ref sig .tc := ⟨.hbm, 493, rfl⟩
abbrev main_call0_call0_call2_v2 : Ref sig .tc := ⟨.hbm, 494, rfl⟩
abbrev main_call0_call0_call2_v3 : Ref sig .tc := ⟨.hbm, 495, rfl⟩
abbrev main_call0_call0_call2_v4 : Ref sig .tc := ⟨.hbm, 496, rfl⟩
abbrev main_call0_call0_call2_c : Ref sig .tc := ⟨.hbm, 497, rfl⟩
abbrev main_call0_call0_call2_v5 : Ref sig .tc := ⟨.hbm, 498, rfl⟩
abbrev main_call0_call0_call2_v6 : Ref sig .tc := ⟨.hbm, 499, rfl⟩
abbrev main_call0_call0_call2_c_0 : Ref sig .tc := ⟨.hbm, 500, rfl⟩
abbrev main_call0_call0_call2_v7 : Ref sig .tc := ⟨.hbm, 501, rfl⟩
abbrev main_call0_call0_call2_v8 : Ref sig .tc := ⟨.hbm, 502, rfl⟩
abbrev main_call0_call0_call2_v9 : Ref sig .tc := ⟨.hbm, 503, rfl⟩
abbrev main_call0_call0_call2_v10 : Ref sig .tc := ⟨.hbm, 504, rfl⟩
abbrev main_call0_call0_call2_call0_v0 : Ref sig .tc := ⟨.hbm, 505, rfl⟩
abbrev main_call0_call0_call2_call0_c : Ref sig .tc := ⟨.hbm, 506, rfl⟩
abbrev main_call0_call0_call2_call0_v1 : Ref sig .tc := ⟨.hbm, 507, rfl⟩
abbrev main_call0_call0_call2_call0_v2 : Ref sig .tc := ⟨.hbm, 508, rfl⟩
abbrev main_call0_call0_call2_call0_v3 : Ref sig .tc := ⟨.hbm, 509, rfl⟩
abbrev main_call0_call0_call2_call0_v4 : Ref sig .tc := ⟨.hbm, 510, rfl⟩
abbrev main_call0_call0_call2_call0_v5 : Ref sig .tc := ⟨.hbm, 511, rfl⟩
abbrev main_call0_call0_call2_call0_v6 : Ref sig .tc := ⟨.hbm, 512, rfl⟩
abbrev main_call0_call0_call2_call0_c_0 : Ref sig .tc := ⟨.hbm, 513, rfl⟩
abbrev main_call0_call0_call2_call0_v7 : Ref sig .tc := ⟨.hbm, 514, rfl⟩
abbrev main_call0_call0_call2_call0_v8 : Ref sig .tc := ⟨.hbm, 515, rfl⟩
abbrev main_call0_call0_call2_call0_c_1 : Ref sig .tc := ⟨.hbm, 516, rfl⟩
abbrev main_call0_call0_call2_call0_v9 : Ref sig .tc := ⟨.hbm, 517, rfl⟩
abbrev main_call0_call0_call2_call0_v10 : Ref sig .tc := ⟨.hbm, 518, rfl⟩
abbrev main_call0_call0_call2_call0_v11 : Ref sig .tc := ⟨.hbm, 519, rfl⟩
abbrev main_call0_call0_call2_call0_v12 : Ref sig .tc := ⟨.hbm, 520, rfl⟩
abbrev main_call0_call0_call2_call0_v13 : Ref sig .tc := ⟨.hbm, 521, rfl⟩
abbrev main_call0_call0_call2_call0_c_2 : Ref sig .tc := ⟨.hbm, 522, rfl⟩
abbrev main_call0_call0_call2_call0_v14 : Ref sig .tc := ⟨.hbm, 523, rfl⟩
abbrev main_call0_call0_call2_call0_v15 : Ref sig .tc := ⟨.hbm, 524, rfl⟩
abbrev main_call0_call0_call2_call0_c_3 : Ref sig .tc := ⟨.hbm, 525, rfl⟩
abbrev main_call0_call0_call2_call0_v16 : Ref sig .tc := ⟨.hbm, 526, rfl⟩
abbrev main_call0_call0_call2_call0_v17 : Ref sig .tc := ⟨.hbm, 527, rfl⟩
abbrev main_call0_call0_call2_call0_v18 : Ref sig .tc := ⟨.hbm, 528, rfl⟩
abbrev main_call0_call0_call2_call0_v19 : Ref sig .tc := ⟨.hbm, 529, rfl⟩
abbrev main_call0_call0_call2_call0_v20 : Ref sig .tc := ⟨.hbm, 530, rfl⟩
abbrev main_call0_call0_call2_call0_c_4 : Ref sig .tc := ⟨.hbm, 531, rfl⟩
abbrev main_call0_call0_call2_call0_v21 : Ref sig .tc := ⟨.hbm, 532, rfl⟩
abbrev main_call0_call0_call2_call0_v22 : Ref sig .tc := ⟨.hbm, 533, rfl⟩
abbrev main_call0_call0_call2_call0_c_5 : Ref sig .tc := ⟨.hbm, 534, rfl⟩
abbrev main_call0_call0_call2_call0_v23 : Ref sig .tc := ⟨.hbm, 535, rfl⟩
abbrev main_call0_call0_call2_call0_v24 : Ref sig .tc := ⟨.hbm, 536, rfl⟩
abbrev main_call0_call0_call2_call0_v25 : Ref sig .tc := ⟨.hbm, 537, rfl⟩
abbrev main_call0_call0_call2_call0_v26 : Ref sig .tc := ⟨.hbm, 538, rfl⟩
abbrev main_call0_call0_call2_call0_v27 : Ref sig .tc := ⟨.hbm, 539, rfl⟩
abbrev main_call0_call0_call2_call0_c_6 : Ref sig .tc := ⟨.hbm, 540, rfl⟩
abbrev main_call0_call0_call2_call0_v28 : Ref sig .tc := ⟨.hbm, 541, rfl⟩
abbrev main_call0_call0_call2_call0_v29 : Ref sig .tc := ⟨.hbm, 542, rfl⟩
abbrev main_call0_call0_call2_call0_c_7 : Ref sig .tc := ⟨.hbm, 543, rfl⟩
abbrev main_call0_call0_call2_call0_v30 : Ref sig .tc := ⟨.hbm, 544, rfl⟩
abbrev main_call0_call0_call2_call0_v31 : Ref sig .tc := ⟨.hbm, 545, rfl⟩
abbrev main_call0_call0_call2_call0_v32 : Ref sig .tc := ⟨.hbm, 546, rfl⟩
abbrev main_call0_call0_call2_call0_v33 : Ref sig .tc := ⟨.hbm, 547, rfl⟩
abbrev main_call0_call0_call2_call0_v34 : Ref sig .tc := ⟨.hbm, 548, rfl⟩
abbrev main_call0_call0_call2_call0_v35 : Ref sig .tc := ⟨.hbm, 549, rfl⟩
abbrev main_call0_call0_call2_call0_v36 : Ref sig .tc := ⟨.hbm, 550, rfl⟩
abbrev main_call0_call0_call2_call0_v37 : Ref sig .tc := ⟨.hbm, 551, rfl⟩
abbrev main_call0_call0_call2_call0_c_8 : Ref sig .tc := ⟨.hbm, 552, rfl⟩
abbrev main_call0_call0_call2_call0_v38 : Ref sig .tc := ⟨.hbm, 553, rfl⟩
abbrev main_call0_call0_call2_call0_v39 : Ref sig .tc := ⟨.hbm, 554, rfl⟩
abbrev main_call0_call0_call2_call0_v40 : Ref sig .tc := ⟨.hbm, 555, rfl⟩
abbrev main_call0_call0_call2_call0_c_9 : Ref sig .tc := ⟨.hbm, 556, rfl⟩
abbrev main_call0_call0_call2_call0_v41 : Ref sig .tc := ⟨.hbm, 557, rfl⟩
abbrev main_call0_call0_call2_call0_v42 : Ref sig .tc := ⟨.hbm, 558, rfl⟩
abbrev main_call0_call0_call2_call0_c_10 : Ref sig .tc := ⟨.hbm, 559, rfl⟩
abbrev main_call0_call0_call2_call0_v43 : Ref sig .tc := ⟨.hbm, 560, rfl⟩
abbrev main_call0_call0_call2_call0_v44 : Ref sig .tc := ⟨.hbm, 561, rfl⟩
abbrev main_call0_call0_call2_call0_v45 : Ref sig .tc := ⟨.hbm, 562, rfl⟩
abbrev main_call0_call0_call2_call0_v46 : Ref sig .tc := ⟨.hbm, 563, rfl⟩
abbrev main_call0_call0_call2_call0_v47 : Ref sig .tc := ⟨.hbm, 564, rfl⟩
abbrev main_call0_call0_call2_call0_c_11 : Ref sig .tc := ⟨.hbm, 565, rfl⟩
abbrev main_call0_call0_call2_call0_v48 : Ref sig .tc := ⟨.hbm, 566, rfl⟩
abbrev main_call0_call0_call2_call0_v49 : Ref sig .tc := ⟨.hbm, 567, rfl⟩
abbrev main_call0_call0_call2_call0_c_12 : Ref sig .tc := ⟨.hbm, 568, rfl⟩
abbrev main_call0_call0_call2_call0_v50 : Ref sig .tc := ⟨.hbm, 569, rfl⟩
abbrev main_call0_call0_call2_call0_v51 : Ref sig .tc := ⟨.hbm, 570, rfl⟩
abbrev main_call0_call0_call2_call0_v52 : Ref sig .tc := ⟨.hbm, 571, rfl⟩
abbrev main_call0_call0_call2_call0_v53 : Ref sig .tc := ⟨.hbm, 572, rfl⟩
abbrev main_call0_call0_call2_call0_v54 : Ref sig .tc := ⟨.hbm, 573, rfl⟩
abbrev main_call0_call0_call2_call0_c_13 : Ref sig .tc := ⟨.hbm, 574, rfl⟩
abbrev main_call0_call0_call2_call0_v55 : Ref sig .tc := ⟨.hbm, 575, rfl⟩
abbrev main_call0_call0_call2_call0_v56 : Ref sig .tc := ⟨.hbm, 576, rfl⟩
abbrev main_call0_call0_call2_call0_c_14 : Ref sig .tc := ⟨.hbm, 577, rfl⟩
abbrev main_call0_call0_call2_call0_v57 : Ref sig .tc := ⟨.hbm, 578, rfl⟩
abbrev main_call0_call0_call2_call0_v58 : Ref sig .tc := ⟨.hbm, 579, rfl⟩
abbrev main_call0_call0_call2_call0_v59 : Ref sig .tc := ⟨.hbm, 580, rfl⟩
abbrev main_call0_call0_call2_call0_v60 : Ref sig .tc := ⟨.hbm, 581, rfl⟩
abbrev main_call0_call0_call2_call0_v61 : Ref sig .tc := ⟨.hbm, 582, rfl⟩
abbrev main_call0_call0_call2_call0_c_15 : Ref sig .tc := ⟨.hbm, 583, rfl⟩
abbrev main_call0_call0_call2_call0_v62 : Ref sig .tc := ⟨.hbm, 584, rfl⟩
abbrev main_call0_call0_call2_call0_v63 : Ref sig .tc := ⟨.hbm, 585, rfl⟩
abbrev main_call0_call0_call2_call0_c_16 : Ref sig .tc := ⟨.hbm, 586, rfl⟩
abbrev main_call0_call0_call2_call0_v64 : Ref sig .tc := ⟨.hbm, 587, rfl⟩
abbrev main_call0_call0_call2_call0_v65 : Ref sig .tc := ⟨.hbm, 588, rfl⟩
abbrev main_call0_call0_call2_call0_v66 : Ref sig .tc := ⟨.hbm, 589, rfl⟩
abbrev main_call0_call0_call2_call0_v67 : Ref sig .tc := ⟨.hbm, 590, rfl⟩
abbrev main_call0_call0_call2_call0_v68 : Ref sig .tc := ⟨.hbm, 591, rfl⟩
abbrev main_call0_call0_call2_call0_v69 : Ref sig .tc := ⟨.hbm, 592, rfl⟩
abbrev main_call0_call0_call2_call0_v70 : Ref sig .tc := ⟨.hbm, 593, rfl⟩
abbrev main_call0_call0_call2_call0_v71 : Ref sig .tc := ⟨.hbm, 594, rfl⟩
abbrev main_call0_call0_call2_call0_c_17 : Ref sig .tc := ⟨.hbm, 595, rfl⟩
abbrev main_call0_call0_call2_call0_v72 : Ref sig .tc := ⟨.hbm, 596, rfl⟩
abbrev main_call0_call0_call2_call0_v73 : Ref sig .tc := ⟨.hbm, 597, rfl⟩
abbrev main_call0_call0_call2_call0_v74 : Ref sig .tc := ⟨.hbm, 598, rfl⟩
abbrev main_call0_call0_call2_call0_c_18 : Ref sig .tc := ⟨.hbm, 599, rfl⟩
abbrev main_call0_call0_call2_call0_v75 : Ref sig .tc := ⟨.hbm, 600, rfl⟩
abbrev main_call0_call0_call2_call0_v76 : Ref sig .tc := ⟨.hbm, 601, rfl⟩
abbrev main_call0_call0_call2_call0_c_19 : Ref sig .tc := ⟨.hbm, 602, rfl⟩
abbrev main_call0_call0_call2_call0_v77 : Ref sig .tc := ⟨.hbm, 603, rfl⟩
abbrev main_call0_call0_call2_call0_v78 : Ref sig .tc := ⟨.hbm, 604, rfl⟩
abbrev main_call0_call0_call2_call0_v79 : Ref sig .tc := ⟨.hbm, 605, rfl⟩
abbrev main_call0_call0_call2_call0_v80 : Ref sig .tc := ⟨.hbm, 606, rfl⟩
abbrev main_call0_call0_call2_call0_v81 : Ref sig .tc := ⟨.hbm, 607, rfl⟩
abbrev main_call0_call0_call2_call0_c_20 : Ref sig .tc := ⟨.hbm, 608, rfl⟩
abbrev main_call0_call0_call2_call0_v82 : Ref sig .tc := ⟨.hbm, 609, rfl⟩
abbrev main_call0_call0_call2_call0_v83 : Ref sig .tc := ⟨.hbm, 610, rfl⟩
abbrev main_call0_call0_call2_call0_c_21 : Ref sig .tc := ⟨.hbm, 611, rfl⟩
abbrev main_call0_call0_call2_call0_v84 : Ref sig .tc := ⟨.hbm, 612, rfl⟩
abbrev main_call0_call0_call2_call0_v85 : Ref sig .tc := ⟨.hbm, 613, rfl⟩
abbrev main_call0_call0_call2_call0_v86 : Ref sig .tc := ⟨.hbm, 614, rfl⟩
abbrev main_call0_call0_call2_call0_v87 : Ref sig .tc := ⟨.hbm, 615, rfl⟩
abbrev main_call0_call0_call2_call0_v88 : Ref sig .tc := ⟨.hbm, 616, rfl⟩
abbrev main_call0_call0_call2_call0_c_22 : Ref sig .tc := ⟨.hbm, 617, rfl⟩
abbrev main_call0_call0_call2_call0_v89 : Ref sig .tc := ⟨.hbm, 618, rfl⟩
abbrev main_call0_call0_call2_call0_v90 : Ref sig .tc := ⟨.hbm, 619, rfl⟩
abbrev main_call0_call0_call2_call0_c_23 : Ref sig .tc := ⟨.hbm, 620, rfl⟩
abbrev main_call0_call0_call2_call0_v91 : Ref sig .tc := ⟨.hbm, 621, rfl⟩
abbrev main_call0_call0_call2_call0_v92 : Ref sig .tc := ⟨.hbm, 622, rfl⟩
abbrev main_call0_call0_call2_call0_v93 : Ref sig .tc := ⟨.hbm, 623, rfl⟩
abbrev main_call0_call0_call2_call0_v94 : Ref sig .tc := ⟨.hbm, 624, rfl⟩
abbrev main_call0_call0_call2_call0_v95 : Ref sig .tc := ⟨.hbm, 625, rfl⟩
abbrev main_call0_call0_call2_call0_c_24 : Ref sig .tc := ⟨.hbm, 626, rfl⟩
abbrev main_call0_call0_call2_call0_v96 : Ref sig .tc := ⟨.hbm, 627, rfl⟩
abbrev main_call0_call0_call2_call0_v97 : Ref sig .tc := ⟨.hbm, 628, rfl⟩
abbrev main_call0_call0_call2_call0_c_25 : Ref sig .tc := ⟨.hbm, 629, rfl⟩
abbrev main_call0_call0_call2_call0_v98 : Ref sig .tc := ⟨.hbm, 630, rfl⟩
abbrev main_call0_call0_call2_call0_v99 : Ref sig .tc := ⟨.hbm, 631, rfl⟩
abbrev main_call0_call0_call2_call0_v100 : Ref sig .tc := ⟨.hbm, 632, rfl⟩
abbrev main_call0_call0_call2_call0_v101 : Ref sig .tc := ⟨.hbm, 633, rfl⟩
abbrev main_call0_call0_call2_call0_v102 : Ref sig .tc := ⟨.hbm, 634, rfl⟩
abbrev main_call0_call0_call2_call0_v103 : Ref sig .tc := ⟨.hbm, 635, rfl⟩
abbrev main_call0_call0_call2_call0_v104 : Ref sig .tc := ⟨.hbm, 636, rfl⟩
abbrev main_call0_call0_call2_call0_v105 : Ref sig .tc := ⟨.hbm, 637, rfl⟩
abbrev main_call0_call0_call2_call0_c_26 : Ref sig .tc := ⟨.hbm, 638, rfl⟩
abbrev main_call0_call0_call2_call0_v106 : Ref sig .tc := ⟨.hbm, 639, rfl⟩
abbrev main_call0_call0_call2_call0_v107 : Ref sig .tc := ⟨.hbm, 640, rfl⟩
abbrev main_call0_call0_call2_call0_v108 : Ref sig .tc := ⟨.hbm, 641, rfl⟩
abbrev main_call0_call0_call2_call0_c_27 : Ref sig .tc := ⟨.hbm, 642, rfl⟩
abbrev main_call0_call0_call2_call0_v109 : Ref sig .tc := ⟨.hbm, 643, rfl⟩
abbrev main_call0_call0_call2_call0_v110 : Ref sig .tc := ⟨.hbm, 644, rfl⟩
abbrev main_call0_call0_call2_call0_c_28 : Ref sig .tc := ⟨.hbm, 645, rfl⟩
abbrev main_call0_call0_call2_call0_v111 : Ref sig .tc := ⟨.hbm, 646, rfl⟩
abbrev main_call0_call0_call2_call0_v112 : Ref sig .tc := ⟨.hbm, 647, rfl⟩
abbrev main_call0_call0_call2_call0_v113 : Ref sig .tc := ⟨.hbm, 648, rfl⟩
abbrev main_call0_call0_call2_call0_v114 : Ref sig .tc := ⟨.hbm, 649, rfl⟩
abbrev main_call0_call0_call2_call0_v115 : Ref sig .tc := ⟨.hbm, 650, rfl⟩
abbrev main_call0_call0_call2_call0_c_29 : Ref sig .tc := ⟨.hbm, 651, rfl⟩
abbrev main_call0_call0_call2_call0_v116 : Ref sig .tc := ⟨.hbm, 652, rfl⟩
abbrev main_call0_call0_call2_call0_v117 : Ref sig .tc := ⟨.hbm, 653, rfl⟩
abbrev main_call0_call0_call2_call0_c_30 : Ref sig .tc := ⟨.hbm, 654, rfl⟩
abbrev main_call0_call0_call2_call0_v118 : Ref sig .tc := ⟨.hbm, 655, rfl⟩
abbrev main_call0_call0_call2_call0_v119 : Ref sig .tc := ⟨.hbm, 656, rfl⟩
abbrev main_call0_call0_call2_call0_v120 : Ref sig .tc := ⟨.hbm, 657, rfl⟩
abbrev main_call0_call0_call2_call0_v121 : Ref sig .tc := ⟨.hbm, 658, rfl⟩
abbrev main_call0_call0_call2_call0_v122 : Ref sig .tc := ⟨.hbm, 659, rfl⟩
abbrev main_call0_call0_call2_call0_c_31 : Ref sig .tc := ⟨.hbm, 660, rfl⟩
abbrev main_call0_call0_call2_call0_v123 : Ref sig .tc := ⟨.hbm, 661, rfl⟩
abbrev main_call0_call0_call2_call0_v124 : Ref sig .tc := ⟨.hbm, 662, rfl⟩
abbrev main_call0_call0_call2_call0_c_32 : Ref sig .tc := ⟨.hbm, 663, rfl⟩
abbrev main_call0_call0_call2_call0_v125 : Ref sig .tc := ⟨.hbm, 664, rfl⟩
abbrev main_call0_call0_call2_call0_v126 : Ref sig .tc := ⟨.hbm, 665, rfl⟩
abbrev main_call0_call0_call2_call0_v127 : Ref sig .tc := ⟨.hbm, 666, rfl⟩
abbrev main_call0_call0_call2_call0_v128 : Ref sig .tc := ⟨.hbm, 667, rfl⟩
abbrev main_call0_call0_call2_call0_v129 : Ref sig .tc := ⟨.hbm, 668, rfl⟩
abbrev main_call0_call0_call2_call0_c_33 : Ref sig .tc := ⟨.hbm, 669, rfl⟩
abbrev main_call0_call0_call2_call0_v130 : Ref sig .tc := ⟨.hbm, 670, rfl⟩
abbrev main_call0_call0_call2_call0_v131 : Ref sig .tc := ⟨.hbm, 671, rfl⟩
abbrev main_call0_call0_call2_call0_c_34 : Ref sig .tc := ⟨.hbm, 672, rfl⟩
abbrev main_call0_call0_call2_call0_v132 : Ref sig .tc := ⟨.hbm, 673, rfl⟩
abbrev main_call0_call0_call2_call0_v133 : Ref sig .tc := ⟨.hbm, 674, rfl⟩
abbrev main_call0_call0_call2_call0_v134 : Ref sig .tc := ⟨.hbm, 675, rfl⟩
abbrev main_call0_call0_call2_call0_v135 : Ref sig .tc := ⟨.hbm, 676, rfl⟩
abbrev main_call0_call0_call2_call0_v136 : Ref sig .tc := ⟨.hbm, 677, rfl⟩
abbrev main_call0_call0_call2_call0_v137 : Ref sig .tc := ⟨.hbm, 678, rfl⟩
abbrev main_call0_call0_call2_call0_v138 : Ref sig .tc := ⟨.hbm, 679, rfl⟩
abbrev main_call0_call0_call2_call0_v139 : Ref sig .tc := ⟨.hbm, 680, rfl⟩
abbrev main_call0_call0_call2_call0_c_35 : Ref sig .tc := ⟨.hbm, 681, rfl⟩
abbrev main_call0_call0_call2_call0_v140 : Ref sig .tc := ⟨.hbm, 682, rfl⟩
abbrev main_call0_call0_call2_call0_v141 : Ref sig .tc := ⟨.hbm, 683, rfl⟩
abbrev main_call0_call0_call2_call0_v142 : Ref sig .tc := ⟨.hbm, 684, rfl⟩
abbrev main_call0_call0_call2_call0_c_36 : Ref sig .tc := ⟨.hbm, 685, rfl⟩
abbrev main_call0_call0_call2_call0_v143 : Ref sig .tc := ⟨.hbm, 686, rfl⟩
abbrev main_call0_call0_call2_call0_v144 : Ref sig .tc := ⟨.hbm, 687, rfl⟩
abbrev main_call0_call0_call2_call0_c_37 : Ref sig .tc := ⟨.hbm, 688, rfl⟩
abbrev main_call0_call0_call2_call0_v145 : Ref sig .tc := ⟨.hbm, 689, rfl⟩
abbrev main_call0_call0_call2_call0_v146 : Ref sig .tc := ⟨.hbm, 690, rfl⟩
abbrev main_call0_call0_call2_call0_v147 : Ref sig .tc := ⟨.hbm, 691, rfl⟩
abbrev main_call0_call0_call2_call0_v148 : Ref sig .tc := ⟨.hbm, 692, rfl⟩
abbrev main_call0_call0_call2_call0_v149 : Ref sig .tc := ⟨.hbm, 693, rfl⟩
abbrev main_call0_call0_call2_call0_c_38 : Ref sig .tc := ⟨.hbm, 694, rfl⟩
abbrev main_call0_call0_call2_call0_v150 : Ref sig .tc := ⟨.hbm, 695, rfl⟩
abbrev main_call0_call0_call2_call0_v151 : Ref sig .tc := ⟨.hbm, 696, rfl⟩
abbrev main_call0_call0_call2_call0_c_39 : Ref sig .tc := ⟨.hbm, 697, rfl⟩
abbrev main_call0_call0_call2_call0_v152 : Ref sig .tc := ⟨.hbm, 698, rfl⟩
abbrev main_call0_call0_call2_call0_v153 : Ref sig .tc := ⟨.hbm, 699, rfl⟩
abbrev main_call0_call0_call2_call0_v154 : Ref sig .tc := ⟨.hbm, 700, rfl⟩
abbrev main_call0_call0_call2_call0_v155 : Ref sig .tc := ⟨.hbm, 701, rfl⟩
abbrev main_call0_call0_call2_call0_v156 : Ref sig .tc := ⟨.hbm, 702, rfl⟩
abbrev main_call0_call0_call2_call0_c_40 : Ref sig .tc := ⟨.hbm, 703, rfl⟩
abbrev main_call0_call0_call2_call0_v157 : Ref sig .tc := ⟨.hbm, 704, rfl⟩
abbrev main_call0_call0_call2_call0_v158 : Ref sig .tc := ⟨.hbm, 705, rfl⟩
abbrev main_call0_call0_call2_call0_c_41 : Ref sig .tc := ⟨.hbm, 706, rfl⟩
abbrev main_call0_call0_call2_call0_v159 : Ref sig .tc := ⟨.hbm, 707, rfl⟩
abbrev main_call0_call0_call2_call0_v160 : Ref sig .tc := ⟨.hbm, 708, rfl⟩
abbrev main_call0_call0_call2_call0_v161 : Ref sig .tc := ⟨.hbm, 709, rfl⟩
abbrev main_call0_call0_call2_call0_v162 : Ref sig .tc := ⟨.hbm, 710, rfl⟩
abbrev main_call0_call0_call2_call0_v163 : Ref sig .tc := ⟨.hbm, 711, rfl⟩
abbrev main_call0_call0_call2_call0_c_42 : Ref sig .tc := ⟨.hbm, 712, rfl⟩
abbrev main_call0_call0_call2_call0_v164 : Ref sig .tc := ⟨.hbm, 713, rfl⟩
abbrev main_call0_call0_call2_call0_v165 : Ref sig .tc := ⟨.hbm, 714, rfl⟩
abbrev main_call0_call0_call2_call0_c_43 : Ref sig .tc := ⟨.hbm, 715, rfl⟩
abbrev main_call0_call0_call2_call0_v166 : Ref sig .tc := ⟨.hbm, 716, rfl⟩
abbrev main_call0_call0_call2_call0_v167 : Ref sig .tc := ⟨.hbm, 717, rfl⟩
abbrev main_call0_call0_call2_call0_v168 : Ref sig .tc := ⟨.hbm, 718, rfl⟩
abbrev main_call0_call0_call2_call0_v169 : Ref sig .tc := ⟨.hbm, 719, rfl⟩
abbrev main_call0_call0_call2_call0_v170 : Ref sig .tc := ⟨.hbm, 720, rfl⟩
abbrev main_call0_call0_call2_v11_0 : Ref sig .tc := ⟨.hbm, 721, rfl⟩
abbrev main_call0_call0_call2_call0_v172 : Ref sig .tc := ⟨.hbm, 722, rfl⟩
abbrev main_call0_call0_call2_call0_v173 : Ref sig .tc := ⟨.hbm, 723, rfl⟩
abbrev main_call0_call0_call2_call0_c_44 : Ref sig .tc := ⟨.hbm, 724, rfl⟩
abbrev main_call0_call0_call2_call0_v174 : Ref sig .tc := ⟨.hbm, 725, rfl⟩
abbrev main_call0_call0_call2_v11_1 : Ref sig .tc := ⟨.hbm, 726, rfl⟩
abbrev main_call0_call0_call2_v12 : Ref sig .tc := ⟨.hbm, 727, rfl⟩
abbrev main_call0_call0_call2_v13 : Ref sig .tc := ⟨.hbm, 728, rfl⟩
abbrev main_call0_call0_v19 : Ref sig .tc := ⟨.hbm, 729, rfl⟩
abbrev main_call0_call0_v20 : Ref sig .tc := ⟨.hbm, 730, rfl⟩
abbrev main_call0_call0_v21 : Ref sig .tc := ⟨.hbm, 731, rfl⟩
abbrev main_call0_call0_v22 : Ref sig .tc := ⟨.hbm, 732, rfl⟩
abbrev main_call0_call0_v23 : Ref sig .tc := ⟨.hbm, 733, rfl⟩
abbrev main_call0_call0_v24 : Ref sig .tc := ⟨.hbm, 734, rfl⟩
abbrev main_call0_call0_v25 : Ref sig .tc := ⟨.hbm, 735, rfl⟩
abbrev main_call0_call0_v26 : Ref sig .tc := ⟨.hbm, 736, rfl⟩
abbrev main_call0_call0_v27 : Ref sig .tc := ⟨.hbm, 737, rfl⟩
abbrev main_call0_call0_v28 : Ref sig .tc := ⟨.hbm, 738, rfl⟩
abbrev main_call0_call0_c_1 : Ref sig .tc := ⟨.hbm, 739, rfl⟩
abbrev main_call0_call0_v29 : Ref sig .tc := ⟨.hbm, 740, rfl⟩
abbrev main_call0_call0_v30 : Ref sig .tc := ⟨.hbm, 741, rfl⟩
abbrev main_call0_call0_c_2 : Ref sig .tc := ⟨.hbm, 742, rfl⟩
abbrev main_call0_call0_v31 : Ref sig .tc := ⟨.hbm, 743, rfl⟩
abbrev main_call0_call0_v32 : Ref sig .tc := ⟨.hbm, 744, rfl⟩
abbrev main_call0_call0_v33 : Ref sig .tc := ⟨.hbm, 745, rfl⟩
abbrev main_call0_call0_v34 : Ref sig .tc := ⟨.hbm, 746, rfl⟩
abbrev main_call0_call0_call3_v0 : Ref sig .tc := ⟨.hbm, 747, rfl⟩
abbrev main_call0_call0_call3_c : Ref sig .tc := ⟨.hbm, 748, rfl⟩
abbrev main_call0_call0_call3_v1 : Ref sig .tc := ⟨.hbm, 749, rfl⟩
abbrev main_call0_call0_call3_v2 : Ref sig .tc := ⟨.hbm, 750, rfl⟩
abbrev main_call0_call0_call3_v3 : Ref sig .tc := ⟨.hbm, 751, rfl⟩
abbrev main_call0_call0_call3_v4 : Ref sig .tc := ⟨.hbm, 752, rfl⟩
abbrev main_call0_call0_call3_v5 : Ref sig .tc := ⟨.hbm, 753, rfl⟩
abbrev main_call0_call0_call3_v6 : Ref sig .tc := ⟨.hbm, 754, rfl⟩
abbrev main_call0_call0_call3_c_0 : Ref sig .tc := ⟨.hbm, 755, rfl⟩
abbrev main_call0_call0_call3_v7 : Ref sig .tc := ⟨.hbm, 756, rfl⟩
abbrev main_call0_call0_call3_v8 : Ref sig .tc := ⟨.hbm, 757, rfl⟩
abbrev main_call0_call0_call3_c_1 : Ref sig .tc := ⟨.hbm, 758, rfl⟩
abbrev main_call0_call0_call3_v9 : Ref sig .tc := ⟨.hbm, 759, rfl⟩
abbrev main_call0_call0_call3_v10 : Ref sig .tc := ⟨.hbm, 760, rfl⟩
abbrev main_call0_call0_call3_v11 : Ref sig .tc := ⟨.hbm, 761, rfl⟩
abbrev main_call0_call0_call3_v12 : Ref sig .tc := ⟨.hbm, 762, rfl⟩
abbrev main_call0_call0_call3_v13 : Ref sig .tc := ⟨.hbm, 763, rfl⟩
abbrev main_call0_call0_call3_c_2 : Ref sig .tc := ⟨.hbm, 764, rfl⟩
abbrev main_call0_call0_call3_v14 : Ref sig .tc := ⟨.hbm, 765, rfl⟩
abbrev main_call0_call0_call3_v15 : Ref sig .tc := ⟨.hbm, 766, rfl⟩
abbrev main_call0_call0_call3_c_3 : Ref sig .tc := ⟨.hbm, 767, rfl⟩
abbrev main_call0_call0_call3_v16 : Ref sig .tc := ⟨.hbm, 768, rfl⟩
abbrev main_call0_call0_call3_v17 : Ref sig .tc := ⟨.hbm, 769, rfl⟩
abbrev main_call0_call0_call3_v18 : Ref sig .tc := ⟨.hbm, 770, rfl⟩
abbrev main_call0_call0_call3_v19 : Ref sig .tc := ⟨.hbm, 771, rfl⟩
abbrev main_call0_call0_call3_v20 : Ref sig .tc := ⟨.hbm, 772, rfl⟩
abbrev main_call0_call0_call3_c_4 : Ref sig .tc := ⟨.hbm, 773, rfl⟩
abbrev main_call0_call0_call3_v21 : Ref sig .tc := ⟨.hbm, 774, rfl⟩
abbrev main_call0_call0_call3_v22 : Ref sig .tc := ⟨.hbm, 775, rfl⟩
abbrev main_call0_call0_call3_c_5 : Ref sig .tc := ⟨.hbm, 776, rfl⟩
abbrev main_call0_call0_call3_v23 : Ref sig .tc := ⟨.hbm, 777, rfl⟩
abbrev main_call0_call0_call3_v24 : Ref sig .tc := ⟨.hbm, 778, rfl⟩
abbrev main_call0_call0_call3_v25 : Ref sig .tc := ⟨.hbm, 779, rfl⟩
abbrev main_call0_call0_call3_v26 : Ref sig .tc := ⟨.hbm, 780, rfl⟩
abbrev main_call0_call0_call3_v27 : Ref sig .tc := ⟨.hbm, 781, rfl⟩
abbrev main_call0_call0_call3_c_6 : Ref sig .tc := ⟨.hbm, 782, rfl⟩
abbrev main_call0_call0_call3_v28 : Ref sig .tc := ⟨.hbm, 783, rfl⟩
abbrev main_call0_call0_call3_v29 : Ref sig .tc := ⟨.hbm, 784, rfl⟩
abbrev main_call0_call0_call3_c_7 : Ref sig .tc := ⟨.hbm, 785, rfl⟩
abbrev main_call0_call0_call3_v30 : Ref sig .tc := ⟨.hbm, 786, rfl⟩
abbrev main_call0_call0_call3_v31 : Ref sig .tc := ⟨.hbm, 787, rfl⟩
abbrev main_call0_call0_call3_v32 : Ref sig .tc := ⟨.hbm, 788, rfl⟩
abbrev main_call0_call0_call3_v33 : Ref sig .tc := ⟨.hbm, 789, rfl⟩
abbrev main_call0_call0_call3_v34 : Ref sig .tc := ⟨.hbm, 790, rfl⟩
abbrev main_call0_call0_call3_v35 : Ref sig .tc := ⟨.hbm, 791, rfl⟩
abbrev main_call0_call0_call3_v36 : Ref sig .tc := ⟨.hbm, 792, rfl⟩
abbrev main_call0_call0_call3_v37 : Ref sig .tc := ⟨.hbm, 793, rfl⟩
abbrev main_call0_call0_call3_c_8 : Ref sig .tc := ⟨.hbm, 794, rfl⟩
abbrev main_call0_call0_call3_v38 : Ref sig .tc := ⟨.hbm, 795, rfl⟩
abbrev main_call0_call0_call3_v39 : Ref sig .tc := ⟨.hbm, 796, rfl⟩
abbrev main_call0_call0_call3_v40 : Ref sig .tc := ⟨.hbm, 797, rfl⟩
abbrev main_call0_call0_call3_c_9 : Ref sig .tc := ⟨.hbm, 798, rfl⟩
abbrev main_call0_call0_call3_v41 : Ref sig .tc := ⟨.hbm, 799, rfl⟩
abbrev main_call0_call0_call3_v42 : Ref sig .tc := ⟨.hbm, 800, rfl⟩
abbrev main_call0_call0_call3_c_10 : Ref sig .tc := ⟨.hbm, 801, rfl⟩
abbrev main_call0_call0_call3_v43 : Ref sig .tc := ⟨.hbm, 802, rfl⟩
abbrev main_call0_call0_call3_v44 : Ref sig .tc := ⟨.hbm, 803, rfl⟩
abbrev main_call0_call0_call3_v45 : Ref sig .tc := ⟨.hbm, 804, rfl⟩
abbrev main_call0_call0_call3_v46 : Ref sig .tc := ⟨.hbm, 805, rfl⟩
abbrev main_call0_call0_call3_v47 : Ref sig .tc := ⟨.hbm, 806, rfl⟩
abbrev main_call0_call0_call3_c_11 : Ref sig .tc := ⟨.hbm, 807, rfl⟩
abbrev main_call0_call0_call3_v48 : Ref sig .tc := ⟨.hbm, 808, rfl⟩
abbrev main_call0_call0_call3_v49 : Ref sig .tc := ⟨.hbm, 809, rfl⟩
abbrev main_call0_call0_call3_c_12 : Ref sig .tc := ⟨.hbm, 810, rfl⟩
abbrev main_call0_call0_call3_v50 : Ref sig .tc := ⟨.hbm, 811, rfl⟩
abbrev main_call0_call0_call3_v51 : Ref sig .tc := ⟨.hbm, 812, rfl⟩
abbrev main_call0_call0_call3_v52 : Ref sig .tc := ⟨.hbm, 813, rfl⟩
abbrev main_call0_call0_call3_v53 : Ref sig .tc := ⟨.hbm, 814, rfl⟩
abbrev main_call0_call0_call3_v54 : Ref sig .tc := ⟨.hbm, 815, rfl⟩
abbrev main_call0_call0_call3_c_13 : Ref sig .tc := ⟨.hbm, 816, rfl⟩
abbrev main_call0_call0_call3_v55 : Ref sig .tc := ⟨.hbm, 817, rfl⟩
abbrev main_call0_call0_call3_v56 : Ref sig .tc := ⟨.hbm, 818, rfl⟩
abbrev main_call0_call0_call3_c_14 : Ref sig .tc := ⟨.hbm, 819, rfl⟩
abbrev main_call0_call0_call3_v57 : Ref sig .tc := ⟨.hbm, 820, rfl⟩
abbrev main_call0_call0_call3_v58 : Ref sig .tc := ⟨.hbm, 821, rfl⟩
abbrev main_call0_call0_call3_v59 : Ref sig .tc := ⟨.hbm, 822, rfl⟩
abbrev main_call0_call0_call3_v60 : Ref sig .tc := ⟨.hbm, 823, rfl⟩
abbrev main_call0_call0_call3_v61 : Ref sig .tc := ⟨.hbm, 824, rfl⟩
abbrev main_call0_call0_call3_c_15 : Ref sig .tc := ⟨.hbm, 825, rfl⟩
abbrev main_call0_call0_call3_v62 : Ref sig .tc := ⟨.hbm, 826, rfl⟩
abbrev main_call0_call0_call3_v63 : Ref sig .tc := ⟨.hbm, 827, rfl⟩
abbrev main_call0_call0_call3_c_16 : Ref sig .tc := ⟨.hbm, 828, rfl⟩
abbrev main_call0_call0_call3_v64 : Ref sig .tc := ⟨.hbm, 829, rfl⟩
abbrev main_call0_call0_call3_v65 : Ref sig .tc := ⟨.hbm, 830, rfl⟩
abbrev main_call0_call0_call3_v66 : Ref sig .tc := ⟨.hbm, 831, rfl⟩
abbrev main_call0_call0_call3_v67 : Ref sig .tc := ⟨.hbm, 832, rfl⟩
abbrev main_call0_call0_call3_v68 : Ref sig .tc := ⟨.hbm, 833, rfl⟩
abbrev main_call0_call0_call3_v69 : Ref sig .tc := ⟨.hbm, 834, rfl⟩
abbrev main_call0_call0_call3_v70 : Ref sig .tc := ⟨.hbm, 835, rfl⟩
abbrev main_call0_call0_call3_v71 : Ref sig .tc := ⟨.hbm, 836, rfl⟩
abbrev main_call0_call0_call3_c_17 : Ref sig .tc := ⟨.hbm, 837, rfl⟩
abbrev main_call0_call0_call3_v72 : Ref sig .tc := ⟨.hbm, 838, rfl⟩
abbrev main_call0_call0_call3_v73 : Ref sig .tc := ⟨.hbm, 839, rfl⟩
abbrev main_call0_call0_call3_v74 : Ref sig .tc := ⟨.hbm, 840, rfl⟩
abbrev main_call0_call0_call3_c_18 : Ref sig .tc := ⟨.hbm, 841, rfl⟩
abbrev main_call0_call0_call3_v75 : Ref sig .tc := ⟨.hbm, 842, rfl⟩
abbrev main_call0_call0_call3_v76 : Ref sig .tc := ⟨.hbm, 843, rfl⟩
abbrev main_call0_call0_call3_c_19 : Ref sig .tc := ⟨.hbm, 844, rfl⟩
abbrev main_call0_call0_call3_v77 : Ref sig .tc := ⟨.hbm, 845, rfl⟩
abbrev main_call0_call0_call3_v78 : Ref sig .tc := ⟨.hbm, 846, rfl⟩
abbrev main_call0_call0_call3_v79 : Ref sig .tc := ⟨.hbm, 847, rfl⟩
abbrev main_call0_call0_call3_v80 : Ref sig .tc := ⟨.hbm, 848, rfl⟩
abbrev main_call0_call0_call3_v81 : Ref sig .tc := ⟨.hbm, 849, rfl⟩
abbrev main_call0_call0_call3_c_20 : Ref sig .tc := ⟨.hbm, 850, rfl⟩
abbrev main_call0_call0_call3_v82 : Ref sig .tc := ⟨.hbm, 851, rfl⟩
abbrev main_call0_call0_call3_v83 : Ref sig .tc := ⟨.hbm, 852, rfl⟩
abbrev main_call0_call0_call3_c_21 : Ref sig .tc := ⟨.hbm, 853, rfl⟩
abbrev main_call0_call0_call3_v84 : Ref sig .tc := ⟨.hbm, 854, rfl⟩
abbrev main_call0_call0_call3_v85 : Ref sig .tc := ⟨.hbm, 855, rfl⟩
abbrev main_call0_call0_call3_v86 : Ref sig .tc := ⟨.hbm, 856, rfl⟩
abbrev main_call0_call0_call3_v87 : Ref sig .tc := ⟨.hbm, 857, rfl⟩
abbrev main_call0_call0_call3_v88 : Ref sig .tc := ⟨.hbm, 858, rfl⟩
abbrev main_call0_call0_call3_c_22 : Ref sig .tc := ⟨.hbm, 859, rfl⟩
abbrev main_call0_call0_call3_v89 : Ref sig .tc := ⟨.hbm, 860, rfl⟩
abbrev main_call0_call0_call3_v90 : Ref sig .tc := ⟨.hbm, 861, rfl⟩
abbrev main_call0_call0_call3_c_23 : Ref sig .tc := ⟨.hbm, 862, rfl⟩
abbrev main_call0_call0_call3_v91 : Ref sig .tc := ⟨.hbm, 863, rfl⟩
abbrev main_call0_call0_call3_v92 : Ref sig .tc := ⟨.hbm, 864, rfl⟩
abbrev main_call0_call0_call3_v93 : Ref sig .tc := ⟨.hbm, 865, rfl⟩
abbrev main_call0_call0_call3_v94 : Ref sig .tc := ⟨.hbm, 866, rfl⟩
abbrev main_call0_call0_call3_v95 : Ref sig .tc := ⟨.hbm, 867, rfl⟩
abbrev main_call0_call0_call3_c_24 : Ref sig .tc := ⟨.hbm, 868, rfl⟩
abbrev main_call0_call0_call3_v96 : Ref sig .tc := ⟨.hbm, 869, rfl⟩
abbrev main_call0_call0_call3_v97 : Ref sig .tc := ⟨.hbm, 870, rfl⟩
abbrev main_call0_call0_call3_c_25 : Ref sig .tc := ⟨.hbm, 871, rfl⟩
abbrev main_call0_call0_call3_v98 : Ref sig .tc := ⟨.hbm, 872, rfl⟩
abbrev main_call0_call0_call3_v99 : Ref sig .tc := ⟨.hbm, 873, rfl⟩
abbrev main_call0_call0_call3_v100 : Ref sig .tc := ⟨.hbm, 874, rfl⟩
abbrev main_call0_call0_call3_v101 : Ref sig .tc := ⟨.hbm, 875, rfl⟩
abbrev main_call0_call0_call3_v102 : Ref sig .tc := ⟨.hbm, 876, rfl⟩
abbrev main_call0_call0_call3_v103 : Ref sig .tc := ⟨.hbm, 877, rfl⟩
abbrev main_call0_call0_call3_v104 : Ref sig .tc := ⟨.hbm, 878, rfl⟩
abbrev main_call0_call0_call3_v105 : Ref sig .tc := ⟨.hbm, 879, rfl⟩
abbrev main_call0_call0_call3_c_26 : Ref sig .tc := ⟨.hbm, 880, rfl⟩
abbrev main_call0_call0_call3_v106 : Ref sig .tc := ⟨.hbm, 881, rfl⟩
abbrev main_call0_call0_call3_v107 : Ref sig .tc := ⟨.hbm, 882, rfl⟩
abbrev main_call0_call0_call3_v108 : Ref sig .tc := ⟨.hbm, 883, rfl⟩
abbrev main_call0_call0_call3_c_27 : Ref sig .tc := ⟨.hbm, 884, rfl⟩
abbrev main_call0_call0_call3_v109 : Ref sig .tc := ⟨.hbm, 885, rfl⟩
abbrev main_call0_call0_call3_v110 : Ref sig .tc := ⟨.hbm, 886, rfl⟩
abbrev main_call0_call0_call3_c_28 : Ref sig .tc := ⟨.hbm, 887, rfl⟩
abbrev main_call0_call0_call3_v111 : Ref sig .tc := ⟨.hbm, 888, rfl⟩
abbrev main_call0_call0_call3_v112 : Ref sig .tc := ⟨.hbm, 889, rfl⟩
abbrev main_call0_call0_call3_v113 : Ref sig .tc := ⟨.hbm, 890, rfl⟩
abbrev main_call0_call0_call3_v114 : Ref sig .tc := ⟨.hbm, 891, rfl⟩
abbrev main_call0_call0_call3_v115 : Ref sig .tc := ⟨.hbm, 892, rfl⟩
abbrev main_call0_call0_call3_c_29 : Ref sig .tc := ⟨.hbm, 893, rfl⟩
abbrev main_call0_call0_call3_v116 : Ref sig .tc := ⟨.hbm, 894, rfl⟩
abbrev main_call0_call0_call3_v117 : Ref sig .tc := ⟨.hbm, 895, rfl⟩
abbrev main_call0_call0_call3_c_30 : Ref sig .tc := ⟨.hbm, 896, rfl⟩
abbrev main_call0_call0_call3_v118 : Ref sig .tc := ⟨.hbm, 897, rfl⟩
abbrev main_call0_call0_call3_v119 : Ref sig .tc := ⟨.hbm, 898, rfl⟩
abbrev main_call0_call0_call3_v120 : Ref sig .tc := ⟨.hbm, 899, rfl⟩
abbrev main_call0_call0_call3_v121 : Ref sig .tc := ⟨.hbm, 900, rfl⟩
abbrev main_call0_call0_call3_v122 : Ref sig .tc := ⟨.hbm, 901, rfl⟩
abbrev main_call0_call0_call3_c_31 : Ref sig .tc := ⟨.hbm, 902, rfl⟩
abbrev main_call0_call0_call3_v123 : Ref sig .tc := ⟨.hbm, 903, rfl⟩
abbrev main_call0_call0_call3_v124 : Ref sig .tc := ⟨.hbm, 904, rfl⟩
abbrev main_call0_call0_call3_c_32 : Ref sig .tc := ⟨.hbm, 905, rfl⟩
abbrev main_call0_call0_call3_v125 : Ref sig .tc := ⟨.hbm, 906, rfl⟩
abbrev main_call0_call0_call3_v126 : Ref sig .tc := ⟨.hbm, 907, rfl⟩
abbrev main_call0_call0_call3_v127 : Ref sig .tc := ⟨.hbm, 908, rfl⟩
abbrev main_call0_call0_call3_v128 : Ref sig .tc := ⟨.hbm, 909, rfl⟩
abbrev main_call0_call0_call3_v129 : Ref sig .tc := ⟨.hbm, 910, rfl⟩
abbrev main_call0_call0_call3_c_33 : Ref sig .tc := ⟨.hbm, 911, rfl⟩
abbrev main_call0_call0_call3_v130 : Ref sig .tc := ⟨.hbm, 912, rfl⟩
abbrev main_call0_call0_call3_v131 : Ref sig .tc := ⟨.hbm, 913, rfl⟩
abbrev main_call0_call0_call3_c_34 : Ref sig .tc := ⟨.hbm, 914, rfl⟩
abbrev main_call0_call0_call3_v132 : Ref sig .tc := ⟨.hbm, 915, rfl⟩
abbrev main_call0_call0_call3_v133 : Ref sig .tc := ⟨.hbm, 916, rfl⟩
abbrev main_call0_call0_call3_v134 : Ref sig .tc := ⟨.hbm, 917, rfl⟩
abbrev main_call0_call0_call3_v135 : Ref sig .tc := ⟨.hbm, 918, rfl⟩
abbrev main_call0_call0_call3_v136 : Ref sig .tc := ⟨.hbm, 919, rfl⟩
abbrev main_call0_call0_call3_v137 : Ref sig .tc := ⟨.hbm, 920, rfl⟩
abbrev main_call0_call0_call3_v138 : Ref sig .tc := ⟨.hbm, 921, rfl⟩
abbrev main_call0_call0_call3_v139 : Ref sig .tc := ⟨.hbm, 922, rfl⟩
abbrev main_call0_call0_call3_c_35 : Ref sig .tc := ⟨.hbm, 923, rfl⟩
abbrev main_call0_call0_call3_v140 : Ref sig .tc := ⟨.hbm, 924, rfl⟩
abbrev main_call0_call0_call3_v141 : Ref sig .tc := ⟨.hbm, 925, rfl⟩
abbrev main_call0_call0_call3_v142 : Ref sig .tc := ⟨.hbm, 926, rfl⟩
abbrev main_call0_call0_call3_c_36 : Ref sig .tc := ⟨.hbm, 927, rfl⟩
abbrev main_call0_call0_call3_v143 : Ref sig .tc := ⟨.hbm, 928, rfl⟩
abbrev main_call0_call0_call3_v144 : Ref sig .tc := ⟨.hbm, 929, rfl⟩
abbrev main_call0_call0_call3_c_37 : Ref sig .tc := ⟨.hbm, 930, rfl⟩
abbrev main_call0_call0_call3_v145 : Ref sig .tc := ⟨.hbm, 931, rfl⟩
abbrev main_call0_call0_call3_v146 : Ref sig .tc := ⟨.hbm, 932, rfl⟩
abbrev main_call0_call0_call3_v147 : Ref sig .tc := ⟨.hbm, 933, rfl⟩
abbrev main_call0_call0_call3_v148 : Ref sig .tc := ⟨.hbm, 934, rfl⟩
abbrev main_call0_call0_call3_v149 : Ref sig .tc := ⟨.hbm, 935, rfl⟩
abbrev main_call0_call0_call3_c_38 : Ref sig .tc := ⟨.hbm, 936, rfl⟩
abbrev main_call0_call0_call3_v150 : Ref sig .tc := ⟨.hbm, 937, rfl⟩
abbrev main_call0_call0_call3_v151 : Ref sig .tc := ⟨.hbm, 938, rfl⟩
abbrev main_call0_call0_call3_c_39 : Ref sig .tc := ⟨.hbm, 939, rfl⟩
abbrev main_call0_call0_call3_v152 : Ref sig .tc := ⟨.hbm, 940, rfl⟩
abbrev main_call0_call0_call3_v153 : Ref sig .tc := ⟨.hbm, 941, rfl⟩
abbrev main_call0_call0_call3_v154 : Ref sig .tc := ⟨.hbm, 942, rfl⟩
abbrev main_call0_call0_call3_v155 : Ref sig .tc := ⟨.hbm, 943, rfl⟩
abbrev main_call0_call0_call3_v156 : Ref sig .tc := ⟨.hbm, 944, rfl⟩
abbrev main_call0_call0_call3_c_40 : Ref sig .tc := ⟨.hbm, 945, rfl⟩
abbrev main_call0_call0_call3_v157 : Ref sig .tc := ⟨.hbm, 946, rfl⟩
abbrev main_call0_call0_call3_v158 : Ref sig .tc := ⟨.hbm, 947, rfl⟩
abbrev main_call0_call0_call3_c_41 : Ref sig .tc := ⟨.hbm, 948, rfl⟩
abbrev main_call0_call0_call3_v159 : Ref sig .tc := ⟨.hbm, 949, rfl⟩
abbrev main_call0_call0_call3_v160 : Ref sig .tc := ⟨.hbm, 950, rfl⟩
abbrev main_call0_call0_call3_v161 : Ref sig .tc := ⟨.hbm, 951, rfl⟩
abbrev main_call0_call0_call3_v162 : Ref sig .tc := ⟨.hbm, 952, rfl⟩
abbrev main_call0_call0_call3_v163 : Ref sig .tc := ⟨.hbm, 953, rfl⟩
abbrev main_call0_call0_call3_c_42 : Ref sig .tc := ⟨.hbm, 954, rfl⟩
abbrev main_call0_call0_call3_v164 : Ref sig .tc := ⟨.hbm, 955, rfl⟩
abbrev main_call0_call0_call3_v165 : Ref sig .tc := ⟨.hbm, 956, rfl⟩
abbrev main_call0_call0_call3_c_43 : Ref sig .tc := ⟨.hbm, 957, rfl⟩
abbrev main_call0_call0_call3_v166 : Ref sig .tc := ⟨.hbm, 958, rfl⟩
abbrev main_call0_call0_call3_v167 : Ref sig .tc := ⟨.hbm, 959, rfl⟩
abbrev main_call0_call0_call3_v168 : Ref sig .tc := ⟨.hbm, 960, rfl⟩
abbrev main_call0_call0_call3_v169 : Ref sig .tc := ⟨.hbm, 961, rfl⟩
abbrev main_call0_call0_call3_v170 : Ref sig .tc := ⟨.hbm, 962, rfl⟩
abbrev main_call0_call0_v35_0 : Ref sig .tc := ⟨.hbm, 963, rfl⟩
abbrev main_call0_call0_call3_v172 : Ref sig .tc := ⟨.hbm, 964, rfl⟩
abbrev main_call0_call0_call3_v173 : Ref sig .tc := ⟨.hbm, 965, rfl⟩
abbrev main_call0_call0_call3_c_44 : Ref sig .tc := ⟨.hbm, 966, rfl⟩
abbrev main_call0_call0_call3_v174 : Ref sig .tc := ⟨.hbm, 967, rfl⟩
abbrev main_call0_call0_v35_1 : Ref sig .tc := ⟨.hbm, 968, rfl⟩
abbrev main_call0_call0_v36 : Ref sig .tc := ⟨.hbm, 969, rfl⟩
abbrev main_call0_call0_v37_0 : Ref sig .tc := ⟨.hbm, 970, rfl⟩
abbrev main_call0_v8 : Ref sig .tc := ⟨.hbm, 971, rfl⟩
abbrev main_call0_v9 : Ref sig .tc := ⟨.hbm, 972, rfl⟩
abbrev main_call0_c_2 : Ref sig .tc := ⟨.hbm, 973, rfl⟩
abbrev main_call0_v10 : Ref sig .tc := ⟨.hbm, 974, rfl⟩
abbrev main_call0_v11 : Ref sig .tc := ⟨.hbm, 975, rfl⟩
abbrev main_call0_c_3 : Ref sig .tc := ⟨.hbm, 976, rfl⟩
abbrev main_call0_v12 : Ref sig .tc := ⟨.hbm, 977, rfl⟩
abbrev main_call0_v13 : Ref sig .tc := ⟨.hbm, 978, rfl⟩
abbrev main_call0_v14 : Ref sig .tc := ⟨.hbm, 979, rfl⟩
abbrev main_call0_v15 : Ref sig .tc := ⟨.hbm, 980, rfl⟩
abbrev main_call0_v16 : Ref sig .tc := ⟨.hbm, 981, rfl⟩
abbrev main_call0_v17 : Ref sig .tc := ⟨.hbm, 982, rfl⟩
abbrev main_v0_0 : Ref sig .tc := ⟨.hbm, 983, rfl⟩
abbrev main_v0_1 : Ref sig .tc := ⟨.hbm, 984, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_off1 (k0_t1 : Fin k0_t1_loop.trips) : Fin 3 → Nat :=
  let c0_20 : Index := 0#32
  let c0_i32 : BitVec 32 := 0#32
  let c1_i32 : BitVec 32 := 1#32
  let arg5 : BitVec 32 := Scf.iv c0_i32 c1_i32 k0_t1
  let c512_i32 : BitVec 32 := 512#32
  let v30 : BitVec 32 := Scalar.muli arg5 c512_i32
  let v31 : Index := Scalar.indexCast v30
  let c0_21 : Index := 0#32
  ![0, v31.toNat, 0]
@[reducible] def k0_t2_loop : Scf.Loop 32 :=
  let c0_i32_8 : BitVec 32 := 0#32
  let c16_i32_9 : BitVec 32 := 16#32
  let v18 : BitVec 32 := Scalar.addi c0_i32_8 c16_i32_9
  let c1_i32_10 : BitVec 32 := 1#32
  ⟨c0_i32_8, v18, c1_i32_10⟩
def k0_off2 (k0_t2 : Fin k0_t2_loop.trips) : Fin 3 → Nat :=
  let c0_20 : Index := 0#32
  let c0_i32_8 : BitVec 32 := 0#32
  let c1_i32_10 : BitVec 32 := 1#32
  let arg5 : BitVec 32 := Scf.iv c0_i32_8 c1_i32_10 k0_t2
  let c512_i32 : BitVec 32 := 512#32
  let v30 : BitVec 32 := Scalar.muli arg5 c512_i32
  let v31 : Index := Scalar.indexCast v30
  let c0_21 : Index := 0#32
  ![0, v31.toNat, 0]
@[reducible] def k0_t3_loop : Scf.Loop 32 :=
  let c0_i32_13 : BitVec 32 := 0#32
  let c16_i32_14 : BitVec 32 := 16#32
  let v26 : BitVec 32 := Scalar.addi c0_i32_13 c16_i32_14
  let c1_i32_15 : BitVec 32 := 1#32
  ⟨c0_i32_13, v26, c1_i32_15⟩
def k0_off3 (k0_t3 : Fin k0_t3_loop.trips) : Fin 3 → Nat :=
  let c0_20 : Index := 0#32
  let c0_i32_13 : BitVec 32 := 0#32
  let c1_i32_15 : BitVec 32 := 1#32
  let arg5 : BitVec 32 := Scf.iv c0_i32_13 c1_i32_15 k0_t3
  let c512_i32 : BitVec 32 := 512#32
  let v30 : BitVec 32 := Scalar.muli arg5 c512_i32
  let v31 : Index := Scalar.indexCast v30
  let c0_21 : Index := 0#32
  ![0, v31.toNat, 0]
def k0_off4 (k0_t3 : Fin k0_t3_loop.trips) : Fin 3 → Nat :=
  let c0_39 : Index := 0#32
  let c0_40 : Index := 0#32
  let c0_i32_13 : BitVec 32 := 0#32
  let c1_i32_15 : BitVec 32 := 1#32
  let arg5 : BitVec 32 := Scf.iv c0_i32_13 c1_i32_15 k0_t3
  let c512_i32_38 : BitVec 32 := 512#32
  let v87 : BitVec 32 := Scalar.muli arg5 c512_i32_38
  let v88 : Index := Scalar.indexCast v87
  ![0, 0, v88.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x8192x32 : Shape := ⟨3, ![16, 8192, 32]⟩
abbrev S_ : Shape := ⟨0, ![]⟩
abbrev S1 : Shape := ⟨1, ![1]⟩
abbrev S2 : Shape := ⟨1, ![2]⟩
abbrev S8192 : Shape := ⟨1, ![8192]⟩
abbrev S2x1 : Shape := ⟨2, ![2, 1]⟩
abbrev S2x2 : Shape := ⟨2, ![2, 2]⟩
abbrev S1x2 : Shape := ⟨2, ![1, 2]⟩
abbrev S64 : Shape := ⟨1, ![64]⟩
abbrev S64x1 : Shape := ⟨2, ![64, 1]⟩
abbrev S16x64x32 : Shape := ⟨3, ![16, 64, 32]⟩
abbrev S131072x32 : Shape := ⟨2, ![131072, 32]⟩
abbrev S16 : Shape := ⟨1, ![16]⟩
abbrev S16x1 : Shape := ⟨2, ![16, 1]⟩
abbrev S16x8192x1x32 : Shape := ⟨4, ![16, 8192, 1, 32]⟩
abbrev S16x1x64x32 : Shape := ⟨4, ![16, 1, 64, 32]⟩
abbrev S16x8192x64x32 : Shape := ⟨4, ![16, 8192, 64, 32]⟩
abbrev S16x8192x64 : Shape := ⟨3, ![16, 8192, 64]⟩
abbrev S16x8192 : Shape := ⟨2, ![16, 8192]⟩
abbrev S131072 : Shape := ⟨1, ![131072]⟩
abbrev S1024x32 : Shape := ⟨2, ![1024, 32]⟩
abbrev S131072x1 : Shape := ⟨2, ![131072, 1]⟩
abbrev S16x1x8192 : Shape := ⟨3, ![16, 1, 8192]⟩

abbrev nBuf : Space → Nat
  | .hbm => 1058
  | .vmem => 0
  | .smem => 0
  | _ => 0

abbrev hbmTy0_0 (i : Nat) : BufTy := match i % 128 with
  | 0 => ⟨S16x8192x32, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S8192, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x8192x32, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S1, .i32⟩
  | 127 => ⟨S_, .i32⟩
  | _ => ⟨S16x8192x32, .f32⟩

abbrev hbmTy0_2 (i : Nat) : BufTy := match i % 128 with
  | 0 => ⟨S1, .i32⟩
  | 1 => ⟨S_, .i32⟩
  | 2 => ⟨S8192, .i64⟩
  | 3 => ⟨S_, .i64⟩
  | 4 => ⟨S8192, .i64⟩
  | 5 => ⟨S8192, .i64⟩
  | 6 => ⟨S_, .i64⟩
  | 7 => ⟨S8192, .i64⟩
  | 8 => ⟨S8192, .i64⟩
  | 9 => ⟨S8192, .i32⟩
  | 10 => ⟨S8192, .i32⟩
  | 11 => ⟨S_, .i32⟩
  | 12 => ⟨S_, .i32⟩
  | 13 => ⟨S_, .i32⟩
  | 14 => ⟨S8192, .i32⟩
  | 15 => ⟨S8192, .i32⟩
  | 16 => ⟨S8192, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192, .i32⟩
  | 26 => ⟨S8192, .i32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S8192, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192, .i32⟩
  | 44 => ⟨S8192, .i32⟩
  | 45 => ⟨S8192, .i32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S8192, .i32⟩
  | 53 => ⟨S8192, .i32⟩
  | 54 => ⟨S8192, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .i32⟩
  | 78 => ⟨S8192, .i32⟩
  | 79 => ⟨S8192, .i32⟩
  | 80 => ⟨S_, .i32⟩
  | 81 => ⟨S8192, .i32⟩
  | 82 => ⟨S8192, .i32⟩
  | 83 => ⟨S_, .i32⟩
  | 84 => ⟨S8192, .i32⟩
  | 85 => ⟨S8192, .i32⟩
  | 86 => ⟨S8192, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .i32⟩
  | 96 => ⟨S8192, .i32⟩
  | 97 => ⟨S8192, .i32⟩
  | 98 => ⟨S8192, .i32⟩
  | 99 => ⟨S8192, .i32⟩
  | 100 => ⟨S8192, .i32⟩
  | 101 => ⟨S_, .i32⟩
  | 102 => ⟨S8192, .i32⟩
  | 103 => ⟨S8192, .i32⟩
  | 104 => ⟨S8192, .i32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S8192, .i32⟩
  | 121 => ⟨S8192, .i32⟩
  | 122 => ⟨S8192, .i32⟩
  | 123 => ⟨S_, .i32⟩
  | 124 => ⟨S8192, .i32⟩
  | 125 => ⟨S8192, .i32⟩
  | 126 => ⟨S_, .i32⟩
  | 127 => ⟨S8192, .i32⟩
  | _ => ⟨S16x8192x32, .f32⟩

abbrev hbmTy0_3 (i : Nat) : BufTy := match i % 128 with
  | 0 => ⟨S8192, .i32⟩
  | 1 => ⟨S8192, .i32⟩
  | 2 => ⟨S8192, .i32⟩
  | 3 => ⟨S8192, .i32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192, .i32⟩
  | 11 => ⟨S8192, .i32⟩
  | 12 => ⟨S8192, .i32⟩
  | 13 => ⟨S8192, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S8192, .i32⟩
  | 54 => ⟨S8192, .i32⟩
  | 55 => ⟨S8192, .i32⟩
  | 56 => ⟨S8192, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .i32⟩
  | 97 => ⟨S8192, .i32⟩
  | 98 => ⟨S8192, .i32⟩
  | 99 => ⟨S8192, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .i32⟩
  | 106 => ⟨S8192, .i32⟩
  | 107 => ⟨S8192, .i32⟩
  | 108 => ⟨S1, .i32⟩
  | 109 => ⟨S_, .i32⟩
  | 110 => ⟨S1, .i32⟩
  | 111 => ⟨S_, .i32⟩
  | 112 => ⟨S2, .i64⟩
  | 113 => ⟨S_, .i64⟩
  | 114 => ⟨S2, .i64⟩
  | 115 => ⟨S2, .i64⟩
  | 116 => ⟨S_, .i64⟩
  | 117 => ⟨S2, .i64⟩
  | 118 => ⟨S2, .i64⟩
  | 119 => ⟨S2, .i32⟩
  | 120 => ⟨S2, .i32⟩
  | 121 => ⟨S_, .i32⟩
  | 122 => ⟨S_, .i32⟩
  | 123 => ⟨S_, .i32⟩
  | 124 => ⟨S2, .i32⟩
  | 125 => ⟨S2, .i32⟩
  | 126 => ⟨S2, .i32⟩
  | 127 => ⟨S2, .i32⟩
  | _ => ⟨S16x8192x32, .f32⟩

abbrev hbmTy0_4 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x8192x32, .f32⟩

abbrev hbmTy0_5 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2x1, .i32⟩
  | 88 => ⟨S2x1, .i32⟩
  | 89 => ⟨S2x2, .i32⟩
  | 90 => ⟨S1x2, .i32⟩
  | 91 => ⟨S2, .i32⟩
  | 92 => ⟨S1x2, .i32⟩
  | 93 => ⟨S2, .i32⟩
  | 94 => ⟨S1, .i32⟩
  | 95 => ⟨S_, .i32⟩
  | 96 => ⟨S1, .i32⟩
  | 97 => ⟨S_, .i32⟩
  | 98 => ⟨S8192, .i64⟩
  | 99 => ⟨S_, .i64⟩
  | 100 => ⟨S8192, .i64⟩
  | 101 => ⟨S8192, .i64⟩
  | 102 => ⟨S_, .i64⟩
  | 103 => ⟨S8192, .i64⟩
  | 104 => ⟨S8192, .i64⟩
  | 105 => ⟨S8192, .i32⟩
  | 106 => ⟨S8192, .i32⟩
  | 107 => ⟨S_, .i32⟩
  | 108 => ⟨S_, .i32⟩
  | 109 => ⟨S_, .i32⟩
  | 110 => ⟨S8192, .i32⟩
  | 111 => ⟨S8192, .i32⟩
  | 112 => ⟨S8192, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S16x8192x32, .f32⟩

abbrev hbmTy0_6 (i : Nat) : BufTy := match i % 128 with
  | 0 => ⟨S8192, .i32⟩
  | 1 => ⟨S8192, .i32⟩
  | 2 => ⟨S8192, .i32⟩
  | 3 => ⟨S8192, .i32⟩
  | 4 => ⟨S8192, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S8192, .i32⟩
  | 21 => ⟨S8192, .i32⟩
  | 22 => ⟨S8192, .i32⟩
  | 23 => ⟨S8192, .i32⟩
  | 24 => ⟨S8192, .i32⟩
  | 25 => ⟨S8192, .i32⟩
  | 26 => ⟨S_, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .i32⟩
  | 37 => ⟨S8192, .i32⟩
  | 38 => ⟨S8192, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .i32⟩
  | 55 => ⟨S8192, .i32⟩
  | 56 => ⟨S8192, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .i32⟩
  | 89 => ⟨S8192, .i32⟩
  | 90 => ⟨S8192, .i32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192, .i32⟩
  | 98 => ⟨S8192, .i32⟩
  | 99 => ⟨S8192, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .i32⟩
  | 107 => ⟨S8192, .i32⟩
  | 108 => ⟨S8192, .i32⟩
  | 109 => ⟨S8192, .i32⟩
  | 110 => ⟨S8192, .i32⟩
  | 111 => ⟨S8192, .i32⟩
  | 112 => ⟨S_, .i32⟩
  | 113 => ⟨S8192, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S8192, .i32⟩
  | 123 => ⟨S8192, .i32⟩
  | 124 => ⟨S8192, .i32⟩
  | 125 => ⟨S_, .i32⟩
  | 126 => ⟨S8192, .i32⟩
  | 127 => ⟨S8192, .i32⟩
  | _ => ⟨S16x8192x32, .f32⟩

abbrev hbmTy0_7 (i : Nat) : BufTy := match i % 128 with
  | 0 => ⟨S_, .i32⟩
  | 1 => ⟨S8192, .i32⟩
  | 2 => ⟨S8192, .i32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S8192, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S8192, .i32⟩
  | 22 => ⟨S8192, .i32⟩
  | 23 => ⟨S8192, .i32⟩
  | 24 => ⟨S8192, .i32⟩
  | 25 => ⟨S8192, .i32⟩
  | 26 => ⟨S8192, .i32⟩
  | 27 => ⟨S_, .i32⟩
  | 28 => ⟨S8192, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .i32⟩
  | 65 => ⟨S8192, .i32⟩
  | 66 => ⟨S8192, .i32⟩
  | 67 => ⟨S8192, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .i32⟩
  | 74 => ⟨S8192, .i32⟩
  | 75 => ⟨S8192, .i32⟩
  | 76 => ⟨S64, .i32⟩
  | 77 => ⟨S_, .i32⟩
  | 78 => ⟨S64, .i32⟩
  | 79 => ⟨S64, .i1⟩
  | 80 => ⟨S_, .i32⟩
  | 81 => ⟨S64, .i32⟩
  | 82 => ⟨S64, .i32⟩
  | 83 => ⟨S64, .i32⟩
  | 84 => ⟨S64x1, .i32⟩
  | 85 => ⟨S16x64x32, .f32⟩
  | 86 => ⟨S131072x32, .f32⟩
  | 87 => ⟨S16, .i32⟩
  | 88 => ⟨S_, .i32⟩
  | 89 => ⟨S16, .i32⟩
  | 90 => ⟨S16, .i32⟩
  | 91 => ⟨S16x1, .i32⟩
  | 92 => ⟨S16x8192x1x32, .f32⟩
  | 93 => ⟨S16x1x64x32, .f32⟩
  | 94 => ⟨S16x8192x64x32, .f32⟩
  | 95 => ⟨S16x8192x64x32, .f32⟩
  | 96 => ⟨S16x8192x64x32, .f32⟩
  | 97 => ⟨S16x8192x64x32, .f32⟩
  | 98 => ⟨S_, .f32⟩
  | 99 => ⟨S16x8192x64, .f32⟩
  | 100 => ⟨S16x8192x64, .i32⟩
  | 101 => ⟨S_, .f32⟩
  | 102 => ⟨S_, .i32⟩
  | 103 => ⟨S16x8192, .f32⟩
  | 104 => ⟨S16x8192, .i32⟩
  | 105 => ⟨S16x8192, .i32⟩
  | 106 => ⟨S16x8192, .i32⟩
  | 107 => ⟨S131072, .i32⟩
  | 108 => ⟨S_, .f32⟩
  | 109 => ⟨S1024x32, .f32⟩
  | 110 => ⟨S131072x1, .i32⟩
  | 111 => ⟨S1024x32, .f32⟩
  | 112 => ⟨S_, .f32⟩
  | 113 => ⟨S131072x32, .f32⟩
  | 114 => ⟨S_, .f32⟩
  | 115 => ⟨S1024x32, .f32⟩
  | 116 => ⟨S131072x1, .i32⟩
  | 117 => ⟨S1024x32, .f32⟩
  | 118 => ⟨S1024x32, .f32⟩
  | 119 => ⟨S16x64x32, .f32⟩
  | 120 => ⟨S16x8192x1x32, .f32⟩
  | 121 => ⟨S16x1x64x32, .f32⟩
  | 122 => ⟨S16x8192x64x32, .f32⟩
  | 123 => ⟨S16x8192x64x32, .f32⟩
  | 124 => ⟨S16x8192x64x32, .f32⟩
  | 125 => ⟨S16x8192x64x32, .f32⟩
  | 126 => ⟨S_, .f32⟩
  | 127 => ⟨S16x8192x64, .f32⟩
  | _ => ⟨S16x8192x32, .f32⟩

abbrev hbmTy0_8 (i : Nat) : BufTy := match i % 128 with
  | 0 => ⟨S16x8192x64, .i32⟩
  | 1 => ⟨S_, .f32⟩
  | 2 => ⟨S_, .i32⟩
  | 3 => ⟨S16x8192, .f32⟩
  | 4 => ⟨S16x8192, .i32⟩
  | 5 => ⟨S16x8192, .i32⟩
  | 6 => ⟨S16x8192, .i32⟩
  | 7 => ⟨S131072, .i32⟩
  | 8 => ⟨S_, .f32⟩
  | 9 => ⟨S1024x32, .f32⟩
  | 10 => ⟨S131072x1, .i32⟩
  | 11 => ⟨S1024x32, .f32⟩
  | 12 => ⟨S_, .f32⟩
  | 13 => ⟨S131072x32, .f32⟩
  | 14 => ⟨S_, .f32⟩
  | 15 => ⟨S1024x32, .f32⟩
  | 16 => ⟨S131072x1, .i32⟩
  | 17 => ⟨S1024x32, .f32⟩
  | 18 => ⟨S1024x32, .f32⟩
  | 19 => ⟨S16x64x32, .f32⟩
  | 20 => ⟨S16x8192x1x32, .f32⟩
  | 21 => ⟨S16x1x64x32, .f32⟩
  | 22 => ⟨S16x8192x64x32, .f32⟩
  | 23 => ⟨S16x8192x64x32, .f32⟩
  | 24 => ⟨S16x8192x64x32, .f32⟩
  | 25 => ⟨S16x8192x64x32, .f32⟩
  | 26 => ⟨S_, .f32⟩
  | 27 => ⟨S16x8192x64, .f32⟩
  | 28 => ⟨S16x8192x64, .i32⟩
  | 29 => ⟨S_, .f32⟩
  | 30 => ⟨S_, .i32⟩
  | 31 => ⟨S16x8192, .f32⟩
  | 32 => ⟨S16x8192, .i32⟩
  | 33 => ⟨S16x1x8192, .i32⟩
  | _ => ⟨S16x8192x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16x8192x32, .f32⟩

abbrev bufTy : (tb : Table) → Fin (tcTables nBuf tb) → BufTy
  | .hbm, ⟨i, _⟩ => hbmTy i
  | _, _ => ⟨S16x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_c : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_c_0 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_call0_v0 : Ref sig .tc := ⟨.hbm, 25, rfl⟩
abbrev main_call0_call0_call0_c : Ref sig .tc := ⟨.hbm, 26, rfl⟩
abbrev main_call0_call0_call0_v1 : Ref sig .tc := ⟨.hbm, 27, rfl⟩
abbrev main_call0_call0_call0_v2 : Ref sig .tc := ⟨.hbm, 28, rfl⟩
abbrev main_call0_call0_call0_v3 : Ref sig .tc := ⟨.hbm, 29, rfl⟩
abbrev main_call0_call0_call0_v4 : Ref sig .tc := ⟨.hbm, 30, rfl⟩
abbrev main_call0_call0_call0_v5 : Ref sig .tc := ⟨.hbm, 31, rfl⟩
abbrev main_call0_call0_call0_v6 : Ref sig .tc := ⟨.hbm, 32, rfl⟩
abbrev main_call0_call0_call0_c_0 : Ref sig .tc := ⟨.hbm, 33, rfl⟩
abbrev main_call0_call0_call0_v7 : Ref sig .tc := ⟨.hbm, 34, rfl⟩
abbrev main_call0_call0_call0_v8 : Ref sig .tc := ⟨.hbm, 35, rfl⟩
abbrev main_call0_call0_call0_c_1 : Ref sig .tc := ⟨.hbm, 36, rfl⟩
abbrev main_call0_call0_call0_v9 : Ref sig .tc := ⟨.hbm, 37, rfl⟩
abbrev main_call0_call0_call0_v10 : Ref sig .tc := ⟨.hbm, 38, rfl⟩
abbrev main_call0_call0_call0_v11 : Ref sig .tc := ⟨.hbm, 39, rfl⟩
abbrev main_call0_call0_call0_v12 : Ref sig .tc := ⟨.hbm, 40, rfl⟩
abbrev main_call0_call0_call0_v13 : Ref sig .tc := ⟨.hbm, 41, rfl⟩
abbrev main_call0_call0_call0_c_2 : Ref sig .tc := ⟨.hbm, 42, rfl⟩
abbrev main_call0_call0_call0_v14 : Ref sig .tc := ⟨.hbm, 43, rfl⟩
abbrev main_call0_call0_call0_v15 : Ref sig .tc := ⟨.hbm, 44, rfl⟩
abbrev main_call0_call0_call0_c_3 : Ref sig .tc := ⟨.hbm, 45, rfl⟩
abbrev main_call0_call0_call0_v16 : Ref sig .tc := ⟨.hbm, 46, rfl⟩
abbrev main_call0_call0_call0_v17 : Ref sig .tc := ⟨.hbm, 47, rfl⟩
abbrev main_call0_call0_call0_v18 : Ref sig .tc := ⟨.hbm, 48, rfl⟩
abbrev main_call0_call0_call0_v19 : Ref sig .tc := ⟨.hbm, 49, rfl⟩
abbrev main_call0_call0_call0_v20 : Ref sig .tc := ⟨.hbm, 50, rfl⟩
abbrev main_call0_call0_call0_c_4 : Ref sig .tc := ⟨.hbm, 51, rfl⟩
abbrev main_call0_call0_call0_v21 : Ref sig .tc := ⟨.hbm, 52, rfl⟩
abbrev main_call0_call0_call0_v22 : Ref sig .tc := ⟨.hbm, 53, rfl⟩
abbrev main_call0_call0_call0_c_5 : Ref sig .tc := ⟨.hbm, 54, rfl⟩
abbrev main_call0_call0_call0_v23 : Ref sig .tc := ⟨.hbm, 55, rfl⟩
abbrev main_call0_call0_call0_v24 : Ref sig .tc := ⟨.hbm, 56, rfl⟩
abbrev main_call0_call0_call0_v25 : Ref sig .tc := ⟨.hbm, 57, rfl⟩
abbrev main_call0_call0_call0_v26 : Ref sig .tc := ⟨.hbm, 58, rfl⟩
abbrev main_call0_call0_call0_v27 : Ref sig .tc := ⟨.hbm, 59, rfl⟩
abbrev main_call0_call0_call0_c_6 : Ref sig .tc := ⟨.hbm, 60, rfl⟩
abbrev main_call0_call0_call0_v28 : Ref sig .tc := ⟨.hbm, 61, rfl⟩
abbrev main_call0_call0_call0_v29 : Ref sig .tc := ⟨.hbm, 62, rfl⟩
abbrev main_call0_call0_call0_c_7 : Ref sig .tc := ⟨.hbm, 63, rfl⟩
abbrev main_call0_call0_call0_v30 : Ref sig .tc := ⟨.hbm, 64, rfl⟩
abbrev main_call0_call0_call0_v31 : Ref sig .tc := ⟨.hbm, 65, rfl⟩
abbrev main_call0_call0_call0_v32 : Ref sig .tc := ⟨.hbm, 66, rfl⟩
abbrev main_call0_call0_call0_v33 : Ref sig .tc := ⟨.hbm, 67, rfl⟩
abbrev main_call0_call0_call0_v34 : Ref sig .tc := ⟨.hbm, 68, rfl⟩
abbrev main_call0_call0_call0_v35 : Ref sig .tc := ⟨.hbm, 69, rfl⟩
abbrev main_call0_call0_call0_v36 : Ref sig .tc := ⟨.hbm, 70, rfl⟩
abbrev main_call0_call0_call0_v37 : Ref sig .tc := ⟨.hbm, 71, rfl⟩
abbrev main_call0_call0_call0_c_8 : Ref sig .tc := ⟨.hbm, 72, rfl⟩
abbrev main_call0_call0_call0_v38 : Ref sig .tc := ⟨.hbm, 73, rfl⟩
abbrev main_call0_call0_call0_v39 : Ref sig .tc := ⟨.hbm, 74, rfl⟩
abbrev main_call0_call0_call0_v40 : Ref sig .tc := ⟨.hbm, 75, rfl⟩
abbrev main_call0_call0_call0_c_9 : Ref sig .tc := ⟨.hbm, 76, rfl⟩
abbrev main_call0_call0_call0_v41 : Ref sig .tc := ⟨.hbm, 77, rfl⟩
abbrev main_call0_call0_call0_v42 : Ref sig .tc := ⟨.hbm, 78, rfl⟩
abbrev main_call0_call0_call0_c_10 : Ref sig .tc := ⟨.hbm, 79, rfl⟩
abbrev main_call0_call0_call0_v43 : Ref sig .tc := ⟨.hbm, 80, rfl⟩
abbrev main_call0_call0_call0_v44 : Ref sig .tc := ⟨.hbm, 81, rfl⟩
abbrev main_call0_call0_call0_v45 : Ref sig .tc := ⟨.hbm, 82, rfl⟩
abbrev main_call0_call0_call0_v46 : Ref sig .tc := ⟨.hbm, 83, rfl⟩
abbrev main_call0_call0_call0_v47 : Ref sig .tc := ⟨.hbm, 84, rfl⟩
abbrev main_call0_call0_call0_c_11 : Ref sig .tc := ⟨.hbm, 85, rfl⟩
abbrev main_call0_call0_call0_v48 : Ref sig .tc := ⟨.hbm, 86, rfl⟩
abbrev main_call0_call0_call0_v49 : Ref sig .tc := ⟨.hbm, 87, rfl⟩
abbrev main_call0_call0_call0_c_12 : Ref sig .tc := ⟨.hbm, 88, rfl⟩
abbrev main_call0_call0_call0_v50 : Ref sig .tc := ⟨.hbm, 89, rfl⟩
abbrev main_call0_call0_call0_v51 : Ref sig .tc := ⟨.hbm, 90, rfl⟩
abbrev main_call0_call0_call0_v52 : Ref sig .tc := ⟨.hbm, 91, rfl⟩
abbrev main_call0_call0_call0_v53 : Ref sig .tc := ⟨.hbm, 92, rfl⟩
abbrev main_call0_call0_call0_v54 : Ref sig .tc := ⟨.hbm, 93, rfl⟩
abbrev main_call0_call0_call0_c_13 : Ref sig .tc := ⟨.hbm, 94, rfl⟩
abbrev main_call0_call0_call0_v55 : Ref sig .tc := ⟨.hbm, 95, rfl⟩
abbrev main_call0_call0_call0_v56 : Ref sig .tc := ⟨.hbm, 96, rfl⟩
abbrev main_call0_call0_call0_c_14 : Ref sig .tc := ⟨.hbm, 97, rfl⟩
abbrev main_call0_call0_call0_v57 : Ref sig .tc := ⟨.hbm, 98, rfl⟩
abbrev main_call0_call0_call0_v58 : Ref sig .tc := ⟨.hbm, 99, rfl⟩
abbrev main_call0_call0_call0_v59 : Ref sig .tc := ⟨.hbm, 100, rfl⟩
abbrev main_call0_call0_call0_v60 : Ref sig .tc := ⟨.hbm, 101, rfl⟩
abbrev main_call0_call0_call0_v61 : Ref sig .tc := ⟨.hbm, 102, rfl⟩
abbrev main_call0_call0_call0_c_15 : Ref sig .tc := ⟨.hbm, 103, rfl⟩
abbrev main_call0_call0_call0_v62 : Ref sig .tc := ⟨.hbm, 104, rfl⟩
abbrev main_call0_call0_call0_v63 : Ref sig .tc := ⟨.hbm, 105, rfl⟩
abbrev main_call0_call0_call0_c_16 : Ref sig .tc := ⟨.hbm, 106, rfl⟩
abbrev main_call0_call0_call0_v64 : Ref sig .tc := ⟨.hbm, 107, rfl⟩
abbrev main_call0_call0_call0_v65 : Ref sig .tc := ⟨.hbm, 108, rfl⟩
abbrev main_call0_call0_call0_v66 : Ref sig .tc := ⟨.hbm, 109, rfl⟩
abbrev main_call0_call0_call0_v67 : Ref sig .tc := ⟨.hbm, 110, rfl⟩
abbrev main_call0_call0_call0_v68 : Ref sig .tc := ⟨.hbm, 111, rfl⟩
abbrev main_call0_call0_call0_v69 : Ref sig .tc := ⟨.hbm, 112, rfl⟩
abbrev main_call0_call0_call0_v70 : Ref sig .tc := ⟨.hbm, 113, rfl⟩
abbrev main_call0_call0_call0_v71 : Ref sig .tc := ⟨.hbm, 114, rfl⟩
abbrev main_call0_call0_call0_c_17 : Ref sig .tc := ⟨.hbm, 115, rfl⟩
abbrev main_call0_call0_call0_v72 : Ref sig .tc := ⟨.hbm, 116, rfl⟩
abbrev main_call0_call0_call0_v73 : Ref sig .tc := ⟨.hbm, 117, rfl⟩
abbrev main_call0_call0_call0_v74 : Ref sig .tc := ⟨.hbm, 118, rfl⟩
abbrev main_call0_call0_call0_c_18 : Ref sig .tc := ⟨.hbm, 119, rfl⟩
abbrev main_call0_call0_call0_v75 : Ref sig .tc := ⟨.hbm, 120, rfl⟩
abbrev main_call0_call0_call0_v76 : Ref sig .tc := ⟨.hbm, 121, rfl⟩
abbrev main_call0_call0_call0_c_19 : Ref sig .tc := ⟨.hbm, 122, rfl⟩
abbrev main_call0_call0_call0_v77 : Ref sig .tc := ⟨.hbm, 123, rfl⟩
abbrev main_call0_call0_call0_v78 : Ref sig .tc := ⟨.hbm, 124, rfl⟩
abbrev main_call0_call0_call0_v79 : Ref sig .tc := ⟨.hbm, 125, rfl⟩
abbrev main_call0_call0_call0_v80 : Ref sig .tc := ⟨.hbm, 126, rfl⟩
abbrev main_call0_call0_call0_v81 : Ref sig .tc := ⟨.hbm, 127, rfl⟩
abbrev main_call0_call0_call0_c_20 : Ref sig .tc := ⟨.hbm, 128, rfl⟩
abbrev main_call0_call0_call0_v82 : Ref sig .tc := ⟨.hbm, 129, rfl⟩
abbrev main_call0_call0_call0_v83 : Ref sig .tc := ⟨.hbm, 130, rfl⟩
abbrev main_call0_call0_call0_c_21 : Ref sig .tc := ⟨.hbm, 131, rfl⟩
abbrev main_call0_call0_call0_v84 : Ref sig .tc := ⟨.hbm, 132, rfl⟩
abbrev main_call0_call0_call0_v85 : Ref sig .tc := ⟨.hbm, 133, rfl⟩
abbrev main_call0_call0_call0_v86 : Ref sig .tc := ⟨.hbm, 134, rfl⟩
abbrev main_call0_call0_call0_v87 : Ref sig .tc := ⟨.hbm, 135, rfl⟩
abbrev main_call0_call0_call0_v88 : Ref sig .tc := ⟨.hbm, 136, rfl⟩
abbrev main_call0_call0_call0_c_22 : Ref sig .tc := ⟨.hbm, 137, rfl⟩
abbrev main_call0_call0_call0_v89 : Ref sig .tc := ⟨.hbm, 138, rfl⟩
abbrev main_call0_call0_call0_v90 : Ref sig .tc := ⟨.hbm, 139, rfl⟩
abbrev main_call0_call0_call0_c_23 : Ref sig .tc := ⟨.hbm, 140, rfl⟩
abbrev main_call0_call0_call0_v91 : Ref sig .tc := ⟨.hbm, 141, rfl⟩
abbrev main_call0_call0_call0_v92 : Ref sig .tc := ⟨.hbm, 142, rfl⟩
abbrev main_call0_call0_call0_v93 : Ref sig .tc := ⟨.hbm, 143, rfl⟩
abbrev main_call0_call0_call0_v94 : Ref sig .tc := ⟨.hbm, 144, rfl⟩
abbrev main_call0_call0_call0_v95 : Ref sig .tc := ⟨.hbm, 145, rfl⟩
abbrev main_call0_call0_call0_c_24 : Ref sig .tc := ⟨.hbm, 146, rfl⟩
abbrev main_call0_call0_call0_v96 : Ref sig .tc := ⟨.hbm, 147, rfl⟩
abbrev main_call0_call0_call0_v97 : Ref sig .tc := ⟨.hbm, 148, rfl⟩
abbrev main_call0_call0_call0_c_25 : Ref sig .tc := ⟨.hbm, 149, rfl⟩
abbrev main_call0_call0_call0_v98 : Ref sig .tc := ⟨.hbm, 150, rfl⟩
abbrev main_call0_call0_call0_v99 : Ref sig .tc := ⟨.hbm, 151, rfl⟩
abbrev main_call0_call0_call0_v100 : Ref sig .tc := ⟨.hbm, 152, rfl⟩
abbrev main_call0_call0_call0_v101 : Ref sig .tc := ⟨.hbm, 153, rfl⟩
abbrev main_call0_call0_call0_v102 : Ref sig .tc := ⟨.hbm, 154, rfl⟩
abbrev main_call0_call0_call0_v103 : Ref sig .tc := ⟨.hbm, 155, rfl⟩
abbrev main_call0_call0_call0_v104 : Ref sig .tc := ⟨.hbm, 156, rfl⟩
abbrev main_call0_call0_call0_v105 : Ref sig .tc := ⟨.hbm, 157, rfl⟩
abbrev main_call0_call0_call0_c_26 : Ref sig .tc := ⟨.hbm, 158, rfl⟩
abbrev main_call0_call0_call0_v106 : Ref sig .tc := ⟨.hbm, 159, rfl⟩
abbrev main_call0_call0_call0_v107 : Ref sig .tc := ⟨.hbm, 160, rfl⟩
abbrev main_call0_call0_call0_v108 : Ref sig .tc := ⟨.hbm, 161, rfl⟩
abbrev main_call0_call0_call0_c_27 : Ref sig .tc := ⟨.hbm, 162, rfl⟩
abbrev main_call0_call0_call0_v109 : Ref sig .tc := ⟨.hbm, 163, rfl⟩
abbrev main_call0_call0_call0_v110 : Ref sig .tc := ⟨.hbm, 164, rfl⟩
abbrev main_call0_call0_call0_c_28 : Ref sig .tc := ⟨.hbm, 165, rfl⟩
abbrev main_call0_call0_call0_v111 : Ref sig .tc := ⟨.hbm, 166, rfl⟩
abbrev main_call0_call0_call0_v112 : Ref sig .tc := ⟨.hbm, 167, rfl⟩
abbrev main_call0_call0_call0_v113 : Ref sig .tc := ⟨.hbm, 168, rfl⟩
abbrev main_call0_call0_call0_v114 : Ref sig .tc := ⟨.hbm, 169, rfl⟩
abbrev main_call0_call0_call0_v115 : Ref sig .tc := ⟨.hbm, 170, rfl⟩
abbrev main_call0_call0_call0_c_29 : Ref sig .tc := ⟨.hbm, 171, rfl⟩
abbrev main_call0_call0_call0_v116 : Ref sig .tc := ⟨.hbm, 172, rfl⟩
abbrev main_call0_call0_call0_v117 : Ref sig .tc := ⟨.hbm, 173, rfl⟩
abbrev main_call0_call0_call0_c_30 : Ref sig .tc := ⟨.hbm, 174, rfl⟩
abbrev main_call0_call0_call0_v118 : Ref sig .tc := ⟨.hbm, 175, rfl⟩
abbrev main_call0_call0_call0_v119 : Ref sig .tc := ⟨.hbm, 176, rfl⟩
abbrev main_call0_call0_call0_v120 : Ref sig .tc := ⟨.hbm, 177, rfl⟩
abbrev main_call0_call0_call0_v121 : Ref sig .tc := ⟨.hbm, 178, rfl⟩
abbrev main_call0_call0_call0_v122 : Ref sig .tc := ⟨.hbm, 179, rfl⟩
abbrev main_call0_call0_call0_c_31 : Ref sig .tc := ⟨.hbm, 180, rfl⟩
abbrev main_call0_call0_call0_v123 : Ref sig .tc := ⟨.hbm, 181, rfl⟩
abbrev main_call0_call0_call0_v124 : Ref sig .tc := ⟨.hbm, 182, rfl⟩
abbrev main_call0_call0_call0_c_32 : Ref sig .tc := ⟨.hbm, 183, rfl⟩
abbrev main_call0_call0_call0_v125 : Ref sig .tc := ⟨.hbm, 184, rfl⟩
abbrev main_call0_call0_call0_v126 : Ref sig .tc := ⟨.hbm, 185, rfl⟩
abbrev main_call0_call0_call0_v127 : Ref sig .tc := ⟨.hbm, 186, rfl⟩
abbrev main_call0_call0_call0_v128 : Ref sig .tc := ⟨.hbm, 187, rfl⟩
abbrev main_call0_call0_call0_v129 : Ref sig .tc := ⟨.hbm, 188, rfl⟩
abbrev main_call0_call0_call0_c_33 : Ref sig .tc := ⟨.hbm, 189, rfl⟩
abbrev main_call0_call0_call0_v130 : Ref sig .tc := ⟨.hbm, 190, rfl⟩
abbrev main_call0_call0_call0_v131 : Ref sig .tc := ⟨.hbm, 191, rfl⟩
abbrev main_call0_call0_call0_c_34 : Ref sig .tc := ⟨.hbm, 192, rfl⟩
abbrev main_call0_call0_call0_v132 : Ref sig .tc := ⟨.hbm, 193, rfl⟩
abbrev main_call0_call0_call0_v133 : Ref sig .tc := ⟨.hbm, 194, rfl⟩
abbrev main_call0_call0_call0_v134 : Ref sig .tc := ⟨.hbm, 195, rfl⟩
abbrev main_call0_call0_call0_v135 : Ref sig .tc := ⟨.hbm, 196, rfl⟩
abbrev main_call0_call0_call0_v136 : Ref sig .tc := ⟨.hbm, 197, rfl⟩
abbrev main_call0_call0_call0_v137 : Ref sig .tc := ⟨.hbm, 198, rfl⟩
abbrev main_call0_call0_call0_v138 : Ref sig .tc := ⟨.hbm, 199, rfl⟩
abbrev main_call0_call0_call0_v139 : Ref sig .tc := ⟨.hbm, 200, rfl⟩
abbrev main_call0_call0_call0_c_35 : Ref sig .tc := ⟨.hbm, 201, rfl⟩
abbrev main_call0_call0_call0_v140 : Ref sig .tc := ⟨.hbm, 202, rfl⟩
abbrev main_call0_call0_call0_v141 : Ref sig .tc := ⟨.hbm, 203, rfl⟩
abbrev main_call0_call0_call0_v142 : Ref sig .tc := ⟨.hbm, 204, rfl⟩
abbrev main_call0_call0_call0_c_36 : Ref sig .tc := ⟨.hbm, 205, rfl⟩
abbrev main_call0_call0_call0_v143 : Ref sig .tc := ⟨.hbm, 206, rfl⟩
abbrev main_call0_call0_call0_v144 : Ref sig .tc := ⟨.hbm, 207, rfl⟩
abbrev main_call0_call0_call0_c_37 : Ref sig .tc := ⟨.hbm, 208, rfl⟩
abbrev main_call0_call0_call0_v145 : Ref sig .tc := ⟨.hbm, 209, rfl⟩
abbrev main_call0_call0_call0_v146 : Ref sig .tc := ⟨.hbm, 210, rfl⟩
abbrev main_call0_call0_call0_v147 : Ref sig .tc := ⟨.hbm, 211, rfl⟩
abbrev main_call0_call0_call0_v148 : Ref sig .tc := ⟨.hbm, 212, rfl⟩
abbrev main_call0_call0_call0_v149 : Ref sig .tc := ⟨.hbm, 213, rfl⟩
abbrev main_call0_call0_call0_c_38 : Ref sig .tc := ⟨.hbm, 214, rfl⟩
abbrev main_call0_call0_call0_v150 : Ref sig .tc := ⟨.hbm, 215, rfl⟩
abbrev main_call0_call0_call0_v151 : Ref sig .tc := ⟨.hbm, 216, rfl⟩
abbrev main_call0_call0_call0_c_39 : Ref sig .tc := ⟨.hbm, 217, rfl⟩
abbrev main_call0_call0_call0_v152 : Ref sig .tc := ⟨.hbm, 218, rfl⟩
abbrev main_call0_call0_call0_v153 : Ref sig .tc := ⟨.hbm, 219, rfl⟩
abbrev main_call0_call0_call0_v154 : Ref sig .tc := ⟨.hbm, 220, rfl⟩
abbrev main_call0_call0_call0_v155 : Ref sig .tc := ⟨.hbm, 221, rfl⟩
abbrev main_call0_call0_call0_v156 : Ref sig .tc := ⟨.hbm, 222, rfl⟩
abbrev main_call0_call0_call0_c_40 : Ref sig .tc := ⟨.hbm, 223, rfl⟩
abbrev main_call0_call0_call0_v157 : Ref sig .tc := ⟨.hbm, 224, rfl⟩
abbrev main_call0_call0_call0_v158 : Ref sig .tc := ⟨.hbm, 225, rfl⟩
abbrev main_call0_call0_call0_c_41 : Ref sig .tc := ⟨.hbm, 226, rfl⟩
abbrev main_call0_call0_call0_v159 : Ref sig .tc := ⟨.hbm, 227, rfl⟩
abbrev main_call0_call0_call0_v160 : Ref sig .tc := ⟨.hbm, 228, rfl⟩
abbrev main_call0_call0_call0_v161 : Ref sig .tc := ⟨.hbm, 229, rfl⟩
abbrev main_call0_call0_call0_v162 : Ref sig .tc := ⟨.hbm, 230, rfl⟩
abbrev main_call0_call0_call0_v163 : Ref sig .tc := ⟨.hbm, 231, rfl⟩
abbrev main_call0_call0_call0_c_42 : Ref sig .tc := ⟨.hbm, 232, rfl⟩
abbrev main_call0_call0_call0_v164 : Ref sig .tc := ⟨.hbm, 233, rfl⟩
abbrev main_call0_call0_call0_v165 : Ref sig .tc := ⟨.hbm, 234, rfl⟩
abbrev main_call0_call0_call0_c_43 : Ref sig .tc := ⟨.hbm, 235, rfl⟩
abbrev main_call0_call0_call0_v166 : Ref sig .tc := ⟨.hbm, 236, rfl⟩
abbrev main_call0_call0_call0_v167 : Ref sig .tc := ⟨.hbm, 237, rfl⟩
abbrev main_call0_call0_call0_v168 : Ref sig .tc := ⟨.hbm, 238, rfl⟩
abbrev main_call0_call0_call0_v169 : Ref sig .tc := ⟨.hbm, 239, rfl⟩
abbrev main_call0_call0_call0_v170 : Ref sig .tc := ⟨.hbm, 240, rfl⟩
abbrev main_call0_call0_v11_0 : Ref sig .tc := ⟨.hbm, 241, rfl⟩
abbrev main_call0_call0_call0_v172 : Ref sig .tc := ⟨.hbm, 242, rfl⟩
abbrev main_call0_call0_call0_v173 : Ref sig .tc := ⟨.hbm, 243, rfl⟩
abbrev main_call0_call0_call0_c_44 : Ref sig .tc := ⟨.hbm, 244, rfl⟩
abbrev main_call0_call0_call0_v174 : Ref sig .tc := ⟨.hbm, 245, rfl⟩
abbrev main_call0_call0_v11_1 : Ref sig .tc := ⟨.hbm, 246, rfl⟩
abbrev main_call0_call0_v12 : Ref sig .tc := ⟨.hbm, 247, rfl⟩
abbrev main_call0_call0_v13 : Ref sig .tc := ⟨.hbm, 248, rfl⟩
abbrev main_call0_v0 : Ref sig .tc := ⟨.hbm, 249, rfl⟩
abbrev main_call0_v1 : Ref sig .tc := ⟨.hbm, 250, rfl⟩
abbrev main_call0_v2 : Ref sig .tc := ⟨.hbm, 251, rfl⟩
abbrev main_call0_v3 : Ref sig .tc := ⟨.hbm, 252, rfl⟩
abbrev main_call0_v4 : Ref sig .tc := ⟨.hbm, 253, rfl⟩
abbrev main_call0_v5 : Ref sig .tc := ⟨.hbm, 254, rfl⟩
abbrev main_call0_v6 : Ref sig .tc := ⟨.hbm, 255, rfl⟩
abbrev main_call0_v7 : Ref sig .tc := ⟨.hbm, 256, rfl⟩
abbrev main_call0_v8 : Ref sig .tc := ⟨.hbm, 257, rfl⟩
abbrev main_call0_v9 : Ref sig .tc := ⟨.hbm, 258, rfl⟩
abbrev main_call0_c : Ref sig .tc := ⟨.hbm, 259, rfl⟩
abbrev main_call0_v10 : Ref sig .tc := ⟨.hbm, 260, rfl⟩
abbrev main_call0_v11 : Ref sig .tc := ⟨.hbm, 261, rfl⟩
abbrev main_call0_c_0 : Ref sig .tc := ⟨.hbm, 262, rfl⟩
abbrev main_call0_v12 : Ref sig .tc := ⟨.hbm, 263, rfl⟩
abbrev main_call0_v13 : Ref sig .tc := ⟨.hbm, 264, rfl⟩
abbrev main_call0_v14 : Ref sig .tc := ⟨.hbm, 265, rfl⟩
abbrev main_call0_v15 : Ref sig .tc := ⟨.hbm, 266, rfl⟩
abbrev main_call0_call1_v0 : Ref sig .tc := ⟨.hbm, 267, rfl⟩
abbrev main_call0_call1_c : Ref sig .tc := ⟨.hbm, 268, rfl⟩
abbrev main_call0_call1_v1 : Ref sig .tc := ⟨.hbm, 269, rfl⟩
abbrev main_call0_call1_v2 : Ref sig .tc := ⟨.hbm, 270, rfl⟩
abbrev main_call0_call1_v3 : Ref sig .tc := ⟨.hbm, 271, rfl⟩
abbrev main_call0_call1_v4 : Ref sig .tc := ⟨.hbm, 272, rfl⟩
abbrev main_call0_call1_v5 : Ref sig .tc := ⟨.hbm, 273, rfl⟩
abbrev main_call0_call1_v6 : Ref sig .tc := ⟨.hbm, 274, rfl⟩
abbrev main_call0_call1_c_0 : Ref sig .tc := ⟨.hbm, 275, rfl⟩
abbrev main_call0_call1_v7 : Ref sig .tc := ⟨.hbm, 276, rfl⟩
abbrev main_call0_call1_v8 : Ref sig .tc := ⟨.hbm, 277, rfl⟩
abbrev main_call0_call1_c_1 : Ref sig .tc := ⟨.hbm, 278, rfl⟩
abbrev main_call0_call1_v9 : Ref sig .tc := ⟨.hbm, 279, rfl⟩
abbrev main_call0_call1_v10 : Ref sig .tc := ⟨.hbm, 280, rfl⟩
abbrev main_call0_call1_v11 : Ref sig .tc := ⟨.hbm, 281, rfl⟩
abbrev main_call0_call1_v12 : Ref sig .tc := ⟨.hbm, 282, rfl⟩
abbrev main_call0_call1_v13 : Ref sig .tc := ⟨.hbm, 283, rfl⟩
abbrev main_call0_call1_c_2 : Ref sig .tc := ⟨.hbm, 284, rfl⟩
abbrev main_call0_call1_v14 : Ref sig .tc := ⟨.hbm, 285, rfl⟩
abbrev main_call0_call1_v15 : Ref sig .tc := ⟨.hbm, 286, rfl⟩
abbrev main_call0_call1_c_3 : Ref sig .tc := ⟨.hbm, 287, rfl⟩
abbrev main_call0_call1_v16 : Ref sig .tc := ⟨.hbm, 288, rfl⟩
abbrev main_call0_call1_v17 : Ref sig .tc := ⟨.hbm, 289, rfl⟩
abbrev main_call0_call1_v18 : Ref sig .tc := ⟨.hbm, 290, rfl⟩
abbrev main_call0_call1_v19 : Ref sig .tc := ⟨.hbm, 291, rfl⟩
abbrev main_call0_call1_v20 : Ref sig .tc := ⟨.hbm, 292, rfl⟩
abbrev main_call0_call1_c_4 : Ref sig .tc := ⟨.hbm, 293, rfl⟩
abbrev main_call0_call1_v21 : Ref sig .tc := ⟨.hbm, 294, rfl⟩
abbrev main_call0_call1_v22 : Ref sig .tc := ⟨.hbm, 295, rfl⟩
abbrev main_call0_call1_c_5 : Ref sig .tc := ⟨.hbm, 296, rfl⟩
abbrev main_call0_call1_v23 : Ref sig .tc := ⟨.hbm, 297, rfl⟩
abbrev main_call0_call1_v24 : Ref sig .tc := ⟨.hbm, 298, rfl⟩
abbrev main_call0_call1_v25 : Ref sig .tc := ⟨.hbm, 299, rfl⟩
abbrev main_call0_call1_v26 : Ref sig .tc := ⟨.hbm, 300, rfl⟩
abbrev main_call0_call1_v27 : Ref sig .tc := ⟨.hbm, 301, rfl⟩
abbrev main_call0_call1_c_6 : Ref sig .tc := ⟨.hbm, 302, rfl⟩
abbrev main_call0_call1_v28 : Ref sig .tc := ⟨.hbm, 303, rfl⟩
abbrev main_call0_call1_v29 : Ref sig .tc := ⟨.hbm, 304, rfl⟩
abbrev main_call0_call1_c_7 : Ref sig .tc := ⟨.hbm, 305, rfl⟩
abbrev main_call0_call1_v30 : Ref sig .tc := ⟨.hbm, 306, rfl⟩
abbrev main_call0_call1_v31 : Ref sig .tc := ⟨.hbm, 307, rfl⟩
abbrev main_call0_call1_v32 : Ref sig .tc := ⟨.hbm, 308, rfl⟩
abbrev main_call0_call1_v33 : Ref sig .tc := ⟨.hbm, 309, rfl⟩
abbrev main_call0_call1_v34 : Ref sig .tc := ⟨.hbm, 310, rfl⟩
abbrev main_call0_call1_v35 : Ref sig .tc := ⟨.hbm, 311, rfl⟩
abbrev main_call0_call1_v36 : Ref sig .tc := ⟨.hbm, 312, rfl⟩
abbrev main_call0_call1_v37 : Ref sig .tc := ⟨.hbm, 313, rfl⟩
abbrev main_call0_call1_c_8 : Ref sig .tc := ⟨.hbm, 314, rfl⟩
abbrev main_call0_call1_v38 : Ref sig .tc := ⟨.hbm, 315, rfl⟩
abbrev main_call0_call1_v39 : Ref sig .tc := ⟨.hbm, 316, rfl⟩
abbrev main_call0_call1_v40 : Ref sig .tc := ⟨.hbm, 317, rfl⟩
abbrev main_call0_call1_c_9 : Ref sig .tc := ⟨.hbm, 318, rfl⟩
abbrev main_call0_call1_v41 : Ref sig .tc := ⟨.hbm, 319, rfl⟩
abbrev main_call0_call1_v42 : Ref sig .tc := ⟨.hbm, 320, rfl⟩
abbrev main_call0_call1_c_10 : Ref sig .tc := ⟨.hbm, 321, rfl⟩
abbrev main_call0_call1_v43 : Ref sig .tc := ⟨.hbm, 322, rfl⟩
abbrev main_call0_call1_v44 : Ref sig .tc := ⟨.hbm, 323, rfl⟩
abbrev main_call0_call1_v45 : Ref sig .tc := ⟨.hbm, 324, rfl⟩
abbrev main_call0_call1_v46 : Ref sig .tc := ⟨.hbm, 325, rfl⟩
abbrev main_call0_call1_v47 : Ref sig .tc := ⟨.hbm, 326, rfl⟩
abbrev main_call0_call1_c_11 : Ref sig .tc := ⟨.hbm, 327, rfl⟩
abbrev main_call0_call1_v48 : Ref sig .tc := ⟨.hbm, 328, rfl⟩
abbrev main_call0_call1_v49 : Ref sig .tc := ⟨.hbm, 329, rfl⟩
abbrev main_call0_call1_c_12 : Ref sig .tc := ⟨.hbm, 330, rfl⟩
abbrev main_call0_call1_v50 : Ref sig .tc := ⟨.hbm, 331, rfl⟩
abbrev main_call0_call1_v51 : Ref sig .tc := ⟨.hbm, 332, rfl⟩
abbrev main_call0_call1_v52 : Ref sig .tc := ⟨.hbm, 333, rfl⟩
abbrev main_call0_call1_v53 : Ref sig .tc := ⟨.hbm, 334, rfl⟩
abbrev main_call0_call1_v54 : Ref sig .tc := ⟨.hbm, 335, rfl⟩
abbrev main_call0_call1_c_13 : Ref sig .tc := ⟨.hbm, 336, rfl⟩
abbrev main_call0_call1_v55 : Ref sig .tc := ⟨.hbm, 337, rfl⟩
abbrev main_call0_call1_v56 : Ref sig .tc := ⟨.hbm, 338, rfl⟩
abbrev main_call0_call1_c_14 : Ref sig .tc := ⟨.hbm, 339, rfl⟩
abbrev main_call0_call1_v57 : Ref sig .tc := ⟨.hbm, 340, rfl⟩
abbrev main_call0_call1_v58 : Ref sig .tc := ⟨.hbm, 341, rfl⟩
abbrev main_call0_call1_v59 : Ref sig .tc := ⟨.hbm, 342, rfl⟩
abbrev main_call0_call1_v60 : Ref sig .tc := ⟨.hbm, 343, rfl⟩
abbrev main_call0_call1_v61 : Ref sig .tc := ⟨.hbm, 344, rfl⟩
abbrev main_call0_call1_c_15 : Ref sig .tc := ⟨.hbm, 345, rfl⟩
abbrev main_call0_call1_v62 : Ref sig .tc := ⟨.hbm, 346, rfl⟩
abbrev main_call0_call1_v63 : Ref sig .tc := ⟨.hbm, 347, rfl⟩
abbrev main_call0_call1_c_16 : Ref sig .tc := ⟨.hbm, 348, rfl⟩
abbrev main_call0_call1_v64 : Ref sig .tc := ⟨.hbm, 349, rfl⟩
abbrev main_call0_call1_v65 : Ref sig .tc := ⟨.hbm, 350, rfl⟩
abbrev main_call0_call1_v66 : Ref sig .tc := ⟨.hbm, 351, rfl⟩
abbrev main_call0_call1_v67 : Ref sig .tc := ⟨.hbm, 352, rfl⟩
abbrev main_call0_call1_v68 : Ref sig .tc := ⟨.hbm, 353, rfl⟩
abbrev main_call0_call1_v69 : Ref sig .tc := ⟨.hbm, 354, rfl⟩
abbrev main_call0_call1_v70 : Ref sig .tc := ⟨.hbm, 355, rfl⟩
abbrev main_call0_call1_v71 : Ref sig .tc := ⟨.hbm, 356, rfl⟩
abbrev main_call0_call1_c_17 : Ref sig .tc := ⟨.hbm, 357, rfl⟩
abbrev main_call0_call1_v72 : Ref sig .tc := ⟨.hbm, 358, rfl⟩
abbrev main_call0_call1_v73 : Ref sig .tc := ⟨.hbm, 359, rfl⟩
abbrev main_call0_call1_v74 : Ref sig .tc := ⟨.hbm, 360, rfl⟩
abbrev main_call0_call1_c_18 : Ref sig .tc := ⟨.hbm, 361, rfl⟩
abbrev main_call0_call1_v75 : Ref sig .tc := ⟨.hbm, 362, rfl⟩
abbrev main_call0_call1_v76 : Ref sig .tc := ⟨.hbm, 363, rfl⟩
abbrev main_call0_call1_c_19 : Ref sig .tc := ⟨.hbm, 364, rfl⟩
abbrev main_call0_call1_v77 : Ref sig .tc := ⟨.hbm, 365, rfl⟩
abbrev main_call0_call1_v78 : Ref sig .tc := ⟨.hbm, 366, rfl⟩
abbrev main_call0_call1_v79 : Ref sig .tc := ⟨.hbm, 367, rfl⟩
abbrev main_call0_call1_v80 : Ref sig .tc := ⟨.hbm, 368, rfl⟩
abbrev main_call0_call1_v81 : Ref sig .tc := ⟨.hbm, 369, rfl⟩
abbrev main_call0_call1_c_20 : Ref sig .tc := ⟨.hbm, 370, rfl⟩
abbrev main_call0_call1_v82 : Ref sig .tc := ⟨.hbm, 371, rfl⟩
abbrev main_call0_call1_v83 : Ref sig .tc := ⟨.hbm, 372, rfl⟩
abbrev main_call0_call1_c_21 : Ref sig .tc := ⟨.hbm, 373, rfl⟩
abbrev main_call0_call1_v84 : Ref sig .tc := ⟨.hbm, 374, rfl⟩
abbrev main_call0_call1_v85 : Ref sig .tc := ⟨.hbm, 375, rfl⟩
abbrev main_call0_call1_v86 : Ref sig .tc := ⟨.hbm, 376, rfl⟩
abbrev main_call0_call1_v87 : Ref sig .tc := ⟨.hbm, 377, rfl⟩
abbrev main_call0_call1_v88 : Ref sig .tc := ⟨.hbm, 378, rfl⟩
abbrev main_call0_call1_c_22 : Ref sig .tc := ⟨.hbm, 379, rfl⟩
abbrev main_call0_call1_v89 : Ref sig .tc := ⟨.hbm, 380, rfl⟩
abbrev main_call0_call1_v90 : Ref sig .tc := ⟨.hbm, 381, rfl⟩
abbrev main_call0_call1_c_23 : Ref sig .tc := ⟨.hbm, 382, rfl⟩
abbrev main_call0_call1_v91 : Ref sig .tc := ⟨.hbm, 383, rfl⟩
abbrev main_call0_call1_v92 : Ref sig .tc := ⟨.hbm, 384, rfl⟩
abbrev main_call0_call1_v93 : Ref sig .tc := ⟨.hbm, 385, rfl⟩
abbrev main_call0_call1_v94 : Ref sig .tc := ⟨.hbm, 386, rfl⟩
abbrev main_call0_call1_v95 : Ref sig .tc := ⟨.hbm, 387, rfl⟩
abbrev main_call0_call1_c_24 : Ref sig .tc := ⟨.hbm, 388, rfl⟩
abbrev main_call0_call1_v96 : Ref sig .tc := ⟨.hbm, 389, rfl⟩
abbrev main_call0_call1_v97 : Ref sig .tc := ⟨.hbm, 390, rfl⟩
abbrev main_call0_call1_c_25 : Ref sig .tc := ⟨.hbm, 391, rfl⟩
abbrev main_call0_call1_v98 : Ref sig .tc := ⟨.hbm, 392, rfl⟩
abbrev main_call0_call1_v99 : Ref sig .tc := ⟨.hbm, 393, rfl⟩
abbrev main_call0_call1_v100 : Ref sig .tc := ⟨.hbm, 394, rfl⟩
abbrev main_call0_call1_v101 : Ref sig .tc := ⟨.hbm, 395, rfl⟩
abbrev main_call0_call1_v102 : Ref sig .tc := ⟨.hbm, 396, rfl⟩
abbrev main_call0_call1_v103 : Ref sig .tc := ⟨.hbm, 397, rfl⟩
abbrev main_call0_call1_v104 : Ref sig .tc := ⟨.hbm, 398, rfl⟩
abbrev main_call0_call1_v105 : Ref sig .tc := ⟨.hbm, 399, rfl⟩
abbrev main_call0_call1_c_26 : Ref sig .tc := ⟨.hbm, 400, rfl⟩
abbrev main_call0_call1_v106 : Ref sig .tc := ⟨.hbm, 401, rfl⟩
abbrev main_call0_call1_v107 : Ref sig .tc := ⟨.hbm, 402, rfl⟩
abbrev main_call0_call1_v108 : Ref sig .tc := ⟨.hbm, 403, rfl⟩
abbrev main_call0_call1_c_27 : Ref sig .tc := ⟨.hbm, 404, rfl⟩
abbrev main_call0_call1_v109 : Ref sig .tc := ⟨.hbm, 405, rfl⟩
abbrev main_call0_call1_v110 : Ref sig .tc := ⟨.hbm, 406, rfl⟩
abbrev main_call0_call1_c_28 : Ref sig .tc := ⟨.hbm, 407, rfl⟩
abbrev main_call0_call1_v111 : Ref sig .tc := ⟨.hbm, 408, rfl⟩
abbrev main_call0_call1_v112 : Ref sig .tc := ⟨.hbm, 409, rfl⟩
abbrev main_call0_call1_v113 : Ref sig .tc := ⟨.hbm, 410, rfl⟩
abbrev main_call0_call1_v114 : Ref sig .tc := ⟨.hbm, 411, rfl⟩
abbrev main_call0_call1_v115 : Ref sig .tc := ⟨.hbm, 412, rfl⟩
abbrev main_call0_call1_c_29 : Ref sig .tc := ⟨.hbm, 413, rfl⟩
abbrev main_call0_call1_v116 : Ref sig .tc := ⟨.hbm, 414, rfl⟩
abbrev main_call0_call1_v117 : Ref sig .tc := ⟨.hbm, 415, rfl⟩
abbrev main_call0_call1_c_30 : Ref sig .tc := ⟨.hbm, 416, rfl⟩
abbrev main_call0_call1_v118 : Ref sig .tc := ⟨.hbm, 417, rfl⟩
abbrev main_call0_call1_v119 : Ref sig .tc := ⟨.hbm, 418, rfl⟩
abbrev main_call0_call1_v120 : Ref sig .tc := ⟨.hbm, 419, rfl⟩
abbrev main_call0_call1_v121 : Ref sig .tc := ⟨.hbm, 420, rfl⟩
abbrev main_call0_call1_v122 : Ref sig .tc := ⟨.hbm, 421, rfl⟩
abbrev main_call0_call1_c_31 : Ref sig .tc := ⟨.hbm, 422, rfl⟩
abbrev main_call0_call1_v123 : Ref sig .tc := ⟨.hbm, 423, rfl⟩
abbrev main_call0_call1_v124 : Ref sig .tc := ⟨.hbm, 424, rfl⟩
abbrev main_call0_call1_c_32 : Ref sig .tc := ⟨.hbm, 425, rfl⟩
abbrev main_call0_call1_v125 : Ref sig .tc := ⟨.hbm, 426, rfl⟩
abbrev main_call0_call1_v126 : Ref sig .tc := ⟨.hbm, 427, rfl⟩
abbrev main_call0_call1_v127 : Ref sig .tc := ⟨.hbm, 428, rfl⟩
abbrev main_call0_call1_v128 : Ref sig .tc := ⟨.hbm, 429, rfl⟩
abbrev main_call0_call1_v129 : Ref sig .tc := ⟨.hbm, 430, rfl⟩
abbrev main_call0_call1_c_33 : Ref sig .tc := ⟨.hbm, 431, rfl⟩
abbrev main_call0_call1_v130 : Ref sig .tc := ⟨.hbm, 432, rfl⟩
abbrev main_call0_call1_v131 : Ref sig .tc := ⟨.hbm, 433, rfl⟩
abbrev main_call0_call1_c_34 : Ref sig .tc := ⟨.hbm, 434, rfl⟩
abbrev main_call0_call1_v132 : Ref sig .tc := ⟨.hbm, 435, rfl⟩
abbrev main_call0_call1_v133 : Ref sig .tc := ⟨.hbm, 436, rfl⟩
abbrev main_call0_call1_v134 : Ref sig .tc := ⟨.hbm, 437, rfl⟩
abbrev main_call0_call1_v135 : Ref sig .tc := ⟨.hbm, 438, rfl⟩
abbrev main_call0_call1_v136 : Ref sig .tc := ⟨.hbm, 439, rfl⟩
abbrev main_call0_call1_v137 : Ref sig .tc := ⟨.hbm, 440, rfl⟩
abbrev main_call0_call1_v138 : Ref sig .tc := ⟨.hbm, 441, rfl⟩
abbrev main_call0_call1_v139 : Ref sig .tc := ⟨.hbm, 442, rfl⟩
abbrev main_call0_call1_c_35 : Ref sig .tc := ⟨.hbm, 443, rfl⟩
abbrev main_call0_call1_v140 : Ref sig .tc := ⟨.hbm, 444, rfl⟩
abbrev main_call0_call1_v141 : Ref sig .tc := ⟨.hbm, 445, rfl⟩
abbrev main_call0_call1_v142 : Ref sig .tc := ⟨.hbm, 446, rfl⟩
abbrev main_call0_call1_c_36 : Ref sig .tc := ⟨.hbm, 447, rfl⟩
abbrev main_call0_call1_v143 : Ref sig .tc := ⟨.hbm, 448, rfl⟩
abbrev main_call0_call1_v144 : Ref sig .tc := ⟨.hbm, 449, rfl⟩
abbrev main_call0_call1_c_37 : Ref sig .tc := ⟨.hbm, 450, rfl⟩
abbrev main_call0_call1_v145 : Ref sig .tc := ⟨.hbm, 451, rfl⟩
abbrev main_call0_call1_v146 : Ref sig .tc := ⟨.hbm, 452, rfl⟩
abbrev main_call0_call1_v147 : Ref sig .tc := ⟨.hbm, 453, rfl⟩
abbrev main_call0_call1_v148 : Ref sig .tc := ⟨.hbm, 454, rfl⟩
abbrev main_call0_call1_v149 : Ref sig .tc := ⟨.hbm, 455, rfl⟩
abbrev main_call0_call1_c_38 : Ref sig .tc := ⟨.hbm, 456, rfl⟩
abbrev main_call0_call1_v150 : Ref sig .tc := ⟨.hbm, 457, rfl⟩
abbrev main_call0_call1_v151 : Ref sig .tc := ⟨.hbm, 458, rfl⟩
abbrev main_call0_call1_c_39 : Ref sig .tc := ⟨.hbm, 459, rfl⟩
abbrev main_call0_call1_v152 : Ref sig .tc := ⟨.hbm, 460, rfl⟩
abbrev main_call0_call1_v153 : Ref sig .tc := ⟨.hbm, 461, rfl⟩
abbrev main_call0_call1_v154 : Ref sig .tc := ⟨.hbm, 462, rfl⟩
abbrev main_call0_call1_v155 : Ref sig .tc := ⟨.hbm, 463, rfl⟩
abbrev main_call0_call1_v156 : Ref sig .tc := ⟨.hbm, 464, rfl⟩
abbrev main_call0_call1_c_40 : Ref sig .tc := ⟨.hbm, 465, rfl⟩
abbrev main_call0_call1_v157 : Ref sig .tc := ⟨.hbm, 466, rfl⟩
abbrev main_call0_call1_v158 : Ref sig .tc := ⟨.hbm, 467, rfl⟩
abbrev main_call0_call1_c_41 : Ref sig .tc := ⟨.hbm, 468, rfl⟩
abbrev main_call0_call1_v159 : Ref sig .tc := ⟨.hbm, 469, rfl⟩
abbrev main_call0_call1_v160 : Ref sig .tc := ⟨.hbm, 470, rfl⟩
abbrev main_call0_call1_v161 : Ref sig .tc := ⟨.hbm, 471, rfl⟩
abbrev main_call0_call1_v162 : Ref sig .tc := ⟨.hbm, 472, rfl⟩
abbrev main_call0_call1_v163 : Ref sig .tc := ⟨.hbm, 473, rfl⟩
abbrev main_call0_call1_c_42 : Ref sig .tc := ⟨.hbm, 474, rfl⟩
abbrev main_call0_call1_v164 : Ref sig .tc := ⟨.hbm, 475, rfl⟩
abbrev main_call0_call1_v165 : Ref sig .tc := ⟨.hbm, 476, rfl⟩
abbrev main_call0_call1_c_43 : Ref sig .tc := ⟨.hbm, 477, rfl⟩
abbrev main_call0_call1_v166 : Ref sig .tc := ⟨.hbm, 478, rfl⟩
abbrev main_call0_call1_v167 : Ref sig .tc := ⟨.hbm, 479, rfl⟩
abbrev main_call0_call1_v168 : Ref sig .tc := ⟨.hbm, 480, rfl⟩
abbrev main_call0_call1_v169 : Ref sig .tc := ⟨.hbm, 481, rfl⟩
abbrev main_call0_call1_v170 : Ref sig .tc := ⟨.hbm, 482, rfl⟩
abbrev main_call0_v16_0 : Ref sig .tc := ⟨.hbm, 483, rfl⟩
abbrev main_call0_call1_v172 : Ref sig .tc := ⟨.hbm, 484, rfl⟩
abbrev main_call0_call1_v173 : Ref sig .tc := ⟨.hbm, 485, rfl⟩
abbrev main_call0_call1_c_44 : Ref sig .tc := ⟨.hbm, 486, rfl⟩
abbrev main_call0_call1_v174 : Ref sig .tc := ⟨.hbm, 487, rfl⟩
abbrev main_call0_v16_1 : Ref sig .tc := ⟨.hbm, 488, rfl⟩
abbrev main_call0_v17 : Ref sig .tc := ⟨.hbm, 489, rfl⟩
abbrev main_call0_v18_0 : Ref sig .tc := ⟨.hbm, 490, rfl⟩
abbrev main_call0_v18_1 : Ref sig .tc := ⟨.hbm, 491, rfl⟩
abbrev main_call0_call2_v0 : Ref sig .tc := ⟨.hbm, 492, rfl⟩
abbrev main_call0_call2_v1 : Ref sig .tc := ⟨.hbm, 493, rfl⟩
abbrev main_call0_call2_v2 : Ref sig .tc := ⟨.hbm, 494, rfl⟩
abbrev main_call0_call2_v3 : Ref sig .tc := ⟨.hbm, 495, rfl⟩
abbrev main_call0_call2_v4 : Ref sig .tc := ⟨.hbm, 496, rfl⟩
abbrev main_call0_call2_c : Ref sig .tc := ⟨.hbm, 497, rfl⟩
abbrev main_call0_call2_v5 : Ref sig .tc := ⟨.hbm, 498, rfl⟩
abbrev main_call0_call2_v6 : Ref sig .tc := ⟨.hbm, 499, rfl⟩
abbrev main_call0_call2_c_0 : Ref sig .tc := ⟨.hbm, 500, rfl⟩
abbrev main_call0_call2_v7 : Ref sig .tc := ⟨.hbm, 501, rfl⟩
abbrev main_call0_call2_v8 : Ref sig .tc := ⟨.hbm, 502, rfl⟩
abbrev main_call0_call2_v9 : Ref sig .tc := ⟨.hbm, 503, rfl⟩
abbrev main_call0_call2_v10 : Ref sig .tc := ⟨.hbm, 504, rfl⟩
abbrev main_call0_call2_call0_v0 : Ref sig .tc := ⟨.hbm, 505, rfl⟩
abbrev main_call0_call2_call0_c : Ref sig .tc := ⟨.hbm, 506, rfl⟩
abbrev main_call0_call2_call0_v1 : Ref sig .tc := ⟨.hbm, 507, rfl⟩
abbrev main_call0_call2_call0_v2 : Ref sig .tc := ⟨.hbm, 508, rfl⟩
abbrev main_call0_call2_call0_v3 : Ref sig .tc := ⟨.hbm, 509, rfl⟩
abbrev main_call0_call2_call0_v4 : Ref sig .tc := ⟨.hbm, 510, rfl⟩
abbrev main_call0_call2_call0_v5 : Ref sig .tc := ⟨.hbm, 511, rfl⟩
abbrev main_call0_call2_call0_v6 : Ref sig .tc := ⟨.hbm, 512, rfl⟩
abbrev main_call0_call2_call0_c_0 : Ref sig .tc := ⟨.hbm, 513, rfl⟩
abbrev main_call0_call2_call0_v7 : Ref sig .tc := ⟨.hbm, 514, rfl⟩
abbrev main_call0_call2_call0_v8 : Ref sig .tc := ⟨.hbm, 515, rfl⟩
abbrev main_call0_call2_call0_c_1 : Ref sig .tc := ⟨.hbm, 516, rfl⟩
abbrev main_call0_call2_call0_v9 : Ref sig .tc := ⟨.hbm, 517, rfl⟩
abbrev main_call0_call2_call0_v10 : Ref sig .tc := ⟨.hbm, 518, rfl⟩
abbrev main_call0_call2_call0_v11 : Ref sig .tc := ⟨.hbm, 519, rfl⟩
abbrev main_call0_call2_call0_v12 : Ref sig .tc := ⟨.hbm, 520, rfl⟩
abbrev main_call0_call2_call0_v13 : Ref sig .tc := ⟨.hbm, 521, rfl⟩
abbrev main_call0_call2_call0_c_2 : Ref sig .tc := ⟨.hbm, 522, rfl⟩
abbrev main_call0_call2_call0_v14 : Ref sig .tc := ⟨.hbm, 523, rfl⟩
abbrev main_call0_call2_call0_v15 : Ref sig .tc := ⟨.hbm, 524, rfl⟩
abbrev main_call0_call2_call0_c_3 : Ref sig .tc := ⟨.hbm, 525, rfl⟩
abbrev main_call0_call2_call0_v16 : Ref sig .tc := ⟨.hbm, 526, rfl⟩
abbrev main_call0_call2_call0_v17 : Ref sig .tc := ⟨.hbm, 527, rfl⟩
abbrev main_call0_call2_call0_v18 : Ref sig .tc := ⟨.hbm, 528, rfl⟩
abbrev main_call0_call2_call0_v19 : Ref sig .tc := ⟨.hbm, 529, rfl⟩
abbrev main_call0_call2_call0_v20 : Ref sig .tc := ⟨.hbm, 530, rfl⟩
abbrev main_call0_call2_call0_c_4 : Ref sig .tc := ⟨.hbm, 531, rfl⟩
abbrev main_call0_call2_call0_v21 : Ref sig .tc := ⟨.hbm, 532, rfl⟩
abbrev main_call0_call2_call0_v22 : Ref sig .tc := ⟨.hbm, 533, rfl⟩
abbrev main_call0_call2_call0_c_5 : Ref sig .tc := ⟨.hbm, 534, rfl⟩
abbrev main_call0_call2_call0_v23 : Ref sig .tc := ⟨.hbm, 535, rfl⟩
abbrev main_call0_call2_call0_v24 : Ref sig .tc := ⟨.hbm, 536, rfl⟩
abbrev main_call0_call2_call0_v25 : Ref sig .tc := ⟨.hbm, 537, rfl⟩
abbrev main_call0_call2_call0_v26 : Ref sig .tc := ⟨.hbm, 538, rfl⟩
abbrev main_call0_call2_call0_v27 : Ref sig .tc := ⟨.hbm, 539, rfl⟩
abbrev main_call0_call2_call0_c_6 : Ref sig .tc := ⟨.hbm, 540, rfl⟩
abbrev main_call0_call2_call0_v28 : Ref sig .tc := ⟨.hbm, 541, rfl⟩
abbrev main_call0_call2_call0_v29 : Ref sig .tc := ⟨.hbm, 542, rfl⟩
abbrev main_call0_call2_call0_c_7 : Ref sig .tc := ⟨.hbm, 543, rfl⟩
abbrev main_call0_call2_call0_v30 : Ref sig .tc := ⟨.hbm, 544, rfl⟩
abbrev main_call0_call2_call0_v31 : Ref sig .tc := ⟨.hbm, 545, rfl⟩
abbrev main_call0_call2_call0_v32 : Ref sig .tc := ⟨.hbm, 546, rfl⟩
abbrev main_call0_call2_call0_v33 : Ref sig .tc := ⟨.hbm, 547, rfl⟩
abbrev main_call0_call2_call0_v34 : Ref sig .tc := ⟨.hbm, 548, rfl⟩
abbrev main_call0_call2_call0_v35 : Ref sig .tc := ⟨.hbm, 549, rfl⟩
abbrev main_call0_call2_call0_v36 : Ref sig .tc := ⟨.hbm, 550, rfl⟩
abbrev main_call0_call2_call0_v37 : Ref sig .tc := ⟨.hbm, 551, rfl⟩
abbrev main_call0_call2_call0_c_8 : Ref sig .tc := ⟨.hbm, 552, rfl⟩
abbrev main_call0_call2_call0_v38 : Ref sig .tc := ⟨.hbm, 553, rfl⟩
abbrev main_call0_call2_call0_v39 : Ref sig .tc := ⟨.hbm, 554, rfl⟩
abbrev main_call0_call2_call0_v40 : Ref sig .tc := ⟨.hbm, 555, rfl⟩
abbrev main_call0_call2_call0_c_9 : Ref sig .tc := ⟨.hbm, 556, rfl⟩
abbrev main_call0_call2_call0_v41 : Ref sig .tc := ⟨.hbm, 557, rfl⟩
abbrev main_call0_call2_call0_v42 : Ref sig .tc := ⟨.hbm, 558, rfl⟩
abbrev main_call0_call2_call0_c_10 : Ref sig .tc := ⟨.hbm, 559, rfl⟩
abbrev main_call0_call2_call0_v43 : Ref sig .tc := ⟨.hbm, 560, rfl⟩
abbrev main_call0_call2_call0_v44 : Ref sig .tc := ⟨.hbm, 561, rfl⟩
abbrev main_call0_call2_call0_v45 : Ref sig .tc := ⟨.hbm, 562, rfl⟩
abbrev main_call0_call2_call0_v46 : Ref sig .tc := ⟨.hbm, 563, rfl⟩
abbrev main_call0_call2_call0_v47 : Ref sig .tc := ⟨.hbm, 564, rfl⟩
abbrev main_call0_call2_call0_c_11 : Ref sig .tc := ⟨.hbm, 565, rfl⟩
abbrev main_call0_call2_call0_v48 : Ref sig .tc := ⟨.hbm, 566, rfl⟩
abbrev main_call0_call2_call0_v49 : Ref sig .tc := ⟨.hbm, 567, rfl⟩
abbrev main_call0_call2_call0_c_12 : Ref sig .tc := ⟨.hbm, 568, rfl⟩
abbrev main_call0_call2_call0_v50 : Ref sig .tc := ⟨.hbm, 569, rfl⟩
abbrev main_call0_call2_call0_v51 : Ref sig .tc := ⟨.hbm, 570, rfl⟩
abbrev main_call0_call2_call0_v52 : Ref sig .tc := ⟨.hbm, 571, rfl⟩
abbrev main_call0_call2_call0_v53 : Ref sig .tc := ⟨.hbm, 572, rfl⟩
abbrev main_call0_call2_call0_v54 : Ref sig .tc := ⟨.hbm, 573, rfl⟩
abbrev main_call0_call2_call0_c_13 : Ref sig .tc := ⟨.hbm, 574, rfl⟩
abbrev main_call0_call2_call0_v55 : Ref sig .tc := ⟨.hbm, 575, rfl⟩
abbrev main_call0_call2_call0_v56 : Ref sig .tc := ⟨.hbm, 576, rfl⟩
abbrev main_call0_call2_call0_c_14 : Ref sig .tc := ⟨.hbm, 577, rfl⟩
abbrev main_call0_call2_call0_v57 : Ref sig .tc := ⟨.hbm, 578, rfl⟩
abbrev main_call0_call2_call0_v58 : Ref sig .tc := ⟨.hbm, 579, rfl⟩
abbrev main_call0_call2_call0_v59 : Ref sig .tc := ⟨.hbm, 580, rfl⟩
abbrev main_call0_call2_call0_v60 : Ref sig .tc := ⟨.hbm, 581, rfl⟩
abbrev main_call0_call2_call0_v61 : Ref sig .tc := ⟨.hbm, 582, rfl⟩
abbrev main_call0_call2_call0_c_15 : Ref sig .tc := ⟨.hbm, 583, rfl⟩
abbrev main_call0_call2_call0_v62 : Ref sig .tc := ⟨.hbm, 584, rfl⟩
abbrev main_call0_call2_call0_v63 : Ref sig .tc := ⟨.hbm, 585, rfl⟩
abbrev main_call0_call2_call0_c_16 : Ref sig .tc := ⟨.hbm, 586, rfl⟩
abbrev main_call0_call2_call0_v64 : Ref sig .tc := ⟨.hbm, 587, rfl⟩
abbrev main_call0_call2_call0_v65 : Ref sig .tc := ⟨.hbm, 588, rfl⟩
abbrev main_call0_call2_call0_v66 : Ref sig .tc := ⟨.hbm, 589, rfl⟩
abbrev main_call0_call2_call0_v67 : Ref sig .tc := ⟨.hbm, 590, rfl⟩
abbrev main_call0_call2_call0_v68 : Ref sig .tc := ⟨.hbm, 591, rfl⟩
abbrev main_call0_call2_call0_v69 : Ref sig .tc := ⟨.hbm, 592, rfl⟩
abbrev main_call0_call2_call0_v70 : Ref sig .tc := ⟨.hbm, 593, rfl⟩
abbrev main_call0_call2_call0_v71 : Ref sig .tc := ⟨.hbm, 594, rfl⟩
abbrev main_call0_call2_call0_c_17 : Ref sig .tc := ⟨.hbm, 595, rfl⟩
abbrev main_call0_call2_call0_v72 : Ref sig .tc := ⟨.hbm, 596, rfl⟩
abbrev main_call0_call2_call0_v73 : Ref sig .tc := ⟨.hbm, 597, rfl⟩
abbrev main_call0_call2_call0_v74 : Ref sig .tc := ⟨.hbm, 598, rfl⟩
abbrev main_call0_call2_call0_c_18 : Ref sig .tc := ⟨.hbm, 599, rfl⟩
abbrev main_call0_call2_call0_v75 : Ref sig .tc := ⟨.hbm, 600, rfl⟩
abbrev main_call0_call2_call0_v76 : Ref sig .tc := ⟨.hbm, 601, rfl⟩
abbrev main_call0_call2_call0_c_19 : Ref sig .tc := ⟨.hbm, 602, rfl⟩
abbrev main_call0_call2_call0_v77 : Ref sig .tc := ⟨.hbm, 603, rfl⟩
abbrev main_call0_call2_call0_v78 : Ref sig .tc := ⟨.hbm, 604, rfl⟩
abbrev main_call0_call2_call0_v79 : Ref sig .tc := ⟨.hbm, 605, rfl⟩
abbrev main_call0_call2_call0_v80 : Ref sig .tc := ⟨.hbm, 606, rfl⟩
abbrev main_call0_call2_call0_v81 : Ref sig .tc := ⟨.hbm, 607, rfl⟩
abbrev main_call0_call2_call0_c_20 : Ref sig .tc := ⟨.hbm, 608, rfl⟩
abbrev main_call0_call2_call0_v82 : Ref sig .tc := ⟨.hbm, 609, rfl⟩
abbrev main_call0_call2_call0_v83 : Ref sig .tc := ⟨.hbm, 610, rfl⟩
abbrev main_call0_call2_call0_c_21 : Ref sig .tc := ⟨.hbm, 611, rfl⟩
abbrev main_call0_call2_call0_v84 : Ref sig .tc := ⟨.hbm, 612, rfl⟩
abbrev main_call0_call2_call0_v85 : Ref sig .tc := ⟨.hbm, 613, rfl⟩
abbrev main_call0_call2_call0_v86 : Ref sig .tc := ⟨.hbm, 614, rfl⟩
abbrev main_call0_call2_call0_v87 : Ref sig .tc := ⟨.hbm, 615, rfl⟩
abbrev main_call0_call2_call0_v88 : Ref sig .tc := ⟨.hbm, 616, rfl⟩
abbrev main_call0_call2_call0_c_22 : Ref sig .tc := ⟨.hbm, 617, rfl⟩
abbrev main_call0_call2_call0_v89 : Ref sig .tc := ⟨.hbm, 618, rfl⟩
abbrev main_call0_call2_call0_v90 : Ref sig .tc := ⟨.hbm, 619, rfl⟩
abbrev main_call0_call2_call0_c_23 : Ref sig .tc := ⟨.hbm, 620, rfl⟩
abbrev main_call0_call2_call0_v91 : Ref sig .tc := ⟨.hbm, 621, rfl⟩
abbrev main_call0_call2_call0_v92 : Ref sig .tc := ⟨.hbm, 622, rfl⟩
abbrev main_call0_call2_call0_v93 : Ref sig .tc := ⟨.hbm, 623, rfl⟩
abbrev main_call0_call2_call0_v94 : Ref sig .tc := ⟨.hbm, 624, rfl⟩
abbrev main_call0_call2_call0_v95 : Ref sig .tc := ⟨.hbm, 625, rfl⟩
abbrev main_call0_call2_call0_c_24 : Ref sig .tc := ⟨.hbm, 626, rfl⟩
abbrev main_call0_call2_call0_v96 : Ref sig .tc := ⟨.hbm, 627, rfl⟩
abbrev main_call0_call2_call0_v97 : Ref sig .tc := ⟨.hbm, 628, rfl⟩
abbrev main_call0_call2_call0_c_25 : Ref sig .tc := ⟨.hbm, 629, rfl⟩
abbrev main_call0_call2_call0_v98 : Ref sig .tc := ⟨.hbm, 630, rfl⟩
abbrev main_call0_call2_call0_v99 : Ref sig .tc := ⟨.hbm, 631, rfl⟩
abbrev main_call0_call2_call0_v100 : Ref sig .tc := ⟨.hbm, 632, rfl⟩
abbrev main_call0_call2_call0_v101 : Ref sig .tc := ⟨.hbm, 633, rfl⟩
abbrev main_call0_call2_call0_v102 : Ref sig .tc := ⟨.hbm, 634, rfl⟩
abbrev main_call0_call2_call0_v103 : Ref sig .tc := ⟨.hbm, 635, rfl⟩
abbrev main_call0_call2_call0_v104 : Ref sig .tc := ⟨.hbm, 636, rfl⟩
abbrev main_call0_call2_call0_v105 : Ref sig .tc := ⟨.hbm, 637, rfl⟩
abbrev main_call0_call2_call0_c_26 : Ref sig .tc := ⟨.hbm, 638, rfl⟩
abbrev main_call0_call2_call0_v106 : Ref sig .tc := ⟨.hbm, 639, rfl⟩
abbrev main_call0_call2_call0_v107 : Ref sig .tc := ⟨.hbm, 640, rfl⟩
abbrev main_call0_call2_call0_v108 : Ref sig .tc := ⟨.hbm, 641, rfl⟩
abbrev main_call0_call2_call0_c_27 : Ref sig .tc := ⟨.hbm, 642, rfl⟩
abbrev main_call0_call2_call0_v109 : Ref sig .tc := ⟨.hbm, 643, rfl⟩
abbrev main_call0_call2_call0_v110 : Ref sig .tc := ⟨.hbm, 644, rfl⟩
abbrev main_call0_call2_call0_c_28 : Ref sig .tc := ⟨.hbm, 645, rfl⟩
abbrev main_call0_call2_call0_v111 : Ref sig .tc := ⟨.hbm, 646, rfl⟩
abbrev main_call0_call2_call0_v112 : Ref sig .tc := ⟨.hbm, 647, rfl⟩
abbrev main_call0_call2_call0_v113 : Ref sig .tc := ⟨.hbm, 648, rfl⟩
abbrev main_call0_call2_call0_v114 : Ref sig .tc := ⟨.hbm, 649, rfl⟩
abbrev main_call0_call2_call0_v115 : Ref sig .tc := ⟨.hbm, 650, rfl⟩
abbrev main_call0_call2_call0_c_29 : Ref sig .tc := ⟨.hbm, 651, rfl⟩
abbrev main_call0_call2_call0_v116 : Ref sig .tc := ⟨.hbm, 652, rfl⟩
abbrev main_call0_call2_call0_v117 : Ref sig .tc := ⟨.hbm, 653, rfl⟩
abbrev main_call0_call2_call0_c_30 : Ref sig .tc := ⟨.hbm, 654, rfl⟩
abbrev main_call0_call2_call0_v118 : Ref sig .tc := ⟨.hbm, 655, rfl⟩
abbrev main_call0_call2_call0_v119 : Ref sig .tc := ⟨.hbm, 656, rfl⟩
abbrev main_call0_call2_call0_v120 : Ref sig .tc := ⟨.hbm, 657, rfl⟩
abbrev main_call0_call2_call0_v121 : Ref sig .tc := ⟨.hbm, 658, rfl⟩
abbrev main_call0_call2_call0_v122 : Ref sig .tc := ⟨.hbm, 659, rfl⟩
abbrev main_call0_call2_call0_c_31 : Ref sig .tc := ⟨.hbm, 660, rfl⟩
abbrev main_call0_call2_call0_v123 : Ref sig .tc := ⟨.hbm, 661, rfl⟩
abbrev main_call0_call2_call0_v124 : Ref sig .tc := ⟨.hbm, 662, rfl⟩
abbrev main_call0_call2_call0_c_32 : Ref sig .tc := ⟨.hbm, 663, rfl⟩
abbrev main_call0_call2_call0_v125 : Ref sig .tc := ⟨.hbm, 664, rfl⟩
abbrev main_call0_call2_call0_v126 : Ref sig .tc := ⟨.hbm, 665, rfl⟩
abbrev main_call0_call2_call0_v127 : Ref sig .tc := ⟨.hbm, 666, rfl⟩
abbrev main_call0_call2_call0_v128 : Ref sig .tc := ⟨.hbm, 667, rfl⟩
abbrev main_call0_call2_call0_v129 : Ref sig .tc := ⟨.hbm, 668, rfl⟩
abbrev main_call0_call2_call0_c_33 : Ref sig .tc := ⟨.hbm, 669, rfl⟩
abbrev main_call0_call2_call0_v130 : Ref sig .tc := ⟨.hbm, 670, rfl⟩
abbrev main_call0_call2_call0_v131 : Ref sig .tc := ⟨.hbm, 671, rfl⟩
abbrev main_call0_call2_call0_c_34 : Ref sig .tc := ⟨.hbm, 672, rfl⟩
abbrev main_call0_call2_call0_v132 : Ref sig .tc := ⟨.hbm, 673, rfl⟩
abbrev main_call0_call2_call0_v133 : Ref sig .tc := ⟨.hbm, 674, rfl⟩
abbrev main_call0_call2_call0_v134 : Ref sig .tc := ⟨.hbm, 675, rfl⟩
abbrev main_call0_call2_call0_v135 : Ref sig .tc := ⟨.hbm, 676, rfl⟩
abbrev main_call0_call2_call0_v136 : Ref sig .tc := ⟨.hbm, 677, rfl⟩
abbrev main_call0_call2_call0_v137 : Ref sig .tc := ⟨.hbm, 678, rfl⟩
abbrev main_call0_call2_call0_v138 : Ref sig .tc := ⟨.hbm, 679, rfl⟩
abbrev main_call0_call2_call0_v139 : Ref sig .tc := ⟨.hbm, 680, rfl⟩
abbrev main_call0_call2_call0_c_35 : Ref sig .tc := ⟨.hbm, 681, rfl⟩
abbrev main_call0_call2_call0_v140 : Ref sig .tc := ⟨.hbm, 682, rfl⟩
abbrev main_call0_call2_call0_v141 : Ref sig .tc := ⟨.hbm, 683, rfl⟩
abbrev main_call0_call2_call0_v142 : Ref sig .tc := ⟨.hbm, 684, rfl⟩
abbrev main_call0_call2_call0_c_36 : Ref sig .tc := ⟨.hbm, 685, rfl⟩
abbrev main_call0_call2_call0_v143 : Ref sig .tc := ⟨.hbm, 686, rfl⟩
abbrev main_call0_call2_call0_v144 : Ref sig .tc := ⟨.hbm, 687, rfl⟩
abbrev main_call0_call2_call0_c_37 : Ref sig .tc := ⟨.hbm, 688, rfl⟩
abbrev main_call0_call2_call0_v145 : Ref sig .tc := ⟨.hbm, 689, rfl⟩
abbrev main_call0_call2_call0_v146 : Ref sig .tc := ⟨.hbm, 690, rfl⟩
abbrev main_call0_call2_call0_v147 : Ref sig .tc := ⟨.hbm, 691, rfl⟩
abbrev main_call0_call2_call0_v148 : Ref sig .tc := ⟨.hbm, 692, rfl⟩
abbrev main_call0_call2_call0_v149 : Ref sig .tc := ⟨.hbm, 693, rfl⟩
abbrev main_call0_call2_call0_c_38 : Ref sig .tc := ⟨.hbm, 694, rfl⟩
abbrev main_call0_call2_call0_v150 : Ref sig .tc := ⟨.hbm, 695, rfl⟩
abbrev main_call0_call2_call0_v151 : Ref sig .tc := ⟨.hbm, 696, rfl⟩
abbrev main_call0_call2_call0_c_39 : Ref sig .tc := ⟨.hbm, 697, rfl⟩
abbrev main_call0_call2_call0_v152 : Ref sig .tc := ⟨.hbm, 698, rfl⟩
abbrev main_call0_call2_call0_v153 : Ref sig .tc := ⟨.hbm, 699, rfl⟩
abbrev main_call0_call2_call0_v154 : Ref sig .tc := ⟨.hbm, 700, rfl⟩
abbrev main_call0_call2_call0_v155 : Ref sig .tc := ⟨.hbm, 701, rfl⟩
abbrev main_call0_call2_call0_v156 : Ref sig .tc := ⟨.hbm, 702, rfl⟩
abbrev main_call0_call2_call0_c_40 : Ref sig .tc := ⟨.hbm, 703, rfl⟩
abbrev main_call0_call2_call0_v157 : Ref sig .tc := ⟨.hbm, 704, rfl⟩
abbrev main_call0_call2_call0_v158 : Ref sig .tc := ⟨.hbm, 705, rfl⟩
abbrev main_call0_call2_call0_c_41 : Ref sig .tc := ⟨.hbm, 706, rfl⟩
abbrev main_call0_call2_call0_v159 : Ref sig .tc := ⟨.hbm, 707, rfl⟩
abbrev main_call0_call2_call0_v160 : Ref sig .tc := ⟨.hbm, 708, rfl⟩
abbrev main_call0_call2_call0_v161 : Ref sig .tc := ⟨.hbm, 709, rfl⟩
abbrev main_call0_call2_call0_v162 : Ref sig .tc := ⟨.hbm, 710, rfl⟩
abbrev main_call0_call2_call0_v163 : Ref sig .tc := ⟨.hbm, 711, rfl⟩
abbrev main_call0_call2_call0_c_42 : Ref sig .tc := ⟨.hbm, 712, rfl⟩
abbrev main_call0_call2_call0_v164 : Ref sig .tc := ⟨.hbm, 713, rfl⟩
abbrev main_call0_call2_call0_v165 : Ref sig .tc := ⟨.hbm, 714, rfl⟩
abbrev main_call0_call2_call0_c_43 : Ref sig .tc := ⟨.hbm, 715, rfl⟩
abbrev main_call0_call2_call0_v166 : Ref sig .tc := ⟨.hbm, 716, rfl⟩
abbrev main_call0_call2_call0_v167 : Ref sig .tc := ⟨.hbm, 717, rfl⟩
abbrev main_call0_call2_call0_v168 : Ref sig .tc := ⟨.hbm, 718, rfl⟩
abbrev main_call0_call2_call0_v169 : Ref sig .tc := ⟨.hbm, 719, rfl⟩
abbrev main_call0_call2_call0_v170 : Ref sig .tc := ⟨.hbm, 720, rfl⟩
abbrev main_call0_call2_v11_0 : Ref sig .tc := ⟨.hbm, 721, rfl⟩
abbrev main_call0_call2_call0_v172 : Ref sig .tc := ⟨.hbm, 722, rfl⟩
abbrev main_call0_call2_call0_v173 : Ref sig .tc := ⟨.hbm, 723, rfl⟩
abbrev main_call0_call2_call0_c_44 : Ref sig .tc := ⟨.hbm, 724, rfl⟩
abbrev main_call0_call2_call0_v174 : Ref sig .tc := ⟨.hbm, 725, rfl⟩
abbrev main_call0_call2_v11_1 : Ref sig .tc := ⟨.hbm, 726, rfl⟩
abbrev main_call0_call2_v12 : Ref sig .tc := ⟨.hbm, 727, rfl⟩
abbrev main_call0_call2_v13 : Ref sig .tc := ⟨.hbm, 728, rfl⟩
abbrev main_call0_v19 : Ref sig .tc := ⟨.hbm, 729, rfl⟩
abbrev main_call0_v20 : Ref sig .tc := ⟨.hbm, 730, rfl⟩
abbrev main_call0_v21 : Ref sig .tc := ⟨.hbm, 731, rfl⟩
abbrev main_call0_v22 : Ref sig .tc := ⟨.hbm, 732, rfl⟩
abbrev main_call0_v23 : Ref sig .tc := ⟨.hbm, 733, rfl⟩
abbrev main_call0_v24 : Ref sig .tc := ⟨.hbm, 734, rfl⟩
abbrev main_call0_v25 : Ref sig .tc := ⟨.hbm, 735, rfl⟩
abbrev main_call0_v26 : Ref sig .tc := ⟨.hbm, 736, rfl⟩
abbrev main_call0_v27 : Ref sig .tc := ⟨.hbm, 737, rfl⟩
abbrev main_call0_v28 : Ref sig .tc := ⟨.hbm, 738, rfl⟩
abbrev main_call0_c_1 : Ref sig .tc := ⟨.hbm, 739, rfl⟩
abbrev main_call0_v29 : Ref sig .tc := ⟨.hbm, 740, rfl⟩
abbrev main_call0_v30 : Ref sig .tc := ⟨.hbm, 741, rfl⟩
abbrev main_call0_c_2 : Ref sig .tc := ⟨.hbm, 742, rfl⟩
abbrev main_call0_v31 : Ref sig .tc := ⟨.hbm, 743, rfl⟩
abbrev main_call0_v32 : Ref sig .tc := ⟨.hbm, 744, rfl⟩
abbrev main_call0_v33 : Ref sig .tc := ⟨.hbm, 745, rfl⟩
abbrev main_call0_v34 : Ref sig .tc := ⟨.hbm, 746, rfl⟩
abbrev main_call0_call3_v0 : Ref sig .tc := ⟨.hbm, 747, rfl⟩
abbrev main_call0_call3_c : Ref sig .tc := ⟨.hbm, 748, rfl⟩
abbrev main_call0_call3_v1 : Ref sig .tc := ⟨.hbm, 749, rfl⟩
abbrev main_call0_call3_v2 : Ref sig .tc := ⟨.hbm, 750, rfl⟩
abbrev main_call0_call3_v3 : Ref sig .tc := ⟨.hbm, 751, rfl⟩
abbrev main_call0_call3_v4 : Ref sig .tc := ⟨.hbm, 752, rfl⟩
abbrev main_call0_call3_v5 : Ref sig .tc := ⟨.hbm, 753, rfl⟩
abbrev main_call0_call3_v6 : Ref sig .tc := ⟨.hbm, 754, rfl⟩
abbrev main_call0_call3_c_0 : Ref sig .tc := ⟨.hbm, 755, rfl⟩
abbrev main_call0_call3_v7 : Ref sig .tc := ⟨.hbm, 756, rfl⟩
abbrev main_call0_call3_v8 : Ref sig .tc := ⟨.hbm, 757, rfl⟩
abbrev main_call0_call3_c_1 : Ref sig .tc := ⟨.hbm, 758, rfl⟩
abbrev main_call0_call3_v9 : Ref sig .tc := ⟨.hbm, 759, rfl⟩
abbrev main_call0_call3_v10 : Ref sig .tc := ⟨.hbm, 760, rfl⟩
abbrev main_call0_call3_v11 : Ref sig .tc := ⟨.hbm, 761, rfl⟩
abbrev main_call0_call3_v12 : Ref sig .tc := ⟨.hbm, 762, rfl⟩
abbrev main_call0_call3_v13 : Ref sig .tc := ⟨.hbm, 763, rfl⟩
abbrev main_call0_call3_c_2 : Ref sig .tc := ⟨.hbm, 764, rfl⟩
abbrev main_call0_call3_v14 : Ref sig .tc := ⟨.hbm, 765, rfl⟩
abbrev main_call0_call3_v15 : Ref sig .tc := ⟨.hbm, 766, rfl⟩
abbrev main_call0_call3_c_3 : Ref sig .tc := ⟨.hbm, 767, rfl⟩
abbrev main_call0_call3_v16 : Ref sig .tc := ⟨.hbm, 768, rfl⟩
abbrev main_call0_call3_v17 : Ref sig .tc := ⟨.hbm, 769, rfl⟩
abbrev main_call0_call3_v18 : Ref sig .tc := ⟨.hbm, 770, rfl⟩
abbrev main_call0_call3_v19 : Ref sig .tc := ⟨.hbm, 771, rfl⟩
abbrev main_call0_call3_v20 : Ref sig .tc := ⟨.hbm, 772, rfl⟩
abbrev main_call0_call3_c_4 : Ref sig .tc := ⟨.hbm, 773, rfl⟩
abbrev main_call0_call3_v21 : Ref sig .tc := ⟨.hbm, 774, rfl⟩
abbrev main_call0_call3_v22 : Ref sig .tc := ⟨.hbm, 775, rfl⟩
abbrev main_call0_call3_c_5 : Ref sig .tc := ⟨.hbm, 776, rfl⟩
abbrev main_call0_call3_v23 : Ref sig .tc := ⟨.hbm, 777, rfl⟩
abbrev main_call0_call3_v24 : Ref sig .tc := ⟨.hbm, 778, rfl⟩
abbrev main_call0_call3_v25 : Ref sig .tc := ⟨.hbm, 779, rfl⟩
abbrev main_call0_call3_v26 : Ref sig .tc := ⟨.hbm, 780, rfl⟩
abbrev main_call0_call3_v27 : Ref sig .tc := ⟨.hbm, 781, rfl⟩
abbrev main_call0_call3_c_6 : Ref sig .tc := ⟨.hbm, 782, rfl⟩
abbrev main_call0_call3_v28 : Ref sig .tc := ⟨.hbm, 783, rfl⟩
abbrev main_call0_call3_v29 : Ref sig .tc := ⟨.hbm, 784, rfl⟩
abbrev main_call0_call3_c_7 : Ref sig .tc := ⟨.hbm, 785, rfl⟩
abbrev main_call0_call3_v30 : Ref sig .tc := ⟨.hbm, 786, rfl⟩
abbrev main_call0_call3_v31 : Ref sig .tc := ⟨.hbm, 787, rfl⟩
abbrev main_call0_call3_v32 : Ref sig .tc := ⟨.hbm, 788, rfl⟩
abbrev main_call0_call3_v33 : Ref sig .tc := ⟨.hbm, 789, rfl⟩
abbrev main_call0_call3_v34 : Ref sig .tc := ⟨.hbm, 790, rfl⟩
abbrev main_call0_call3_v35 : Ref sig .tc := ⟨.hbm, 791, rfl⟩
abbrev main_call0_call3_v36 : Ref sig .tc := ⟨.hbm, 792, rfl⟩
abbrev main_call0_call3_v37 : Ref sig .tc := ⟨.hbm, 793, rfl⟩
abbrev main_call0_call3_c_8 : Ref sig .tc := ⟨.hbm, 794, rfl⟩
abbrev main_call0_call3_v38 : Ref sig .tc := ⟨.hbm, 795, rfl⟩
abbrev main_call0_call3_v39 : Ref sig .tc := ⟨.hbm, 796, rfl⟩
abbrev main_call0_call3_v40 : Ref sig .tc := ⟨.hbm, 797, rfl⟩
abbrev main_call0_call3_c_9 : Ref sig .tc := ⟨.hbm, 798, rfl⟩
abbrev main_call0_call3_v41 : Ref sig .tc := ⟨.hbm, 799, rfl⟩
abbrev main_call0_call3_v42 : Ref sig .tc := ⟨.hbm, 800, rfl⟩
abbrev main_call0_call3_c_10 : Ref sig .tc := ⟨.hbm, 801, rfl⟩
abbrev main_call0_call3_v43 : Ref sig .tc := ⟨.hbm, 802, rfl⟩
abbrev main_call0_call3_v44 : Ref sig .tc := ⟨.hbm, 803, rfl⟩
abbrev main_call0_call3_v45 : Ref sig .tc := ⟨.hbm, 804, rfl⟩
abbrev main_call0_call3_v46 : Ref sig .tc := ⟨.hbm, 805, rfl⟩
abbrev main_call0_call3_v47 : Ref sig .tc := ⟨.hbm, 806, rfl⟩
abbrev main_call0_call3_c_11 : Ref sig .tc := ⟨.hbm, 807, rfl⟩
abbrev main_call0_call3_v48 : Ref sig .tc := ⟨.hbm, 808, rfl⟩
abbrev main_call0_call3_v49 : Ref sig .tc := ⟨.hbm, 809, rfl⟩
abbrev main_call0_call3_c_12 : Ref sig .tc := ⟨.hbm, 810, rfl⟩
abbrev main_call0_call3_v50 : Ref sig .tc := ⟨.hbm, 811, rfl⟩
abbrev main_call0_call3_v51 : Ref sig .tc := ⟨.hbm, 812, rfl⟩
abbrev main_call0_call3_v52 : Ref sig .tc := ⟨.hbm, 813, rfl⟩
abbrev main_call0_call3_v53 : Ref sig .tc := ⟨.hbm, 814, rfl⟩
abbrev main_call0_call3_v54 : Ref sig .tc := ⟨.hbm, 815, rfl⟩
abbrev main_call0_call3_c_13 : Ref sig .tc := ⟨.hbm, 816, rfl⟩
abbrev main_call0_call3_v55 : Ref sig .tc := ⟨.hbm, 817, rfl⟩
abbrev main_call0_call3_v56 : Ref sig .tc := ⟨.hbm, 818, rfl⟩
abbrev main_call0_call3_c_14 : Ref sig .tc := ⟨.hbm, 819, rfl⟩
abbrev main_call0_call3_v57 : Ref sig .tc := ⟨.hbm, 820, rfl⟩
abbrev main_call0_call3_v58 : Ref sig .tc := ⟨.hbm, 821, rfl⟩
abbrev main_call0_call3_v59 : Ref sig .tc := ⟨.hbm, 822, rfl⟩
abbrev main_call0_call3_v60 : Ref sig .tc := ⟨.hbm, 823, rfl⟩
abbrev main_call0_call3_v61 : Ref sig .tc := ⟨.hbm, 824, rfl⟩
abbrev main_call0_call3_c_15 : Ref sig .tc := ⟨.hbm, 825, rfl⟩
abbrev main_call0_call3_v62 : Ref sig .tc := ⟨.hbm, 826, rfl⟩
abbrev main_call0_call3_v63 : Ref sig .tc := ⟨.hbm, 827, rfl⟩
abbrev main_call0_call3_c_16 : Ref sig .tc := ⟨.hbm, 828, rfl⟩
abbrev main_call0_call3_v64 : Ref sig .tc := ⟨.hbm, 829, rfl⟩
abbrev main_call0_call3_v65 : Ref sig .tc := ⟨.hbm, 830, rfl⟩
abbrev main_call0_call3_v66 : Ref sig .tc := ⟨.hbm, 831, rfl⟩
abbrev main_call0_call3_v67 : Ref sig .tc := ⟨.hbm, 832, rfl⟩
abbrev main_call0_call3_v68 : Ref sig .tc := ⟨.hbm, 833, rfl⟩
abbrev main_call0_call3_v69 : Ref sig .tc := ⟨.hbm, 834, rfl⟩
abbrev main_call0_call3_v70 : Ref sig .tc := ⟨.hbm, 835, rfl⟩
abbrev main_call0_call3_v71 : Ref sig .tc := ⟨.hbm, 836, rfl⟩
abbrev main_call0_call3_c_17 : Ref sig .tc := ⟨.hbm, 837, rfl⟩
abbrev main_call0_call3_v72 : Ref sig .tc := ⟨.hbm, 838, rfl⟩
abbrev main_call0_call3_v73 : Ref sig .tc := ⟨.hbm, 839, rfl⟩
abbrev main_call0_call3_v74 : Ref sig .tc := ⟨.hbm, 840, rfl⟩
abbrev main_call0_call3_c_18 : Ref sig .tc := ⟨.hbm, 841, rfl⟩
abbrev main_call0_call3_v75 : Ref sig .tc := ⟨.hbm, 842, rfl⟩
abbrev main_call0_call3_v76 : Ref sig .tc := ⟨.hbm, 843, rfl⟩
abbrev main_call0_call3_c_19 : Ref sig .tc := ⟨.hbm, 844, rfl⟩
abbrev main_call0_call3_v77 : Ref sig .tc := ⟨.hbm, 845, rfl⟩
abbrev main_call0_call3_v78 : Ref sig .tc := ⟨.hbm, 846, rfl⟩
abbrev main_call0_call3_v79 : Ref sig .tc := ⟨.hbm, 847, rfl⟩
abbrev main_call0_call3_v80 : Ref sig .tc := ⟨.hbm, 848, rfl⟩
abbrev main_call0_call3_v81 : Ref sig .tc := ⟨.hbm, 849, rfl⟩
abbrev main_call0_call3_c_20 : Ref sig .tc := ⟨.hbm, 850, rfl⟩
abbrev main_call0_call3_v82 : Ref sig .tc := ⟨.hbm, 851, rfl⟩
abbrev main_call0_call3_v83 : Ref sig .tc := ⟨.hbm, 852, rfl⟩
abbrev main_call0_call3_c_21 : Ref sig .tc := ⟨.hbm, 853, rfl⟩
abbrev main_call0_call3_v84 : Ref sig .tc := ⟨.hbm, 854, rfl⟩
abbrev main_call0_call3_v85 : Ref sig .tc := ⟨.hbm, 855, rfl⟩
abbrev main_call0_call3_v86 : Ref sig .tc := ⟨.hbm, 856, rfl⟩
abbrev main_call0_call3_v87 : Ref sig .tc := ⟨.hbm, 857, rfl⟩
abbrev main_call0_call3_v88 : Ref sig .tc := ⟨.hbm, 858, rfl⟩
abbrev main_call0_call3_c_22 : Ref sig .tc := ⟨.hbm, 859, rfl⟩
abbrev main_call0_call3_v89 : Ref sig .tc := ⟨.hbm, 860, rfl⟩
abbrev main_call0_call3_v90 : Ref sig .tc := ⟨.hbm, 861, rfl⟩
abbrev main_call0_call3_c_23 : Ref sig .tc := ⟨.hbm, 862, rfl⟩
abbrev main_call0_call3_v91 : Ref sig .tc := ⟨.hbm, 863, rfl⟩
abbrev main_call0_call3_v92 : Ref sig .tc := ⟨.hbm, 864, rfl⟩
abbrev main_call0_call3_v93 : Ref sig .tc := ⟨.hbm, 865, rfl⟩
abbrev main_call0_call3_v94 : Ref sig .tc := ⟨.hbm, 866, rfl⟩
abbrev main_call0_call3_v95 : Ref sig .tc := ⟨.hbm, 867, rfl⟩
abbrev main_call0_call3_c_24 : Ref sig .tc := ⟨.hbm, 868, rfl⟩
abbrev main_call0_call3_v96 : Ref sig .tc := ⟨.hbm, 869, rfl⟩
abbrev main_call0_call3_v97 : Ref sig .tc := ⟨.hbm, 870, rfl⟩
abbrev main_call0_call3_c_25 : Ref sig .tc := ⟨.hbm, 871, rfl⟩
abbrev main_call0_call3_v98 : Ref sig .tc := ⟨.hbm, 872, rfl⟩
abbrev main_call0_call3_v99 : Ref sig .tc := ⟨.hbm, 873, rfl⟩
abbrev main_call0_call3_v100 : Ref sig .tc := ⟨.hbm, 874, rfl⟩
abbrev main_call0_call3_v101 : Ref sig .tc := ⟨.hbm, 875, rfl⟩
abbrev main_call0_call3_v102 : Ref sig .tc := ⟨.hbm, 876, rfl⟩
abbrev main_call0_call3_v103 : Ref sig .tc := ⟨.hbm, 877, rfl⟩
abbrev main_call0_call3_v104 : Ref sig .tc := ⟨.hbm, 878, rfl⟩
abbrev main_call0_call3_v105 : Ref sig .tc := ⟨.hbm, 879, rfl⟩
abbrev main_call0_call3_c_26 : Ref sig .tc := ⟨.hbm, 880, rfl⟩
abbrev main_call0_call3_v106 : Ref sig .tc := ⟨.hbm, 881, rfl⟩
abbrev main_call0_call3_v107 : Ref sig .tc := ⟨.hbm, 882, rfl⟩
abbrev main_call0_call3_v108 : Ref sig .tc := ⟨.hbm, 883, rfl⟩
abbrev main_call0_call3_c_27 : Ref sig .tc := ⟨.hbm, 884, rfl⟩
abbrev main_call0_call3_v109 : Ref sig .tc := ⟨.hbm, 885, rfl⟩
abbrev main_call0_call3_v110 : Ref sig .tc := ⟨.hbm, 886, rfl⟩
abbrev main_call0_call3_c_28 : Ref sig .tc := ⟨.hbm, 887, rfl⟩
abbrev main_call0_call3_v111 : Ref sig .tc := ⟨.hbm, 888, rfl⟩
abbrev main_call0_call3_v112 : Ref sig .tc := ⟨.hbm, 889, rfl⟩
abbrev main_call0_call3_v113 : Ref sig .tc := ⟨.hbm, 890, rfl⟩
abbrev main_call0_call3_v114 : Ref sig .tc := ⟨.hbm, 891, rfl⟩
abbrev main_call0_call3_v115 : Ref sig .tc := ⟨.hbm, 892, rfl⟩
abbrev main_call0_call3_c_29 : Ref sig .tc := ⟨.hbm, 893, rfl⟩
abbrev main_call0_call3_v116 : Ref sig .tc := ⟨.hbm, 894, rfl⟩
abbrev main_call0_call3_v117 : Ref sig .tc := ⟨.hbm, 895, rfl⟩
abbrev main_call0_call3_c_30 : Ref sig .tc := ⟨.hbm, 896, rfl⟩
abbrev main_call0_call3_v118 : Ref sig .tc := ⟨.hbm, 897, rfl⟩
abbrev main_call0_call3_v119 : Ref sig .tc := ⟨.hbm, 898, rfl⟩
abbrev main_call0_call3_v120 : Ref sig .tc := ⟨.hbm, 899, rfl⟩
abbrev main_call0_call3_v121 : Ref sig .tc := ⟨.hbm, 900, rfl⟩
abbrev main_call0_call3_v122 : Ref sig .tc := ⟨.hbm, 901, rfl⟩
abbrev main_call0_call3_c_31 : Ref sig .tc := ⟨.hbm, 902, rfl⟩
abbrev main_call0_call3_v123 : Ref sig .tc := ⟨.hbm, 903, rfl⟩
abbrev main_call0_call3_v124 : Ref sig .tc := ⟨.hbm, 904, rfl⟩
abbrev main_call0_call3_c_32 : Ref sig .tc := ⟨.hbm, 905, rfl⟩
abbrev main_call0_call3_v125 : Ref sig .tc := ⟨.hbm, 906, rfl⟩
abbrev main_call0_call3_v126 : Ref sig .tc := ⟨.hbm, 907, rfl⟩
abbrev main_call0_call3_v127 : Ref sig .tc := ⟨.hbm, 908, rfl⟩
abbrev main_call0_call3_v128 : Ref sig .tc := ⟨.hbm, 909, rfl⟩
abbrev main_call0_call3_v129 : Ref sig .tc := ⟨.hbm, 910, rfl⟩
abbrev main_call0_call3_c_33 : Ref sig .tc := ⟨.hbm, 911, rfl⟩
abbrev main_call0_call3_v130 : Ref sig .tc := ⟨.hbm, 912, rfl⟩
abbrev main_call0_call3_v131 : Ref sig .tc := ⟨.hbm, 913, rfl⟩
abbrev main_call0_call3_c_34 : Ref sig .tc := ⟨.hbm, 914, rfl⟩
abbrev main_call0_call3_v132 : Ref sig .tc := ⟨.hbm, 915, rfl⟩
abbrev main_call0_call3_v133 : Ref sig .tc := ⟨.hbm, 916, rfl⟩
abbrev main_call0_call3_v134 : Ref sig .tc := ⟨.hbm, 917, rfl⟩
abbrev main_call0_call3_v135 : Ref sig .tc := ⟨.hbm, 918, rfl⟩
abbrev main_call0_call3_v136 : Ref sig .tc := ⟨.hbm, 919, rfl⟩
abbrev main_call0_call3_v137 : Ref sig .tc := ⟨.hbm, 920, rfl⟩
abbrev main_call0_call3_v138 : Ref sig .tc := ⟨.hbm, 921, rfl⟩
abbrev main_call0_call3_v139 : Ref sig .tc := ⟨.hbm, 922, rfl⟩
abbrev main_call0_call3_c_35 : Ref sig .tc := ⟨.hbm, 923, rfl⟩
abbrev main_call0_call3_v140 : Ref sig .tc := ⟨.hbm, 924, rfl⟩
abbrev main_call0_call3_v141 : Ref sig .tc := ⟨.hbm, 925, rfl⟩
abbrev main_call0_call3_v142 : Ref sig .tc := ⟨.hbm, 926, rfl⟩
abbrev main_call0_call3_c_36 : Ref sig .tc := ⟨.hbm, 927, rfl⟩
abbrev main_call0_call3_v143 : Ref sig .tc := ⟨.hbm, 928, rfl⟩
abbrev main_call0_call3_v144 : Ref sig .tc := ⟨.hbm, 929, rfl⟩
abbrev main_call0_call3_c_37 : Ref sig .tc := ⟨.hbm, 930, rfl⟩
abbrev main_call0_call3_v145 : Ref sig .tc := ⟨.hbm, 931, rfl⟩
abbrev main_call0_call3_v146 : Ref sig .tc := ⟨.hbm, 932, rfl⟩
abbrev main_call0_call3_v147 : Ref sig .tc := ⟨.hbm, 933, rfl⟩
abbrev main_call0_call3_v148 : Ref sig .tc := ⟨.hbm, 934, rfl⟩
abbrev main_call0_call3_v149 : Ref sig .tc := ⟨.hbm, 935, rfl⟩
abbrev main_call0_call3_c_38 : Ref sig .tc := ⟨.hbm, 936, rfl⟩
abbrev main_call0_call3_v150 : Ref sig .tc := ⟨.hbm, 937, rfl⟩
abbrev main_call0_call3_v151 : Ref sig .tc := ⟨.hbm, 938, rfl⟩
abbrev main_call0_call3_c_39 : Ref sig .tc := ⟨.hbm, 939, rfl⟩
abbrev main_call0_call3_v152 : Ref sig .tc := ⟨.hbm, 940, rfl⟩
abbrev main_call0_call3_v153 : Ref sig .tc := ⟨.hbm, 941, rfl⟩
abbrev main_call0_call3_v154 : Ref sig .tc := ⟨.hbm, 942, rfl⟩
abbrev main_call0_call3_v155 : Ref sig .tc := ⟨.hbm, 943, rfl⟩
abbrev main_call0_call3_v156 : Ref sig .tc := ⟨.hbm, 944, rfl⟩
abbrev main_call0_call3_c_40 : Ref sig .tc := ⟨.hbm, 945, rfl⟩
abbrev main_call0_call3_v157 : Ref sig .tc := ⟨.hbm, 946, rfl⟩
abbrev main_call0_call3_v158 : Ref sig .tc := ⟨.hbm, 947, rfl⟩
abbrev main_call0_call3_c_41 : Ref sig .tc := ⟨.hbm, 948, rfl⟩
abbrev main_call0_call3_v159 : Ref sig .tc := ⟨.hbm, 949, rfl⟩
abbrev main_call0_call3_v160 : Ref sig .tc := ⟨.hbm, 950, rfl⟩
abbrev main_call0_call3_v161 : Ref sig .tc := ⟨.hbm, 951, rfl⟩
abbrev main_call0_call3_v162 : Ref sig .tc := ⟨.hbm, 952, rfl⟩
abbrev main_call0_call3_v163 : Ref sig .tc := ⟨.hbm, 953, rfl⟩
abbrev main_call0_call3_c_42 : Ref sig .tc := ⟨.hbm, 954, rfl⟩
abbrev main_call0_call3_v164 : Ref sig .tc := ⟨.hbm, 955, rfl⟩
abbrev main_call0_call3_v165 : Ref sig .tc := ⟨.hbm, 956, rfl⟩
abbrev main_call0_call3_c_43 : Ref sig .tc := ⟨.hbm, 957, rfl⟩
abbrev main_call0_call3_v166 : Ref sig .tc := ⟨.hbm, 958, rfl⟩
abbrev main_call0_call3_v167 : Ref sig .tc := ⟨.hbm, 959, rfl⟩
abbrev main_call0_call3_v168 : Ref sig .tc := ⟨.hbm, 960, rfl⟩
abbrev main_call0_call3_v169 : Ref sig .tc := ⟨.hbm, 961, rfl⟩
abbrev main_call0_call3_v170 : Ref sig .tc := ⟨.hbm, 962, rfl⟩
abbrev main_call0_v35_0 : Ref sig .tc := ⟨.hbm, 963, rfl⟩
abbrev main_call0_call3_v172 : Ref sig .tc := ⟨.hbm, 964, rfl⟩
abbrev main_call0_call3_v173 : Ref sig .tc := ⟨.hbm, 965, rfl⟩
abbrev main_call0_call3_c_44 : Ref sig .tc := ⟨.hbm, 966, rfl⟩
abbrev main_call0_call3_v174 : Ref sig .tc := ⟨.hbm, 967, rfl⟩
abbrev main_call0_v35_1 : Ref sig .tc := ⟨.hbm, 968, rfl⟩
abbrev main_call0_v36 : Ref sig .tc := ⟨.hbm, 969, rfl⟩
abbrev main_call0_v37_0 : Ref sig .tc := ⟨.hbm, 970, rfl⟩
abbrev main_v8 : Ref sig .tc := ⟨.hbm, 971, rfl⟩
abbrev main_v9 : Ref sig .tc := ⟨.hbm, 972, rfl⟩
abbrev main_c_2 : Ref sig .tc := ⟨.hbm, 973, rfl⟩
abbrev main_v10 : Ref sig .tc := ⟨.hbm, 974, rfl⟩
abbrev main_v11 : Ref sig .tc := ⟨.hbm, 975, rfl⟩
abbrev main_c_3 : Ref sig .tc := ⟨.hbm, 976, rfl⟩
abbrev main_v12 : Ref sig .tc := ⟨.hbm, 977, rfl⟩
abbrev main_v13 : Ref sig .tc := ⟨.hbm, 978, rfl⟩
abbrev main_v14 : Ref sig .tc := ⟨.hbm, 979, rfl⟩
abbrev main_v15 : Ref sig .tc := ⟨.hbm, 980, rfl⟩
abbrev main_v16 : Ref sig .tc := ⟨.hbm, 981, rfl⟩
abbrev main_v17 : Ref sig .tc := ⟨.hbm, 982, rfl⟩
abbrev main_v18 : Ref sig .tc := ⟨.hbm, 983, rfl⟩
abbrev main_c_4 : Ref sig .tc := ⟨.hbm, 984, rfl⟩
abbrev main_v19 : Ref sig .tc := ⟨.hbm, 985, rfl⟩
abbrev main_v20 : Ref sig .tc := ⟨.hbm, 986, rfl⟩
abbrev main_v21 : Ref sig .tc := ⟨.hbm, 987, rfl⟩
abbrev main_v22 : Ref sig .tc := ⟨.hbm, 988, rfl⟩
abbrev main_v23 : Ref sig .tc := ⟨.hbm, 989, rfl⟩
abbrev main_v24 : Ref sig .tc := ⟨.hbm, 990, rfl⟩
abbrev main_v25 : Ref sig .tc := ⟨.hbm, 991, rfl⟩
abbrev main_v26 : Ref sig .tc := ⟨.hbm, 992, rfl⟩
abbrev main_v27 : Ref sig .tc := ⟨.hbm, 993, rfl⟩
abbrev main_cst : Ref sig .tc := ⟨.hbm, 994, rfl⟩
abbrev main_v28 : Ref sig .tc := ⟨.hbm, 995, rfl⟩
abbrev main_call1_v0 : Ref sig .tc := ⟨.hbm, 996, rfl⟩
abbrev main_call1_cst : Ref sig .tc := ⟨.hbm, 997, rfl⟩
abbrev main_call1_c : Ref sig .tc := ⟨.hbm, 998, rfl⟩
abbrev main_call1_v1_0 : Ref sig .tc := ⟨.hbm, 999, rfl⟩
abbrev main_v29 : Ref sig .tc := ⟨.hbm, 1000, rfl⟩
abbrev main_v30 : Ref sig .tc := ⟨.hbm, 1001, rfl⟩
abbrev main_v31 : Ref sig .tc := ⟨.hbm, 1002, rfl⟩
abbrev main_v32 : Ref sig .tc := ⟨.hbm, 1003, rfl⟩
abbrev main_cst_5 : Ref sig .tc := ⟨.hbm, 1004, rfl⟩
abbrev main_v33 : Ref sig .tc := ⟨.hbm, 1005, rfl⟩
abbrev main_v34 : Ref sig .tc := ⟨.hbm, 1006, rfl⟩
abbrev main_v35 : Ref sig .tc := ⟨.hbm, 1007, rfl⟩
abbrev main_cst_6 : Ref sig .tc := ⟨.hbm, 1008, rfl⟩
abbrev main_v36 : Ref sig .tc := ⟨.hbm, 1009, rfl⟩
abbrev main_cst_7 : Ref sig .tc := ⟨.hbm, 1010, rfl⟩
abbrev main_v37 : Ref sig .tc := ⟨.hbm, 1011, rfl⟩
abbrev main_v38 : Ref sig .tc := ⟨.hbm, 1012, rfl⟩
abbrev main_v39 : Ref sig .tc := ⟨.hbm, 1013, rfl⟩
abbrev main_v40 : Ref sig .tc := ⟨.hbm, 1014, rfl⟩
abbrev main_v41 : Ref sig .tc := ⟨.hbm, 1015, rfl⟩
abbrev main_v42 : Ref sig .tc := ⟨.hbm, 1016, rfl⟩
abbrev main_v43 : Ref sig .tc := ⟨.hbm, 1017, rfl⟩
abbrev main_v44 : Ref sig .tc := ⟨.hbm, 1018, rfl⟩
abbrev main_v45 : Ref sig .tc := ⟨.hbm, 1019, rfl⟩
abbrev main_v46 : Ref sig .tc := ⟨.hbm, 1020, rfl⟩
abbrev main_v47 : Ref sig .tc := ⟨.hbm, 1021, rfl⟩
abbrev main_cst_8 : Ref sig .tc := ⟨.hbm, 1022, rfl⟩
abbrev main_v48 : Ref sig .tc := ⟨.hbm, 1023, rfl⟩
abbrev main_call2_v0 : Ref sig .tc := ⟨.hbm, 1024, rfl⟩
abbrev main_call2_cst : Ref sig .tc := ⟨.hbm, 1025, rfl⟩
abbrev main_call2_c : Ref sig .tc := ⟨.hbm, 1026, rfl⟩
abbrev main_call2_v1_0 : Ref sig .tc := ⟨.hbm, 1027, rfl⟩
abbrev main_v49 : Ref sig .tc := ⟨.hbm, 1028, rfl⟩
abbrev main_v50 : Ref sig .tc := ⟨.hbm, 1029, rfl⟩
abbrev main_v51 : Ref sig .tc := ⟨.hbm, 1030, rfl⟩
abbrev main_v52 : Ref sig .tc := ⟨.hbm, 1031, rfl⟩
abbrev main_cst_9 : Ref sig .tc := ⟨.hbm, 1032, rfl⟩
abbrev main_v53 : Ref sig .tc := ⟨.hbm, 1033, rfl⟩
abbrev main_v54 : Ref sig .tc := ⟨.hbm, 1034, rfl⟩
abbrev main_v55 : Ref sig .tc := ⟨.hbm, 1035, rfl⟩
abbrev main_cst_10 : Ref sig .tc := ⟨.hbm, 1036, rfl⟩
abbrev main_v56 : Ref sig .tc := ⟨.hbm, 1037, rfl⟩
abbrev main_cst_11 : Ref sig .tc := ⟨.hbm, 1038, rfl⟩
abbrev main_v57 : Ref sig .tc := ⟨.hbm, 1039, rfl⟩
abbrev main_v58 : Ref sig .tc := ⟨.hbm, 1040, rfl⟩
abbrev main_v59 : Ref sig .tc := ⟨.hbm, 1041, rfl⟩
abbrev main_v60 : Ref sig .tc := ⟨.hbm, 1042, rfl⟩
abbrev main_v61 : Ref sig .tc := ⟨.hbm, 1043, rfl⟩
abbrev main_v62 : Ref sig .tc := ⟨.hbm, 1044, rfl⟩
abbrev main_v63 : Ref sig .tc := ⟨.hbm, 1045, rfl⟩
abbrev main_v64 : Ref sig .tc := ⟨.hbm, 1046, rfl⟩
abbrev main_v65 : Ref sig .tc := ⟨.hbm, 1047, rfl⟩
abbrev main_v66 : Ref sig .tc := ⟨.hbm, 1048, rfl⟩
abbrev main_v67 : Ref sig .tc := ⟨.hbm, 1049, rfl⟩
abbrev main_cst_12 : Ref sig .tc := ⟨.hbm, 1050, rfl⟩
abbrev main_v68 : Ref sig .tc := ⟨.hbm, 1051, rfl⟩
abbrev main_call3_v0 : Ref sig .tc := ⟨.hbm, 1052, rfl⟩
abbrev main_call3_cst : Ref sig .tc := ⟨.hbm, 1053, rfl⟩
abbrev main_call3_c : Ref sig .tc := ⟨.hbm, 1054, rfl⟩
abbrev main_call3_v1_0 : Ref sig .tc := ⟨.hbm, 1055, rfl⟩
abbrev main_v69 : Ref sig .tc := ⟨.hbm, 1056, rfl⟩
abbrev main_v70 : Ref sig .tc := ⟨.hbm, 1057, rfl⟩

abbrev nD : Nat := 1
abbrev τ : Topo := Topo.v7x

variable {F : FTy → Type} [FloatOps F]
-- ==== Proof.Sim.lean ====
/- Two programs whose host operations run in step: operation number `n` of each writes HBM buffer number `n`, computed by the
   same function from buffers of equal numbers. What the buffers below `n` hold then stays the same on both sides. -/
module

public import Idealize.ShloMosaic.Lib.StableHlo.Run

@[expose] public section

noncomputable section

namespace Cert.Sim

open Idealize.ShloMosaic Idealize.ShloMosaic.StableHlo

variable {τ τ' : Topo} {sig sig' : RefSig} {Val : EltTy → Type}

/-- A reference to HBM buffer number `n`. -/
def At (r : Ref sig .tc) (n : Nat) : Prop := r.space = .hbm ∧ (r.idx : Nat) = n

/-- Two references to the same buffer number are one. -/
theorem At.eq {r s : Ref sig .tc} {n : Nat} (hr : At r n) (hs : At s n) : r = s := by
  obtain ⟨sp, i, h⟩ := r
  obtain ⟨sp', i', h'⟩ := s
  obtain ⟨h1, h2⟩ := hr
  obtain ⟨h3, h4⟩ := hs
  dsimp only at h1 h2 h3 h4
  subst h1; subst h3
  obtain rfl : i = i' := Fin.ext (h2.trans h4.symm)
  rfl

/-- References to different buffer numbers differ. -/
theorem At.ne {r s : Ref sig .tc} {n k : Nat} (hr : At r n) (hs : At s k) (h : n ≠ k) : r ≠ s := by
  rintro rfl; exact h (hr.2.symm.trans hs.2)

/-- The buffers numbered below `n` hold the same on both sides. -/
def Agree (n : Nat) (v : Valuation τ sig Val) (w : Valuation τ' sig' Val) : Prop :=
  ∀ (r : Ref sig .tc) (s : Ref sig' .tc) (k : Nat), At r k → At s k → k < n → HEq (v (Proc.devRef .tc r)) (w (Proc.devRef .tc s))

/-- Operation `b` leaves the buffers below `n` as they are, and run beside `a` it carries agreement below `n` to agreement
    below `n + 1`. -/
structure Step (n : Nat) (a : HloOp τ sig Val) (b : HloOp τ' sig' Val) : Prop where
  agree : ∀ v w, Agree n v w → Agree (n + 1) (a.result v) (b.result w)
  keep : ∀ w (s : Ref sig' .tc) (k : Nat), At s k → k < n → b.result w (Proc.devRef .tc s) = w (Proc.devRef .tc s)

/-- Lists of operations in step from number `n` on, down to a rest of each. -/
inductive Steps : Nat → List (HloOp τ sig Val) → List (HloOp τ' sig' Val) → Nat → List (HloOp τ sig Val) → List (HloOp τ' sig' Val) → Prop
  | done (n l l') : Steps n l l' n l l'
  | cons {n a b l l' m t t'} : Step n a b → Steps (n + 1) l l' m t t' → Steps n (a :: l) (b :: l') m t t'

/-- Lists in step run to valuations that agree, from which the rests run. -/
theorem Steps.run {n m : Nat} {l t : List (HloOp τ sig Val)} {l' t' : List (HloOp τ' sig' Val)} (h : Steps n l l' m t t') :
    ∀ v w, Agree n v w → ∃ v' w', Agree m v' w' ∧ after l v = after t v' ∧ after l' w = after t' w' := by
  induction h with
  | done n l l' => exact fun v w hvw => ⟨v, w, hvw, rfl, rfl⟩
  | cons hs _ ih => exact fun v w hvw => ih _ _ (hs.agree v w hvw)

/-- The second list's fold comes to its rest with the buffers below `n` as they were. -/
theorem Steps.keep {n m : Nat} {l t : List (HloOp τ sig Val)} {l' t' : List (HloOp τ' sig' Val)} (h : Steps n l l' m t t') :
    ∀ w : Valuation τ' sig' Val, ∃ w', after l' w = after t' w' ∧
      ∀ (s : Ref sig' .tc) (k : Nat), At s k → k < n → w' (Proc.devRef .tc s) = w (Proc.devRef .tc s) := by
  induction h with
  | done n l l' => exact fun w => ⟨w, rfl, fun _ _ _ _ => rfl⟩
  | cons hs _ ih =>
    intro w
    obtain ⟨w', h1, h2⟩ := ih (HloOp.result _ w)
    exact ⟨w', h1, fun s k hk hlt => (h2 s k hk (Nat.lt_succ_of_lt hlt)).trans (hs.keep w s k hk hlt)⟩

/-- An operation's step from what it writes and that the written values are the same. -/
theorem Step.of_writes {n : Nat} {a : HloOp τ sig Val} {b : HloOp τ' sig' Val} (y : Ref sig .tc) (y' : Ref sig' .tc)
    (hy : At y n) (hy' : At y' n) (ha : a.writes = {Proc.devRef .tc y}) (hb : b.writes = {Proc.devRef .tc y'})
    (h : ∀ v w, Agree n v w → HEq (a.result v (Proc.devRef .tc y)) (b.result w (Proc.devRef .tc y'))) : Step n a b := by
  have hkeep : ∀ w (s : Ref sig' .tc) (k : Nat), At s k → k < n → b.result w (Proc.devRef .tc s) = w (Proc.devRef .tc s) :=
    fun w s k hs hk => result_of_writes_ne b w y' s hb (hs.ne hy' (Nat.ne_of_lt hk))
  refine ⟨fun v w hvw r s k hr hs hk => ?_, hkeep⟩
  rcases Nat.lt_succ_iff_lt_or_eq.mp hk with hlt | rfl
  · rw [hkeep w s k hs hlt, result_of_writes_ne a v y r ha (hr.ne hy (Nat.ne_of_lt hlt))]
    exact hvw r s k hr hs hlt
  · obtain rfl := hr.eq hy
    obtain rfl := hs.eq hy'
    exact h v w hvw

/-- Equal functions at equal arguments, across types that are equal. -/
theorem heq_app {A A' B B' : Type} (hA : A = A') (hB : B = B') {f : A → B} {f' : A' → B'} (hf : HEq f f') {a : A} {a' : A'}
    (ha : HEq a a') : HEq (f a) (f' a') := by
  subst hA; subst hB
  rw [eq_of_heq hf, eq_of_heq ha]

/-- Equal buffer types have equal contents. -/
theorem contents_congr {T T' : BufTy} (h : T = T') : T.Contents Val = T'.Contents Val := by rw [h]

/-- Function types between equal types are equal. -/
theorem fun_congr {A A' B B' : Type} (hA : A = A') (hB : B = B') : (A → B) = (A' → B') := by rw [hA, hB]

section Builders

variable {n : Nat} (x a b c y : Ref sig .tc) (x' a' b' c' y' : Ref sig' .tc)

/-- A constant: the same value. -/
theorem step_nullary (v : y.ty.Contents Val) (v' : y'.ty.Contents Val) (hy hy') (h : At y n) (h' : At y' n) (hv : HEq v v') :
    Step n (nullary (τ := τ) y v hy) (nullary (τ := τ') y' v' hy') :=
  .of_writes y y' h h' rfl rfl fun v w _ => by rw [nullary_result, nullary_result]; exact hv

/-- A one-operand operation: the same function of a buffer of the same number. -/
theorem step_unary (f : x.ty.Contents Val → y.ty.Contents Val) (f' : x'.ty.Contents Val → y'.ty.Contents Val) (hx hy hx' hy')
    (h : At y n) (h' : At y' n) (k : Nat) (k1 : At x k) (k2 : At x' k) (kn : k < n)
    (tx : x.ty = x'.ty) (ty : y.ty = y'.ty) (hf : HEq f f') :
    Step n (unary (τ := τ) x y f hx hy) (unary (τ := τ') x' y' f' hx' hy') :=
  .of_writes y y' h h' rfl rfl fun v w hvw => by
    rw [unary_result, unary_result]
    exact heq_app (contents_congr tx) (contents_congr ty) hf (hvw _ _ _ k1 k2 kn)

/-- A two-operand operation. -/
theorem step_binary (f : a.ty.Contents Val → b.ty.Contents Val → y.ty.Contents Val)
    (f' : a'.ty.Contents Val → b'.ty.Contents Val → y'.ty.Contents Val) (ha hb hy ha' hb' hy')
    (h : At y n) (h' : At y' n) (k : Nat) (k1 : At a k) (k2 : At a' k) (kn : k < n) (l : Nat) (l1 : At b l) (l2 : At b' l) (ln : l < n)
    (ta : a.ty = a'.ty) (tb : b.ty = b'.ty) (ty : y.ty = y'.ty) (hf : HEq f f') :
    Step n (binary (τ := τ) a b y f ha hb hy) (binary (τ := τ') a' b' y' f' ha' hb' hy') :=
  .of_writes y y' h h' rfl rfl fun v w hvw => by
    rw [binary_result, binary_result]
    exact heq_app (contents_congr tb) (contents_congr ty) (heq_app (contents_congr ta)
      (fun_congr (contents_congr tb) (contents_congr ty)) hf (hvw _ _ _ k1 k2 kn)) (hvw _ _ _ l1 l2 ln)

/-- A three-operand operation. -/
theorem step_ternary (f : c.ty.Contents Val → a.ty.Contents Val → b.ty.Contents Val → y.ty.Contents Val)
    (f' : c'.ty.Contents Val → a'.ty.Contents Val → b'.ty.Contents Val → y'.ty.Contents Val) (hc ha hb hy hc' ha' hb' hy')
    (h : At y n) (h' : At y' n) (j : Nat) (j1 : At c j) (j2 : At c' j) (jn : j < n)
    (k : Nat) (k1 : At a k) (k2 : At a' k) (kn : k < n) (l : Nat) (l1 : At b l) (l2 : At b' l) (ln : l < n)
    (tc : c.ty = c'.ty) (ta : a.ty = a'.ty) (tb : b.ty = b'.ty) (ty : y.ty = y'.ty) (hf : HEq f f') :
    Step n (ternary (τ := τ) c a b y f hc ha hb hy) (ternary (τ := τ') c' a' b' y' f' hc' ha' hb' hy') :=
  .of_writes y y' h h' rfl rfl fun v w hvw => by
    rw [ternary_result, ternary_result]
    exact heq_app (contents_congr tb) (contents_congr ty) (heq_app (contents_congr ta)
      (fun_congr (contents_congr tb) (contents_congr ty)) (heq_app (contents_congr tc)
        (fun_congr (contents_congr ta) (fun_congr (contents_congr tb) (contents_congr ty))) hf (hvw _ _ _ j1 j2 jn))
        (hvw _ _ _ k1 k2 kn)) (hvw _ _ _ l1 l2 ln)

/-- Equal arrays reshape to equal arrays. -/
theorem heq_reshape {T T' U U' : BufTy} (hT : T = T') (hU : U = U') (he : T.elt = U.elt) (he' : T'.elt = U'.elt)
    (hn : T.shape.ShapeCasts U.shape) (hn' : T'.shape.ShapeCasts U'.shape) {v : T.Contents Val} {v' : T'.Contents Val} (hv : HEq v v') :
    HEq (fun i => he ▸ shapeCast U.shape v hn i : U.Contents Val) (fun i => he' ▸ shapeCast U'.shape v' hn' i : U'.Contents Val) := by
  subst hT; subst hU
  rw [eq_of_heq hv]

/-- A change of shape. -/
theorem step_reshape (he hn hx hy he' hn' hx' hy') (h : At y n) (h' : At y' n) (k : Nat) (k1 : At x k) (k2 : At x' k) (kn : k < n)
    (tx : x.ty = x'.ty) (ty : y.ty = y'.ty) :
    Step n (reshape (τ := τ) (Val := Val) x y he hn hx hy) (reshape (τ := τ') (Val := Val) x' y' he' hn' hx' hy') :=
  .of_writes y y' h h' rfl rfl fun v w hvw => by
    rw [reshape_result, reshape_result]
    exact heq_reshape tx ty he he' hn hn' (hvw _ _ _ k1 k2 kn)

end Builders

/-! The same, one operation off two lists in step. What is asked of the references is closed by computation. -/

section Peel

variable {n m : Nat} {l t : List (HloOp τ sig Val)} {l' t' : List (HloOp τ' sig' Val)}

/-- Two buffers of one number below `n`. -/
structure Same (n : Nat) (x : Ref sig .tc) (x' : Ref sig' .tc) : Prop where
  hbm : x.space = .hbm
  hbm' : x'.space = .hbm
  eq : (x'.idx : Nat) = x.idx
  lt : Nat.ble (x.idx + 1) n = true

/-- Both references are to the number, and it lies below `n`. -/
theorem Same.ok {x : Ref sig .tc} {x' : Ref sig' .tc} (h : Same n x x') : At x x.idx ∧ At x' x.idx ∧ (x.idx : Nat) < n :=
  ⟨⟨h.hbm, rfl⟩, ⟨h.hbm', h.eq⟩, Nat.le_of_ble_eq_true h.lt⟩

/-- Two written buffers of number `n`. -/
structure New (n : Nat) (y : Ref sig .tc) (y' : Ref sig' .tc) : Prop where
  hbm : y.space = .hbm
  hbm' : y'.space = .hbm
  eq : (y.idx : Nat) = n
  eq' : (y'.idx : Nat) = n

/-- Evaluate a list to its first operation and the others. -/
theorem Steps.expose {L : List (HloOp τ sig Val)} {L' : List (HloOp τ' sig' Val)} {b : HloOp τ' sig' Val}
    (h : L' = b :: l') (r : Steps n L (b :: l') m t t') : Steps n L L' m t t' := h ▸ r

/-- Two lists that agree in their first operation, and in the others from the next buffer on. -/
theorem Steps.next {y : Ref sig .tc} {y' : Ref sig' .tc} {a : HloOp τ sig Val} {b : HloOp τ' sig' Val} (hy : New n y y')
    (h : Step n a b) (r : Steps (y.idx + 1) l l' m t t') : Steps n (a :: l) (b :: l') m t t' :=
  .cons h (hy.eq ▸ r)

variable {T U Ta Tb Tc : BufTy}

/-- A value as the contents of a buffer is itself. -/
theorem heq_toBuf (y : TRef sig U) (v : U.Contents Val) : HEq (y.toBuf v) v := cast_heq _ _
/-- The contents of a buffer as a value are themselves. -/
theorem heq_ofBuf (y : TRef sig U) (v : y.ref.ty.Contents Val) : HEq (y.ofBuf v) v := cast_heq _ _

/-- Equal contents of two buffers are equal values. -/
theorem ofBuf_congr (x : TRef sig T) (x' : TRef sig' T) {v : x.ref.ty.Contents Val} {w : x'.ref.ty.Contents Val} (h : HEq v w) :
    x.ofBuf v = x'.ofBuf w := eq_of_heq ((heq_ofBuf x v).trans (h.trans (heq_ofBuf x' w).symm))

/-- Equal values are equal contents of two buffers. -/
theorem toBuf_congr (y : TRef sig U) (y' : TRef sig' U) {v w : U.Contents Val} (h : v = w) : HEq (y.toBuf v) (y'.toBuf w) :=
  h ▸ (heq_toBuf y v).trans (heq_toBuf y' v).symm

/-- A constant on both sides. -/
theorem Steps.nullary (y : TRef sig U) (y' : TRef sig' U) (v : U.Contents Val) (hy : New n y.ref y'.ref)
    (r : Steps (y.ref.idx + 1) l l' m t t') :
    Steps n (TRef.nullary (τ := τ) y v :: l) (TRef.nullary (τ := τ') y' v :: l') m t t' :=
  .next hy (step_nullary _ _ _ _ _ _ ⟨hy.hbm, hy.eq⟩ ⟨hy.hbm', hy.eq'⟩ (toBuf_congr y y' rfl)) r

/-- An operation of one argument on both sides. -/
theorem Steps.unary (x : TRef sig T) (y : TRef sig U) (x' : TRef sig' T) (y' : TRef sig' U) (f : T.Contents Val → U.Contents Val)
    (hy : New n y.ref y'.ref) (hx : Same n x.ref x'.ref) (r : Steps (y.ref.idx + 1) l l' m t t') :
    Steps n (TRef.unary (τ := τ) x y f :: l) (TRef.unary (τ := τ') x' y' f :: l') m t t' :=
  .next hy (.of_writes _ _ ⟨hy.hbm, hy.eq⟩ ⟨hy.hbm', hy.eq'⟩ rfl rfl fun v w h => by
    rw [unary_result, unary_result]
    exact toBuf_congr y y' (congrArg f (ofBuf_congr x x' (h _ _ _ hx.ok.1 hx.ok.2.1 hx.ok.2.2)))) r

/-- An operation of two arguments on both sides. -/
theorem Steps.binary (a : TRef sig Ta) (b : TRef sig Tb) (y : TRef sig U) (a' : TRef sig' Ta) (b' : TRef sig' Tb) (y' : TRef sig' U)
    (f : Ta.Contents Val → Tb.Contents Val → U.Contents Val)
    (hy : New n y.ref y'.ref) (ha : Same n a.ref a'.ref) (hb : Same n b.ref b'.ref) (r : Steps (y.ref.idx + 1) l l' m t t') :
    Steps n (TRef.binary (τ := τ) a b y f :: l) (TRef.binary (τ := τ') a' b' y' f :: l') m t t' :=
  .next hy (.of_writes _ _ ⟨hy.hbm, hy.eq⟩ ⟨hy.hbm', hy.eq'⟩ rfl rfl fun v w h => by
    rw [binary_result, binary_result]
    exact toBuf_congr y y' (congrArg₂ f (ofBuf_congr a a' (h _ _ _ ha.ok.1 ha.ok.2.1 ha.ok.2.2))
      (ofBuf_congr b b' (h _ _ _ hb.ok.1 hb.ok.2.1 hb.ok.2.2)))) r

/-- An operation of three arguments on both sides. -/
theorem Steps.ternary (c : TRef sig Tc) (a : TRef sig Ta) (b : TRef sig Tb) (y : TRef sig U)
    (c' : TRef sig' Tc) (a' : TRef sig' Ta) (b' : TRef sig' Tb) (y' : TRef sig' U)
    (f : Tc.Contents Val → Ta.Contents Val → Tb.Contents Val → U.Contents Val)
    (hy : New n y.ref y'.ref) (hc : Same n c.ref c'.ref) (ha : Same n a.ref a'.ref) (hb : Same n b.ref b'.ref)
    (r : Steps (y.ref.idx + 1) l l' m t t') :
    Steps n (TRef.ternary (τ := τ) c a b y f :: l) (TRef.ternary (τ := τ') c' a' b' y' f :: l') m t t' :=
  .next hy (.of_writes _ _ ⟨hy.hbm, hy.eq⟩ ⟨hy.hbm', hy.eq'⟩ rfl rfl fun v w h => by
    rw [ternary_result, ternary_result]
    rw [ofBuf_congr c c' (h _ _ _ hc.ok.1 hc.ok.2.1 hc.ok.2.2), ofBuf_congr a a' (h _ _ _ ha.ok.1 ha.ok.2.1 ha.ok.2.2),
      ofBuf_congr b b' (h _ _ _ hb.ok.1 hb.ok.2.1 hb.ok.2.2)]
    exact toBuf_congr y y' rfl) r

/-- A reshape on both sides. -/
theorem Steps.reshape (x : TRef sig T) (y : TRef sig U) (x' : TRef sig' T) (y' : TRef sig' U) (he hn he' hn')
    (hy : New n y.ref y'.ref) (hx : Same n x.ref x'.ref) (r : Steps (y.ref.idx + 1) l l' m t t') :
    Steps n (TRef.reshape (τ := τ) (Val := Val) x y he hn :: l) (TRef.reshape (τ := τ') (Val := Val) x' y' he' hn' :: l') m t t' :=
  .next hy (step_reshape _ _ _ _ _ _ _ _ _ _ _ _ ⟨hy.hbm, hy.eq⟩ ⟨hy.hbm', hy.eq'⟩ _ hx.ok.1 hx.ok.2.1 hx.ok.2.2
    (x.ty_eq.trans x'.ty_eq.symm) (y.ty_eq.trans y'.ty_eq.symm)) r

/-! Where the second list names its buffers outright. -/

/-- A constant on both sides. -/
theorem Steps.nullary' (y : Ref sig .tc) (y' : Ref sig' .tc) (v : y.ty.Contents Val) (v' : y'.ty.Contents Val) (h h')
    (hy : New n y y') (hv : HEq v v') (r : Steps (y.idx + 1) l l' m t t') :
    Steps n (StableHlo.nullary (τ := τ) y v h :: l) (StableHlo.nullary (τ := τ') y' v' h' :: l') m t t' :=
  .next hy (step_nullary _ _ _ _ _ _ ⟨hy.hbm, hy.eq⟩ ⟨hy.hbm', hy.eq'⟩ hv) r

/-- An operation of one argument on both sides. -/
theorem Steps.unary' (x y : Ref sig .tc) (x' y' : Ref sig' .tc) (f : x.ty.Contents Val → y.ty.Contents Val)
    (f' : x'.ty.Contents Val → y'.ty.Contents Val) (i j i' j') (hy : New n y y') (hx : Same n x x') (tx : x.ty = x'.ty)
    (ty : y.ty = y'.ty) (hf : HEq f f') (r : Steps (y.idx + 1) l l' m t t') :
    Steps n (StableHlo.unary (τ := τ) x y f i j :: l) (StableHlo.unary (τ := τ') x' y' f' i' j' :: l') m t t' :=
  .next hy (step_unary _ _ _ _ _ _ _ _ _ _ ⟨hy.hbm, hy.eq⟩ ⟨hy.hbm', hy.eq'⟩ _ hx.ok.1 hx.ok.2.1 hx.ok.2.2 tx ty hf) r

/-- An operation of two arguments on both sides. -/
theorem Steps.binary' (a b y : Ref sig .tc) (a' b' y' : Ref sig' .tc) (f : a.ty.Contents Val → b.ty.Contents Val → y.ty.Contents Val)
    (f' : a'.ty.Contents Val → b'.ty.Contents Val → y'.ty.Contents Val) (i j k i' j' k') (hy : New n y y') (ha : Same n a a')
    (hb : Same n b b') (ta : a.ty = a'.ty) (tb : b.ty = b'.ty) (ty : y.ty = y'.ty) (hf : HEq f f') (r : Steps (y.idx + 1) l l' m t t') :
    Steps n (StableHlo.binary (τ := τ) a b y f i j k :: l) (StableHlo.binary (τ := τ') a' b' y' f' i' j' k' :: l') m t t' :=
  .next hy (step_binary _ _ _ _ _ _ _ _ _ _ _ _ _ _ ⟨hy.hbm, hy.eq⟩ ⟨hy.hbm', hy.eq'⟩ _ ha.ok.1 ha.ok.2.1 ha.ok.2.2
    _ hb.ok.1 hb.ok.2.1 hb.ok.2.2 ta tb ty hf) r

/-- An operation of three arguments on both sides. -/
theorem Steps.ternary' (c a b y : Ref sig .tc) (c' a' b' y' : Ref sig' .tc)
    (f : c.ty.Contents Val → a.ty.Contents Val → b.ty.Contents Val → y.ty.Contents Val)
    (f' : c'.ty.Contents Val → a'.ty.Contents Val → b'.ty.Contents Val → y'.ty.Contents Val) (h i j k h' i' j' k')
    (hy : New n y y') (hc : Same n c c') (ha : Same n a a') (hb : Same n b b') (tc : c.ty = c'.ty) (ta : a.ty = a'.ty)
    (tb : b.ty = b'.ty) (ty : y.ty = y'.ty) (hf : HEq f f') (r : Steps (y.idx + 1) l l' m t t') :
    Steps n (StableHlo.ternary (τ := τ) c a b y f h i j k :: l) (StableHlo.ternary (τ := τ') c' a' b' y' f' h' i' j' k' :: l') m t t' :=
  .next hy (step_ternary _ _ _ _ _ _ _ _ _ _ _ _ _ _ _ _ _ _ ⟨hy.hbm, hy.eq⟩ ⟨hy.hbm', hy.eq'⟩ _ hc.ok.1 hc.ok.2.1 hc.ok.2.2
    _ ha.ok.1 ha.ok.2.1 ha.ok.2.2 _ hb.ok.1 hb.ok.2.1 hb.ok.2.2 tc ta tb ty hf) r

end Peel

end Cert.Sim

end
-- ==== Proof.Ref.Line.lean ====
/- A program that is a straight line of host operations, found together with its list of operations: `Line p` holds the
   list, that `p` runs it in order, and what a run asks of each operation. The lists of the reference's module-local functions
   are built here from the printed bodies, so that they need not be written out. -/
module

public import proofs.«01_k».proof.Proof.Gen.ReferenceIdeal
public import Idealize.ShloMosaic.Lib.StableHlo.Run

@[expose] public section

noncomputable section

namespace Cert.Straight

open Idealize.ShloMosaic Idealize.ShloMosaic.StableHlo Idealize.SL.Sem

variable {nD : Nat} {τ : Topo} {sig : RefSig} {Val : EltTy → Type} {Λ : Labels}

/-- What a run asks of an operation: it touches TensorCore references only and determines what it writes. -/
def Fine (op : HloOp τ sig Val) : Prop := op.bufs ⊆ tcRefs τ sig ∧ op.fresh = ∅

/-- A list of operations that the program `p` runs in order, each of them fine. -/
structure Line (p : Prog (TpuEff nD τ sig Val Λ .tc) PUnit) where
  /-- The operations. -/
  ops : List (HloOp τ sig Val)
  /-- The program is their sequence. -/
  eq : p = seq ops
  /-- Each is fine. -/
  fine : ∀ op ∈ ops, Fine op

/-- The program that only returns is the empty line. -/
def Line.done : Line (pure ⟨⟩ : Prog (TpuEff nD τ sig Val Λ .tc) PUnit) := ⟨[], rfl, fun _ h => nomatch h⟩

/-- One operation followed by a line. -/
def Line.cons {op : HloOp τ sig Val} {k : PUnit → Prog (TpuEff nD τ sig Val Λ .tc) PUnit} (h : Fine op) (l : Line (k ⟨⟩)) :
    Line ((hlo rfl op fun _ => .ret (⟨⟩ : PUnit)) >>= k) :=
  ⟨op :: l.ops, by rw [seq, ← l.eq], fun o ho => by
    rcases List.mem_cons.mp ho with rfl | ho
    · exact h
    · exact l.fine o ho⟩

/-- One operation and nothing after it. -/
def Line.one {op : HloOp τ sig Val} (h : Fine op) :
    Line (hlo rfl op fun _ => .ret (⟨⟩ : PUnit) : Prog (TpuEff nD τ sig Val Λ .tc) PUnit) :=
  ⟨[op], by simp only [seq]; exact (bind_pure _).symm, fun o ho => by
    rcases List.mem_singleton.mp ho with rfl; exact h⟩

/-- A line followed by a line. -/
def Line.append {p : Prog (TpuEff nD τ sig Val Λ .tc) PUnit} {k : PUnit → Prog (TpuEff nD τ sig Val Λ .tc) PUnit}
    (l₁ : Line p) (l₂ : Line (k ⟨⟩)) : Line (p >>= k) :=
  ⟨l₁.ops ++ l₂.ops, by rw [seq_append, ← l₁.eq, ← l₂.eq], fun o ho => by
    rcases List.mem_append.mp ho with ho | ho
    · exact l₁.fine o ho
    · exact l₂.fine o ho⟩

section Builders

variable (x a b c y : Ref sig .tc)

/-- A constant is fine. -/
theorem fine_nullary (v : y.ty.Contents Val) (hy) : Fine (nullary (τ := τ) y v hy) := ⟨nullary_bufs_sub .., rfl⟩
/-- An operation of one argument is fine. -/
theorem fine_unary (f : x.ty.Contents Val → y.ty.Contents Val) (hx hy) : Fine (unary (τ := τ) x y f hx hy) :=
  ⟨unary_bufs_sub .., rfl⟩
/-- An operation of two arguments is fine. -/
theorem fine_binary (f : a.ty.Contents Val → b.ty.Contents Val → y.ty.Contents Val) (ha hb hy) :
    Fine (binary (τ := τ) a b y f ha hb hy) := ⟨binary_bufs_sub .., rfl⟩
/-- An operation of three arguments is fine. -/
theorem fine_ternary (f : c.ty.Contents Val → a.ty.Contents Val → b.ty.Contents Val → y.ty.Contents Val) (hc ha hb hy) :
    Fine (ternary (τ := τ) c a b y f hc ha hb hy) := ⟨ternary_bufs_sub .., rfl⟩
/-- An operation of four arguments is fine. -/
theorem fine_quaternary (f : a.ty.Contents Val → b.ty.Contents Val → c.ty.Contents Val → x.ty.Contents Val → y.ty.Contents Val)
    (ha hb hc he hy) : Fine (quaternary (τ := τ) a b c x y f ha hb hc he hy) := ⟨quaternary_bufs_sub .., rfl⟩
/-- A reshape is fine. -/
theorem fine_reshape (he hn hx hy) : Fine (reshape (τ := τ) (Val := Val) x y he hn hx hy) := ⟨reshape_bufs_sub .., rfl⟩

end Builders

end Cert.Straight

namespace Cert.ReferenceIdeal.Lines

open Cert.ReferenceIdeal Cert.ReferenceIdeal.Gen Cert.Straight Idealize.ShloMosaic Idealize.ShloMosaic.StableHlo

variable {F : FTy → Type} [FloatOps F]

set_option maxHeartbeats 4000000

/-- Part 0 of the generator's rounds on `S2` counters. -/
def t2_part0 (arg0 arg1 : StableHlo.TRef sig ⟨S_, .i32⟩) (arg2 arg3 : StableHlo.TRef sig ⟨S2, .i32⟩) (φ : fn_threefry2x32.Bufs) :
    Line (fn_threefry2x32.body_part0 (F := F) arg0 arg1 arg2 arg3 φ) := by
  unfold fn_threefry2x32.body_part0
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.one (fine_binary ..)

/-- Part 1 of the generator's rounds on `S2` counters. -/
def t2_part1 (arg0 arg1 : StableHlo.TRef sig ⟨S_, .i32⟩) (arg2 arg3 : StableHlo.TRef sig ⟨S2, .i32⟩) (φ : fn_threefry2x32.Bufs) :
    Line (fn_threefry2x32.body_part1 (F := F) arg0 arg1 arg2 arg3 φ) := by
  unfold fn_threefry2x32.body_part1
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.one (fine_binary ..)

/-- Part 2 of the generator's rounds on `S2` counters. -/
def t2_part2 (arg0 arg1 : StableHlo.TRef sig ⟨S_, .i32⟩) (arg2 arg3 : StableHlo.TRef sig ⟨S2, .i32⟩) (φ : fn_threefry2x32.Bufs) :
    Line (fn_threefry2x32.body_part2 (F := F) arg0 arg1 arg2 arg3 φ) := by
  unfold fn_threefry2x32.body_part2
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.one (fine_binary ..)

/-- Part 3 of the generator's rounds on `S2` counters. -/
def t2_part3 (arg0 arg1 : StableHlo.TRef sig ⟨S_, .i32⟩) (arg2 arg3 : StableHlo.TRef sig ⟨S2, .i32⟩) (φ : fn_threefry2x32.Bufs) :
    Line (fn_threefry2x32.body_part3 (F := F) arg0 arg1 arg2 arg3 φ) := by
  unfold fn_threefry2x32.body_part3
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.done

/-- The generator's rounds on `S2` counters. -/
def t2 (arg0 arg1 : StableHlo.TRef sig ⟨S_, .i32⟩) (arg2 arg3 : StableHlo.TRef sig ⟨S2, .i32⟩) (φ : fn_threefry2x32.Bufs) :
    Line (fn_threefry2x32.body (F := F) arg0 arg1 arg2 arg3 φ) := by
  unfold fn_threefry2x32.body
  exact Line.append (t2_part0 ..) (Line.append (t2_part1 ..) (Line.append (t2_part2 ..) (t2_part3 ..)))

/-- Part 0 of the generator's rounds on `S8192` counters. -/
def t8192_part0 (arg0 arg1 : StableHlo.TRef sig ⟨S_, .i32⟩) (arg2 arg3 : StableHlo.TRef sig ⟨S8192, .i32⟩) (φ : fn_threefry2x32_0.Bufs) :
    Line (fn_threefry2x32_0.body_part0 (F := F) arg0 arg1 arg2 arg3 φ) := by
  unfold fn_threefry2x32_0.body_part0
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.one (fine_binary ..)

/-- Part 1 of the generator's rounds on `S8192` counters. -/
def t8192_part1 (arg0 arg1 : StableHlo.TRef sig ⟨S_, .i32⟩) (arg2 arg3 : StableHlo.TRef sig ⟨S8192, .i32⟩) (φ : fn_threefry2x32_0.Bufs) :
    Line (fn_threefry2x32_0.body_part1 (F := F) arg0 arg1 arg2 arg3 φ) := by
  unfold fn_threefry2x32_0.body_part1
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.one (fine_binary ..)

/-- Part 2 of the generator's rounds on `S8192` counters. -/
def t8192_part2 (arg0 arg1 : StableHlo.TRef sig ⟨S_, .i32⟩) (arg2 arg3 : StableHlo.TRef sig ⟨S8192, .i32⟩) (φ : fn_threefry2x32_0.Bufs) :
    Line (fn_threefry2x32_0.body_part2 (F := F) arg0 arg1 arg2 arg3 φ) := by
  unfold fn_threefry2x32_0.body_part2
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.one (fine_binary ..)

/-- Part 3 of the generator's rounds on `S8192` counters. -/
def t8192_part3 (arg0 arg1 : StableHlo.TRef sig ⟨S_, .i32⟩) (arg2 arg3 : StableHlo.TRef sig ⟨S8192, .i32⟩) (φ : fn_threefry2x32_0.Bufs) :
    Line (fn_threefry2x32_0.body_part3 (F := F) arg0 arg1 arg2 arg3 φ) := by
  unfold fn_threefry2x32_0.body_part3
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.done

/-- The generator's rounds on `S8192` counters. -/
def t8192 (arg0 arg1 : StableHlo.TRef sig ⟨S_, .i32⟩) (arg2 arg3 : StableHlo.TRef sig ⟨S8192, .i32⟩) (φ : fn_threefry2x32_0.Bufs) :
    Line (fn_threefry2x32_0.body (F := F) arg0 arg1 arg2 arg3 φ) := by
  unfold fn_threefry2x32_0.body
  exact Line.append (t8192_part0 ..) (Line.append (t8192_part1 ..) (Line.append (t8192_part2 ..) (t8192_part3 ..)))

/-- One split of a key. -/
def split (arg0 : StableHlo.TRef sig ⟨S2, .i32⟩) (φ : fn_threefry_split.Bufs) :
    Line (fn_threefry_split.body (F := F) arg0 φ) := by
  unfold fn_threefry_split.body
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  refine Line.append (t2 ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.done

/-- One split of a key. -/
def split1 (arg0 : StableHlo.TRef sig ⟨S2, .i32⟩) (φ : fn_threefry_split_1.Bufs) :
    Line (fn_threefry_split_1.body (F := F) arg0 φ) := by
  unfold fn_threefry_split_1.body
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  refine Line.append (t2 ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.done

/-- The shuffle: two rounds of random keys, each sorted. -/
def shuffle (arg0 : StableHlo.TRef sig ⟨S2, .i32⟩) (arg1 : StableHlo.TRef sig ⟨S8192, .i32⟩) (φ : fn_shuffle.Bufs) :
    Line (fn_shuffle.body (F := F) arg0 arg1 φ) := by
  unfold fn_shuffle.body
  refine Line.append (split ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  refine Line.append (t8192 ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  refine Line.append (split1 ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  refine Line.append (t8192 ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.done

/-- The index of the least of the distances. -/
def argmin (arg0 : StableHlo.TRef sig ⟨S16x8192x64, .f32⟩) (φ : fn_argmin.Bufs) :
    Line (fn_argmin.body (F := F) arg0 φ) := by
  unfold fn_argmin.body
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.done

/-- The first part of the reference. -/
def part0 (c : Dev nD) :
    Line (main_part0 (F := F) c) := by
  unfold main_part0
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  refine Line.append (shuffle ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  refine Line.append (argmin ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.one (fine_binary ..)

/-- The second part of the reference. -/
def part1 (c : Dev nD) :
    Line (main_part1 (F := F) c) := by
  unfold main_part1
  refine Line.append (argmin ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  refine Line.append (argmin ..) ?_
  repeat (with_reducible refine Line.cons ?_ ?_; first
    | with_reducible exact fine_unary .. | with_reducible exact fine_binary .. | with_reducible exact fine_nullary ..
    | with_reducible exact fine_reshape .. | with_reducible exact fine_ternary .. | with_reducible exact fine_quaternary ..)
  exact Line.done

/-- The whole reference. -/
def whole (c : Dev nD) :
    Line (main (F := F) c) := by
  unfold main
  exact Line.append (part0 c) (part1 c)

end Cert.ReferenceIdeal.Lines

end
-- ==== Proof.Ref.Tail.lean ====
/- What the reference does after the initial centroids' indices are there, as lists of operations, and what each list computes:
   the nearest centroid of every point, the means of the points by nearest centroid, and both once more. -/
module

public import proofs.«01_k».proof.Proof.Gen.ReferenceIdeal
public import Idealize.ShloMosaic.Lib.StableHlo.Run

@[expose] public section

set_option maxHeartbeats 4000000
set_option maxRecDepth 4000

noncomputable section

namespace Cert.ReferenceIdeal.Tail

open Idealize.ShloMosaic Idealize.ShloMosaic.StableHlo Idealize.SL.Sem Facts₀ Facts

variable {F : FTy → Type} [FloatOps F]

/-- The reference's operations for the initial centroids and the row offsets. -/
abbrev start : List (HloOp τ sig (Elt F)) :=
  [ StableHlo.binary main_arg0 main_v15 main_v16 ((fun x i => Host.gather gather_S16x8192x32_S64x1_S16x64x32_02_1_n_n_1_1_16132 x i) : (⟨S16x8192x32, .f32⟩ : BufTy).Contents (Elt F) → (⟨S64x1, .i32⟩ : BufTy).Contents (Elt F) → (⟨S16x64x32, .f32⟩ : BufTy).Contents (Elt F))
  , StableHlo.reshape main_arg0 main_v17 (rfl : (.f32 : EltTy) = .f32) shapeCasts_S16x8192x32_S131072x32
  , StableHlo.nullary main_v18 (iotaInDim S16 32 0)
  , StableHlo.nullary main_c_4 (constantI S_ 32 64#32)
  , StableHlo.unary main_c_4 main_v19 (broadcastInDim S16 ![] bcast_S_S16 : (⟨S_, .i32⟩ : BufTy).Contents (Elt F) → (⟨S16, .i32⟩ : BufTy).Contents (Elt F))
  , StableHlo.binary main_v18 main_v19 main_v20 (muli : (⟨S16, .i32⟩ : BufTy).Contents (Elt F) → (⟨S16, .i32⟩ : BufTy).Contents (Elt F) → (⟨S16, .i32⟩ : BufTy).Contents (Elt F))
  , StableHlo.unary main_v20 main_v21 (broadcastInDim S16x1 ![0] bcast_S16_S16x1_0 : (⟨S16, .i32⟩ : BufTy).Contents (Elt F) → (⟨S16x1, .i32⟩ : BufTy).Contents (Elt F)) ]

/-- The reference's operations for the first assignment. -/
abbrev near1 : List (HloOp τ sig (Elt F)) :=
  [ StableHlo.unary main_arg0 main_v22 (broadcastInDim S16x8192x1x32 ![0, 1, 3] bcast_S16x8192x32_S16x8192x1x32_0_1_3 : (⟨S16x8192x32, .f32⟩ : BufTy).Contents (Elt F) → (⟨S16x8192x1x32, .f32⟩ : BufTy).Contents (Elt F))
  , StableHlo.unary main_v16 main_v23 (broadcastInDim S16x1x64x32 ![0, 2, 3] bcast_S16x64x32_S16x1x64x32_0_2_3 : (⟨S16x64x32, .f32⟩ : BufTy).Contents (Elt F) → (⟨S16x1x64x32, .f32⟩ : BufTy).Contents (Elt F))
  , StableHlo.unary main_v22 main_v24 (broadcastInDim S16x8192x64x32 ![0, 1, 2, 3] bcast_S16x8192x1x32_S16x8192x64x32_0_1_2_3 : (⟨S16x8192x1x32, .f32⟩ : BufTy).Contents (Elt F) → (⟨S16x8192x64x32, .f32⟩ : BufTy).Contents (Elt F))
  , StableHlo.unary main_v23 main_v25 (broadcastInDim S16x8192x64x32 ![0, 1, 2, 3] bcast_S16x1x64x32_S16x8192x64x32_0_1_2_3 : (⟨S16x1x64x32, .f32⟩ : BufTy).Contents (Elt F) → (⟨S16x8192x64x32, .f32⟩ : BufTy).Contents (Elt F))
  , StableHlo.binary main_v24 main_v25 main_v26 (subf : (⟨S16x8192x64x32, .f32⟩ : BufTy).Contents (Elt F) → (⟨S16x8192x64x32, .f32⟩ : BufTy).Contents (Elt F) → (⟨S16x8192x64x32, .f32⟩ : BufTy).Contents (Elt F))
  , StableHlo.binary main_v26 main_v26 main_v27 (mulf : (⟨S16x8192x64x32, .f32⟩ : BufTy).Contents (Elt F) → (⟨S16x8192x64x32, .f32⟩ : BufTy).Contents (Elt F) → (⟨S16x8192x64x32, .f32⟩ : BufTy).Contents (Elt F))
  , StableHlo.nullary main_cst (constant S_ .f32 0x00000000#32)
  , StableHlo.binary main_v27 main_cst main_v28 ((fun x v => Host.reduceAdd x v reducesTo_S16x8192x64x32_S16x8192x64_d3 h_S_) : (⟨S16x8192x64x32, .f32⟩ : BufTy).Contents (Elt F) → (⟨S_, .f32⟩ : BufTy).Contents (Elt F) → (⟨S16x8192x64, .f32⟩ : BufTy).Contents (Elt F))
  , StableHlo.nullary main_call1_v0 (iotaInDim S16x8192x64 32 2)
  , StableHlo.nullary main_call1_cst (constant S_ .f32 0x7F800000#32)
  , StableHlo.nullary main_call1_c (constantI S_ 32 0#32)
  , StableHlo.quaternary main_v28 main_call1_v0 main_call1_cst main_call1_c main_call1_v1_0 ((fun x y u v j => (Host.argReduce reducer_argmin_f32_i32 x y u v reducesTo_S16x8192x64_S16x8192_d2 h_S_ j).1) :
      (⟨S16x8192x64, .f32⟩ : BufTy).Contents (Elt F) → (⟨S16x8192x64, .i32⟩ : BufTy).Contents (Elt F) → (⟨S_, .f32⟩ : BufTy).Contents (Elt F) → (⟨S_, .i32⟩ : BufTy).Contents (Elt F) → (⟨S16x8192, .f32⟩ : BufTy).Contents (Elt F))
  , StableHlo.quaternary main_v28 main_call1_v0 main_call1_cst main_call1_c main_v29 ((fun x y u v j => (Host.argReduce reducer_argmin_f32_i32 x y u v reducesTo_S16x8192x64_S16x8192_d2 h_S_ j).2) :
      (⟨S16x8192x64, .f32⟩ : BufTy).Contents (Elt F) → (⟨S16x8192x64, .i32⟩ : BufTy).Contents (Elt F) → (⟨S_, .f32⟩ : BufTy).Contents (Elt F) → (⟨S_, .i32⟩ : BufTy).Contents (Elt F) → (⟨S16x8192, .i32⟩ : BufTy).Contents (Elt F)) ]

/-- The reference's operations for the first means. -/
abbrev mean1 : List (HloOp τ sig (Elt F)) :=
  [ StableHlo.unary main_v21 main_v30 (broadcastInDim S16x8192 ![0, 1] bcast_S16x1_S16x8192_0_1 : (⟨S16x1, .i32⟩ : BufTy).Contents (Elt F) → (⟨S16x8192, .i32⟩ : BufTy).Contents (Elt F))
  , StableHlo.binary main_v29 main_v30 main_v31 (addi : (⟨S16x8192, .i32⟩ : BufTy).Contents (Elt F) → (⟨S16x8192, .i32⟩ : BufTy).Contents (Elt F) → (⟨S16x8192, .i32⟩ : BufTy).Contents (Elt F))
  , StableHlo.reshape main_v31 main_v32 (rfl : (.i32 : EltTy) = .i32) shapeCasts_S16x8192_S131072
  , StableHlo.nullary main_cst_5 (constant S_ .f32 0x00000000#32)
  , StableHlo.unary main_cst_5 main_v33 (broadcastInDim S1024x32 ![] bcast_S_S1024x32 : (⟨S_, .f32⟩ : BufTy).Contents (Elt F) → (⟨S1024x32, .f32⟩ : BufTy).Contents (Elt F))
  , StableHlo.unary main_v32 main_v34 (broadcastInDim S131072x1 ![0] bcast_S131072_S131072x1_0 : (⟨S131072, .i32⟩ : BufTy).Contents (Elt F) → (⟨S131072x1, .i32⟩ : BufTy).Contents (Elt F))
  , StableHlo.ternary main_v33 main_v34 main_v17 main_v35 ((fun x i u => Host.scatterAdd scatter_S1024x32_S131072x1_S131072x32_1_0_0_1 x i u) : (⟨S1024x32, .f32⟩ : BufTy).Contents (Elt F) → (⟨S131072x1, .i32⟩ : BufTy).Contents (Elt F) → (⟨S131072x32, .f32⟩ : BufTy).Contents (Elt F) → (⟨S1024x32, .f32⟩ : BufTy).Contents (Elt F))
  , StableHlo.nullary main_cst_6 (constant S_ .f32 0x3F800000#32)
  , StableHlo.unary main_cst_6 main_v36 (broadcastInDim S131072x32 ![] bcast_S_S131072x32 : (⟨S_, .f32⟩ : BufTy).Contents (Elt F) → (⟨S131072x32, .f32⟩ : BufTy).Contents (Elt F))
  , StableHlo.nullary main_cst_7 (constant S_ .f32 0x00000000#32)
  , StableHlo.unary main_cst_7 main_v37 (broadcastInDim S1024x32 ![] bcast_S_S1024x32 : (⟨S_, .f32⟩ : BufTy).Contents (Elt F) → (⟨S1024x32, .f32⟩ : BufTy).Contents (Elt F))
  , StableHlo.unary main_v32 main_v38 (broadcastInDim S131072x1 ![0] bcast_S131072_S131072x1_0 : (⟨S131072, .i32⟩ : BufTy).Contents (Elt F) → (⟨S131072x1, .i32⟩ : BufTy).Contents (Elt F))
  , StableHlo.ternary main_v37 main_v38 main_v36 main_v39 ((fun x i u => Host.scatterAdd scatter_S1024x32_S131072x1_S131072x32_1_0_0_1 x i u) : (⟨S1024x32, .f32⟩ : BufTy).Contents (Elt F) → (⟨S131072x1, .i32⟩ : BufTy).Contents (Elt F) → (⟨S131072x32, .f32⟩ : BufTy).Contents (Elt F) → (⟨S1024x32, .f32⟩ : BufTy).Contents (Elt F))
  , StableHlo.binary main_v35 main_v39 main_v40 (Host.divf : (⟨S1024x32, .f32⟩ : BufTy).Contents (Elt F) → (⟨S1024x32, .f32⟩ : BufTy).Contents (Elt F) → (⟨S1024x32, .f32⟩ : BufTy).Contents (Elt F))
  , StableHlo.reshape main_v40 main_v41 (rfl : (.f32 : EltTy) = .f32) shapeCasts_S1024x32_S16x64x32 ]

/-- The reference's operations for the second assignment. -/
abbrev near2 : List (HloOp τ sig (Elt F)) :=
  [ StableHlo.unary main_arg0 main_v42 (broadcastInDim S16x8192x1x32 ![0, 1, 3] bcast_S16x8192x32_S16x8192x1x32_0_1_3 : (⟨S16x8192x32, .f32⟩ : BufTy).Contents (Elt F) → (⟨S16x8192x1x32, .f32⟩ : BufTy).Contents (Elt F))
  , StableHlo.unary main_v41 main_v43 (broadcastInDim S16x1x64x32 ![0, 2, 3] bcast_S16x64x32_S16x1x64x32_0_2_3 : (⟨S16x64x32, .f32⟩ : BufTy).Contents (Elt F) → (⟨S16x1x64x32, .f32⟩ : BufTy).Contents (Elt F))
  , StableHlo.unary main_v42 main_v44 (broadcastInDim S16x8192x64x32 ![0, 1, 2, 3] bcast_S16x8192x1x32_S16x8192x64x32_0_1_2_3 : (⟨S16x8192x1x32, .f32⟩ : BufTy).Contents (Elt F) → (⟨S16x8192x64x32, .f32⟩ : BufTy).Contents (Elt F))
  , StableHlo.unary main_v43 main_v45 (broadcastInDim S16x8192x64x32 ![0, 1, 2, 3] bcast_S16x1x64x32_S16x8192x64x32_0_1_2_3 : (⟨S16x1x64x32, .f32⟩ : BufTy).Contents (Elt F) → (⟨S16x8192x64x32, .f32⟩ : BufTy).Contents (Elt F))
  , StableHlo.binary main_v44 main_v45 main_v46 (subf : (⟨S16x8192x64x32, .f32⟩ : BufTy).Contents (Elt F) → (⟨S16x8192x64x32, .f32⟩ : BufTy).Contents (Elt F) → (⟨S16x8192x64x32, .f32⟩ : BufTy).Contents (Elt F))
  , StableHlo.binary main_v46 main_v46 main_v47 (mulf : (⟨S16x8192x64x32, .f32⟩ : BufTy).Contents (Elt F) → (⟨S16x8192x64x32, .f32⟩ : BufTy).Contents (Elt F) → (⟨S16x8192x64x32, .f32⟩ : BufTy).Contents (Elt F))
  , StableHlo.nullary main_cst_8 (constant S_ .f32 0x00000000#32)
  , StableHlo.binary main_v47 main_cst_8 main_v48 ((fun x v => Host.reduceAdd x v reducesTo_S16x8192x64x32_S16x8192x64_d3 h_S_) : (⟨S16x8192x64x32, .f32⟩ : BufTy).Contents (Elt F) → (⟨S_, .f32⟩ : BufTy).Contents (Elt F) → (⟨S16x8192x64, .f32⟩ : BufTy).Contents (Elt F))
  , StableHlo.nullary main_call2_v0 (iotaInDim S16x8192x64 32 2)
  , StableHlo.nullary main_call2_cst (constant S_ .f32 0x7F800000#32)
  , StableHlo.nullary main_call2_c (constantI S_ 32 0#32)
  , StableHlo.quaternary main_v48 main_call2_v0 main_call2_cst main_call2_c main_call2_v1_0 ((fun x y u v j => (Host.argReduce reducer_argmin_f32_i32 x y u v reducesTo_S16x8192x64_S16x8192_d2 h_S_ j).1) :
      (⟨S16x8192x64, .f32⟩ : BufTy).Contents (Elt F) → (⟨S16x8192x64, .i32⟩ : BufTy).Contents (Elt F) → (⟨S_, .f32⟩ : BufTy).Contents (Elt F) → (⟨S_, .i32⟩ : BufTy).Contents (Elt F) → (⟨S16x8192, .f32⟩ : BufTy).Contents (Elt F))
  , StableHlo.quaternary main_v48 main_call2_v0 main_call2_cst main_call2_c main_v49 ((fun x y u v j => (Host.argReduce reducer_argmin_f32_i32 x y u v reducesTo_S16x8192x64_S16x8192_d2 h_S_ j).2) :
      (⟨S16x8192x64, .f32⟩ : BufTy).Contents (Elt F) → (⟨S16x8192x64, .i32⟩ : BufTy).Contents (Elt F) → (⟨S_, .f32⟩ : BufTy).Contents (Elt F) → (⟨S_, .i32⟩ : BufTy).Contents (Elt F) → (⟨S16x8192, .i32⟩ : BufTy).Contents (Elt F)) ]

/-- The reference's operations for the second means. -/
abbrev mean2 : List (HloOp τ sig (Elt F)) :=
  [ StableHlo.unary main_v21 main_v50 (broadcastInDim S16x8192 ![0, 1] bcast_S16x1_S16x8192_0_1 : (⟨S16x1, .i32⟩ : BufTy).Contents (Elt F) → (⟨S16x8192, .i32⟩ : BufTy).Contents (Elt F))
  , StableHlo.binary main_v49 main_v50 main_v51 (addi : (⟨S16x8192, .i32⟩ : BufTy).Contents (Elt F) → (⟨S16x8192, .i32⟩ : BufTy).Contents (Elt F) → (⟨S16x8192, .i32⟩ : BufTy).Contents (Elt F))
  , StableHlo.reshape main_v51 main_v52 (rfl : (.i32 : EltTy) = .i32) shapeCasts_S16x8192_S131072
  , StableHlo.nullary main_cst_9 (constant S_ .f32 0x00000000#32)
  , StableHlo.unary main_cst_9 main_v53 (broadcastInDim S1024x32 ![] bcast_S_S1024x32 : (⟨S_, .f32⟩ : BufTy).Contents (Elt F) → (⟨S1024x32, .f32⟩ : BufTy).Contents (Elt F))
  , StableHlo.unary main_v52 main_v54 (broadcastInDim S131072x1 ![0] bcast_S131072_S131072x1_0 : (⟨S131072, .i32⟩ : BufTy).Contents (Elt F) → (⟨S131072x1, .i32⟩ : BufTy).Contents (Elt F))
  , StableHlo.ternary main_v53 main_v54 main_v17 main_v55 ((fun x i u => Host.scatterAdd scatter_S1024x32_S131072x1_S131072x32_1_0_0_1 x i u) : (⟨S1024x32, .f32⟩ : BufTy).Contents (Elt F) → (⟨S131072x1, .i32⟩ : BufTy).Contents (Elt F) → (⟨S131072x32, .f32⟩ : BufTy).Contents (Elt F) → (⟨S1024x32, .f32⟩ : BufTy).Contents (Elt F))
  , StableHlo.nullary main_cst_10 (constant S_ .f32 0x3F800000#32)
  , StableHlo.unary main_cst_10 main_v56 (broadcastInDim S131072x32 ![] bcast_S_S131072x32 : (⟨S_, .f32⟩ : BufTy).Contents (Elt F) → (⟨S131072x32, .f32⟩ : BufTy).Contents (Elt F))
  , StableHlo.nullary main_cst_11 (constant S_ .f32 0x00000000#32)
  , StableHlo.unary main_cst_11 main_v57 (broadcastInDim S1024x32 ![] bcast_S_S1024x32 : (⟨S_, .f32⟩ : BufTy).Contents (Elt F) → (⟨S1024x32, .f32⟩ : BufTy).Contents (Elt F))
  , StableHlo.unary main_v52 main_v58 (broadcastInDim S131072x1 ![0] bcast_S131072_S131072x1_0 : (⟨S131072, .i32⟩ : BufTy).Contents (Elt F) → (⟨S131072x1, .i32⟩ : BufTy).Contents (Elt F))
  , StableHlo.ternary main_v57 main_v58 main_v56 main_v59 ((fun x i u => Host.scatterAdd scatter_S1024x32_S131072x1_S131072x32_1_0_0_1 x i u) : (⟨S1024x32, .f32⟩ : BufTy).Contents (Elt F) → (⟨S131072x1, .i32⟩ : BufTy).Contents (Elt F) → (⟨S131072x32, .f32⟩ : BufTy).Contents (Elt F) → (⟨S1024x32, .f32⟩ : BufTy).Contents (Elt F))
  , StableHlo.binary main_v55 main_v59 main_v60 (Host.divf : (⟨S1024x32, .f32⟩ : BufTy).Contents (Elt F) → (⟨S1024x32, .f32⟩ : BufTy).Contents (Elt F) → (⟨S1024x32, .f32⟩ : BufTy).Contents (Elt F))
  , StableHlo.reshape main_v60 main_v61 (rfl : (.f32 : EltTy) = .f32) shapeCasts_S1024x32_S16x64x32 ]

/-- The reference's operations for the final assignment. -/
abbrev near3 : List (HloOp τ sig (Elt F)) :=
  [ StableHlo.unary main_arg0 main_v62 (broadcastInDim S16x8192x1x32 ![0, 1, 3] bcast_S16x8192x32_S16x8192x1x32_0_1_3 : (⟨S16x8192x32, .f32⟩ : BufTy).Contents (Elt F) → (⟨S16x8192x1x32, .f32⟩ : BufTy).Contents (Elt F))
  , StableHlo.unary main_v61 main_v63 (broadcastInDim S16x1x64x32 ![0, 2, 3] bcast_S16x64x32_S16x1x64x32_0_2_3 : (⟨S16x64x32, .f32⟩ : BufTy).Contents (Elt F) → (⟨S16x1x64x32, .f32⟩ : BufTy).Contents (Elt F))
  , StableHlo.unary main_v62 main_v64 (broadcastInDim S16x8192x64x32 ![0, 1, 2, 3] bcast_S16x8192x1x32_S16x8192x64x32_0_1_2_3 : (⟨S16x8192x1x32, .f32⟩ : BufTy).Contents (Elt F) → (⟨S16x8192x64x32, .f32⟩ : BufTy).Contents (Elt F))
  , StableHlo.unary main_v63 main_v65 (broadcastInDim S16x8192x64x32 ![0, 1, 2, 3] bcast_S16x1x64x32_S16x8192x64x32_0_1_2_3 : (⟨S16x1x64x32, .f32⟩ : BufTy).Contents (Elt F) → (⟨S16x8192x64x32, .f32⟩ : BufTy).Contents (Elt F))
  , StableHlo.binary main_v64 main_v65 main_v66 (subf : (⟨S16x8192x64x32, .f32⟩ : BufTy).Contents (Elt F) → (⟨S16x8192x64x32, .f32⟩ : BufTy).Contents (Elt F) → (⟨S16x8192x64x32, .f32⟩ : BufTy).Contents (Elt F))
  , StableHlo.binary main_v66 main_v66 main_v67 (mulf : (⟨S16x8192x64x32, .f32⟩ : BufTy).Contents (Elt F) → (⟨S16x8192x64x32, .f32⟩ : BufTy).Contents (Elt F) → (⟨S16x8192x64x32, .f32⟩ : BufTy).Contents (Elt F))
  , StableHlo.nullary main_cst_12 (constant S_ .f32 0x00000000#32)
  , StableHlo.binary main_v67 main_cst_12 main_v68 ((fun x v => Host.reduceAdd x v reducesTo_S16x8192x64x32_S16x8192x64_d3 h_S_) : (⟨S16x8192x64x32, .f32⟩ : BufTy).Contents (Elt F) → (⟨S_, .f32⟩ : BufTy).Contents (Elt F) → (⟨S16x8192x64, .f32⟩ : BufTy).Contents (Elt F))
  , StableHlo.nullary main_call3_v0 (iotaInDim S16x8192x64 32 2)
  , StableHlo.nullary main_call3_cst (constant S_ .f32 0x7F800000#32)
  , StableHlo.nullary main_call3_c (constantI S_ 32 0#32)
  , StableHlo.quaternary main_v68 main_call3_v0 main_call3_cst main_call3_c main_call3_v1_0 ((fun x y u v j => (Host.argReduce reducer_argmin_f32_i32 x y u v reducesTo_S16x8192x64_S16x8192_d2 h_S_ j).1) :
      (⟨S16x8192x64, .f32⟩ : BufTy).Contents (Elt F) → (⟨S16x8192x64, .i32⟩ : BufTy).Contents (Elt F) → (⟨S_, .f32⟩ : BufTy).Contents (Elt F) → (⟨S_, .i32⟩ : BufTy).Contents (Elt F) → (⟨S16x8192, .f32⟩ : BufTy).Contents (Elt F))
  , StableHlo.quaternary main_v68 main_call3_v0 main_call3_cst main_call3_c main_v69 ((fun x y u v j => (Host.argReduce reducer_argmin_f32_i32 x y u v reducesTo_S16x8192x64_S16x8192_d2 h_S_ j).2) :
      (⟨S16x8192x64, .f32⟩ : BufTy).Contents (Elt F) → (⟨S16x8192x64, .i32⟩ : BufTy).Contents (Elt F) → (⟨S_, .f32⟩ : BufTy).Contents (Elt F) → (⟨S_, .i32⟩ : BufTy).Contents (Elt F) → (⟨S16x8192, .i32⟩ : BufTy).Contents (Elt F)) ]

/-- The reference's operations for its reshaping into the result. -/
abbrev last : List (HloOp τ sig (Elt F)) :=
  [ StableHlo.unary main_v69 main_v70 (broadcastInDim S16x1x8192 ![0, 2] bcast_S16x8192_S16x1x8192_0_2 : (⟨S16x8192, .i32⟩ : BufTy).Contents (Elt F) → (⟨S16x1x8192, .i32⟩ : BufTy).Contents (Elt F)) ]

/-- The points' array. -/
abbrev Pts (F : FTy → Type) : Type := (⟨S16x8192x32, .f32⟩ : BufTy).Contents (Elt F)
/-- The centroids' array. -/
abbrev Cen (F : FTy → Type) : Type := (⟨S16x64x32, .f32⟩ : BufTy).Contents (Elt F)
/-- The assignment's array. -/
abbrev Asg (F : FTy → Type) : Type := (⟨S16x8192, .i32⟩ : BufTy).Contents (Elt F)

/-- The squared distances of the points to the centroids. -/
def distV (p : Pts F) (c : Cen F) : (⟨S16x8192x64, .f32⟩ : BufTy).Contents (Elt F) :=
  let d := subf (broadcastInDim S16x8192x64x32 ![0, 1, 2, 3] bcast_S16x8192x1x32_S16x8192x64x32_0_1_2_3
      (broadcastInDim S16x8192x1x32 ![0, 1, 3] bcast_S16x8192x32_S16x8192x1x32_0_1_3 p))
    (broadcastInDim S16x8192x64x32 ![0, 1, 2, 3] bcast_S16x1x64x32_S16x8192x64x32_0_1_2_3
      (broadcastInDim S16x1x64x32 ![0, 2, 3] bcast_S16x64x32_S16x1x64x32_0_2_3 c))
  Host.reduceAdd (mulf d d) (constant S_ .f32 0x00000000#32) reducesTo_S16x8192x64x32_S16x8192x64_d3 h_S_

/-- Each point's nearest centroid. -/
def nearV (p : Pts F) (c : Cen F) : Asg F := fun j =>
  (Host.argReduce reducer_argmin_f32_i32 (distV p c) (iotaInDim S16x8192x64 32 2) (constant S_ .f32 0x7F800000#32)
    (constantI S_ 32 0#32) reducesTo_S16x8192x64_S16x8192_d2 h_S_ j).2

/-- The number of the first row of each batch's centroids among all of them. -/
def baseV : (⟨S16x1, .i32⟩ : BufTy).Contents (Elt F) :=
  broadcastInDim S16x1 ![0] bcast_S16_S16x1_0 (muli (iotaInDim S16 32 0) (broadcastInDim S16 ![] bcast_S_S16 (constantI S_ 32 64#32)))

/-- The row of each point's nearest centroid among all batches' centroids. -/
def rowV (a : Asg F) (b : (⟨S16x1, .i32⟩ : BufTy).Contents (Elt F)) : (⟨S131072x1, .i32⟩ : BufTy).Contents (Elt F) :=
  broadcastInDim S131072x1 ![0] bcast_S131072_S131072x1_0
    (shapeCast S131072 (addi a (broadcastInDim S16x8192 ![0, 1] bcast_S16x1_S16x8192_0_1 b)) shapeCasts_S16x8192_S131072)

/-- The means of the points (as rows `q`) by nearest centroid. -/
def meanV (a : Asg F) (q : (⟨S131072x32, .f32⟩ : BufTy).Contents (Elt F)) (b : (⟨S16x1, .i32⟩ : BufTy).Contents (Elt F)) : Cen F :=
  shapeCast S16x64x32 (Host.divf
    (Host.scatterAdd scatter_S1024x32_S131072x1_S131072x32_1_0_0_1
      (broadcastInDim S1024x32 ![] bcast_S_S1024x32 (constant S_ .f32 0x00000000#32)) (rowV a b) q)
    (Host.scatterAdd scatter_S1024x32_S131072x1_S131072x32_1_0_0_1
      (broadcastInDim S1024x32 ![] bcast_S_S1024x32 (constant S_ .f32 0x00000000#32)) (rowV a b)
      (broadcastInDim S131072x32 ![] bcast_S_S131072x32 (constant S_ .f32 0x3F800000#32)))) shapeCasts_S1024x32_S16x64x32

/-- The initial centroids: the points of the given numbers. -/
def pickV (p : Pts F) (i : (⟨S64x1, .i32⟩ : BufTy).Contents (Elt F)) : Cen F :=
  Host.gather gather_S16x8192x32_S64x1_S16x64x32_02_1_n_n_1_1_16132 p i

variable (W : Valuation τ sig (Elt F))

/-- The initial centroids. -/
theorem start_v16 : after start W (Proc.devRef .tc main_v16) = pickV (W (Proc.devRef .tc main_arg0)) (W (Proc.devRef .tc main_v15)) := by
  after_results_simp
  try rfl

/-- The points as rows. -/
theorem start_v17 : after start W (Proc.devRef .tc main_v17) = shapeCast S131072x32 (W (Proc.devRef .tc main_arg0)) shapeCasts_S16x8192x32_S131072x32 := by
  after_results_simp
  try rfl

/-- The rows' offsets. -/
theorem start_v21 : after start W (Proc.devRef .tc main_v21) = baseV := by
  after_results_simp
  try rfl

/-- Drawing the initial centroids keeps the points. -/
theorem start_arg0 : after start W (Proc.devRef .tc main_arg0) = (W (Proc.devRef .tc main_arg0)) := by
  after_results_simp
  try rfl

/-- Assignment 1. -/
theorem near1_val : after near1 W (Proc.devRef .tc main_v29) = nearV (W (Proc.devRef .tc main_arg0)) (W (Proc.devRef .tc main_v16)) := by
  after_results_simp
  try rfl

/-- Assignment 2. -/
theorem near2_val : after near2 W (Proc.devRef .tc main_v49) = nearV (W (Proc.devRef .tc main_arg0)) (W (Proc.devRef .tc main_v41)) := by
  after_results_simp
  try rfl

/-- Assignment 3. -/
theorem near3_val : after near3 W (Proc.devRef .tc main_v69) = nearV (W (Proc.devRef .tc main_arg0)) (W (Proc.devRef .tc main_v61)) := by
  after_results_simp
  try rfl

/-- The means. -/
theorem mean1_val : after mean1 W (Proc.devRef .tc main_v41) = meanV (W (Proc.devRef .tc main_v29)) (W (Proc.devRef .tc main_v17)) (W (Proc.devRef .tc main_v21)) := by
  after_results_simp
  try rfl

/-- The means. -/
theorem mean2_val : after mean2 W (Proc.devRef .tc main_v61) = meanV (W (Proc.devRef .tc main_v49)) (W (Proc.devRef .tc main_v17)) (W (Proc.devRef .tc main_v21)) := by
  after_results_simp
  try rfl

/-- The assignment as the result. -/
theorem last_val : after last W (Proc.devRef .tc main_v70) = broadcastInDim S16x1x8192 ![0, 2] bcast_S16x8192_S16x1x8192_0_2 (W (Proc.devRef .tc main_v69)) := by
  after_results_simp
  try rfl

/-- The first assignment: the points are kept. -/
theorem near1_arg0 : after near1 W (Proc.devRef .tc main_arg0) = (W (Proc.devRef .tc main_arg0)) := by
  after_results_simp
  try rfl

/-- The first assignment: buffer `main_v17` is kept. -/
theorem near1_v17 : after near1 W (Proc.devRef .tc main_v17) = (W (Proc.devRef .tc main_v17)) := by
  after_results_simp
  try rfl

/-- The first assignment: buffer `main_v21` is kept. -/
theorem near1_v21 : after near1 W (Proc.devRef .tc main_v21) = (W (Proc.devRef .tc main_v21)) := by
  after_results_simp
  try rfl

/-- The first means: the points are kept. -/
theorem mean1_arg0 : after mean1 W (Proc.devRef .tc main_arg0) = (W (Proc.devRef .tc main_arg0)) := by
  after_results_simp
  try rfl

/-- The first means: buffer `main_v17` is kept. -/
theorem mean1_v17 : after mean1 W (Proc.devRef .tc main_v17) = (W (Proc.devRef .tc main_v17)) := by
  after_results_simp
  try rfl

/-- The first means: buffer `main_v21` is kept. -/
theorem mean1_v21 : after mean1 W (Proc.devRef .tc main_v21) = (W (Proc.devRef .tc main_v21)) := by
  after_results_simp
  try rfl

/-- The second assignment: the points are kept. -/
theorem near2_arg0 : after near2 W (Proc.devRef .tc main_arg0) = (W (Proc.devRef .tc main_arg0)) := by
  after_results_simp
  try rfl

/-- The second assignment: buffer `main_v17` is kept. -/
theorem near2_v17 : after near2 W (Proc.devRef .tc main_v17) = (W (Proc.devRef .tc main_v17)) := by
  after_results_simp
  try rfl

/-- The second assignment: buffer `main_v21` is kept. -/
theorem near2_v21 : after near2 W (Proc.devRef .tc main_v21) = (W (Proc.devRef .tc main_v21)) := by
  after_results_simp
  try rfl

/-- The second means: the points are kept. -/
theorem mean2_arg0 : after mean2 W (Proc.devRef .tc main_arg0) = (W (Proc.devRef .tc main_arg0)) := by
  after_results_simp
  try rfl

/-- The last assignment: the points are kept. -/
theorem near3_arg0 : after near3 W (Proc.devRef .tc main_arg0) = (W (Proc.devRef .tc main_arg0)) := by
  after_results_simp
  try rfl

/-- The last assignment: the centroids are kept. -/
theorem near3_v61 : after near3 W (Proc.devRef .tc main_v61) = (W (Proc.devRef .tc main_v61)) := by
  after_results_simp
  try rfl

/-- The last step: the points are kept. -/
theorem last_arg0 : after last W (Proc.devRef .tc main_arg0) = (W (Proc.devRef .tc main_arg0)) := by
  after_results_simp
  try rfl

/-- The last step: the centroids are kept. -/
theorem last_v61 : after last W (Proc.devRef .tc main_v61) = (W (Proc.devRef .tc main_v61)) := by
  after_results_simp
  try rfl

/-- A list run after another. -/
theorem after_two (l l' : List (HloOp τ sig (Elt F))) : after (l ++ l') W = after l' (after l W) := by
  induction l generalizing W with
  | nil => rfl
  | cons o l ih => exact ih (o.result W)

/-- Everything the reference does from the initial centroids on. -/
abbrev rest : List (HloOp τ sig (Elt F)) := start ++ (near1 ++ (mean1 ++ (near2 ++ (mean2 ++ (near3 ++ last)))))

/-- The centroids after one round from the centroids `c`. -/
def roundV (p : Pts F) (c : Cen F) : Cen F := meanV (nearV p c) (shapeCast S131072x32 p shapeCasts_S16x8192x32_S131072x32) baseV

/-- The reference's centroids after both rounds, from the points and the numbers of the initial ones. -/
def centV (p : Pts F) (i : (⟨S64x1, .i32⟩ : BufTy).Contents (Elt F)) : Cen F := roundV p (roundV p (pickV p i))

/-- The centroids the reference returns. -/
theorem rest_v61 : after rest W (Proc.devRef .tc main_v61) = centV (W (Proc.devRef .tc main_arg0)) (W (Proc.devRef .tc main_v15)) := by
  rw [rest, after_two, after_two, after_two, after_two, after_two, after_two, last_v61, near3_v61, mean2_val, near2_val, near2_v17, near2_v21, mean1_arg0, mean1_val,
    mean1_v17, mean1_v21, near1_arg0, near1_val, near1_v17, near1_v21, start_arg0, start_v16, start_v17, start_v21]
  rfl

/-- The assignment the reference returns. -/
theorem rest_v70 : after rest W (Proc.devRef .tc main_v70) = broadcastInDim S16x1x8192 ![0, 2] bcast_S16x8192_S16x1x8192_0_2
    (nearV (W (Proc.devRef .tc main_arg0)) (centV (W (Proc.devRef .tc main_arg0)) (W (Proc.devRef .tc main_v15)))) := by
  rw [rest, after_two, after_two, after_two, after_two, after_two, after_two, last_val, near3_val, mean2_arg0, mean2_val, near2_arg0, near2_val, near2_v17, near2_v21, mean1_arg0, mean1_val,
    mean1_v17, mean1_v21, near1_arg0, near1_val, near1_v17, near1_v21, start_arg0, start_v16, start_v17, start_v21]
  rfl

/-- The points are left as they were. -/
theorem rest_arg0 : after rest W (Proc.devRef .tc main_arg0) = W (Proc.devRef .tc main_arg0) := by
  rw [rest, after_two, after_two, after_two, after_two, after_two, after_two, last_arg0, near3_arg0, mean2_arg0, near2_arg0,
    mean1_arg0, near1_arg0, start_arg0]

end Cert.ReferenceIdeal.Tail

end
-- ==== Proof.Ref.Prefix.lean ====
/- The kernel's host operations and the reference's begin with the same operations, those that draw the numbers of the initial
   centroids: they run in step. -/
module

public import proofs.«01_k».proof.Proof.Gen.KernelIdeal.Launch
public import proofs.«01_k».proof.Proof.Sim
public import proofs.«01_k».proof.Proof.Ref.Line
public import proofs.«01_k».proof.Proof.Ref.Tail

@[expose] public section

set_option maxHeartbeats 40000000
set_option maxRecDepth 100000

noncomputable section

namespace Cert.Prefix

open Idealize.ShloMosaic Idealize.ShloMosaic.StableHlo Cert.Sim Cert.ReferenceIdeal.Lines Cert.ReferenceIdeal.Tail

variable {F : FTy → Type} [FloatOps F]

/-- The host operations that draw the initial indices run in step in kernel and reference. -/
theorem in_step (c : Dev Cert.ReferenceIdeal.nD) :
    Steps 1 (Cert.KernelIdeal.Gen.hostOps0 (F := F)) (whole (F := F) c).ops 981 ((Cert.KernelIdeal.Gen.hostOps0 (F := F)).drop 980) (rest (F := F)) := by

  iterate 980 (refine Steps.expose rfl ?_; first
    | (with_reducible refine Steps.unary _ _ _ _ _ ?_ ?_ ?_ ; exact ⟨rfl, rfl, rfl, rfl⟩; exact ⟨rfl, rfl, rfl, rfl⟩)
    | (with_reducible refine Steps.binary _ _ _ _ _ _ _ ?_ ?_ ?_ ?_ ; exact ⟨rfl, rfl, rfl, rfl⟩; exact ⟨rfl, rfl, rfl, rfl⟩; exact ⟨rfl, rfl, rfl, rfl⟩)
    | (with_reducible refine Steps.nullary _ _ _ ?_ ?_ ; exact ⟨rfl, rfl, rfl, rfl⟩)
    | (with_reducible refine Steps.ternary _ _ _ _ _ _ _ _ _ ?_ ?_ ?_ ?_ ?_ ; exact ⟨rfl, rfl, rfl, rfl⟩; exact ⟨rfl, rfl, rfl, rfl⟩; exact ⟨rfl, rfl, rfl, rfl⟩; exact ⟨rfl, rfl, rfl, rfl⟩)
    | (refine Steps.reshape _ _ _ _ _ _ _ _ ?_ ?_ ?_ ; exact ⟨rfl, rfl, rfl, rfl⟩; exact ⟨rfl, rfl, rfl, rfl⟩)
    | (refine Steps.nullary' _ _ _ _ _ _ ?_ ?_ ?_ ; exact ⟨rfl, rfl, rfl, rfl⟩; exact HEq.rfl)
    | (refine Steps.unary' _ _ _ _ _ _ _ _ _ _ ?_ ?_ ?_ ?_ ?_ ?_ ; exact ⟨rfl, rfl, rfl, rfl⟩; exact ⟨rfl, rfl, rfl, rfl⟩; exact rfl; exact rfl; exact HEq.rfl)
    | (refine Steps.binary' _ _ _ _ _ _ _ _ _ _ _ _ _ _ ?_ ?_ ?_ ?_ ?_ ?_ ?_ ?_ ; exact ⟨rfl, rfl, rfl, rfl⟩; exact ⟨rfl, rfl, rfl, rfl⟩; exact ⟨rfl, rfl, rfl, rfl⟩; exact rfl; exact rfl; exact rfl; exact HEq.rfl)
    | (refine Steps.ternary' _ _ _ _ _ _ _ _ _ _ _ _ _ _ _ _ _ _ ?_ ?_ ?_ ?_ ?_ ?_ ?_ ?_ ?_ ?_ ; exact ⟨rfl, rfl, rfl, rfl⟩; exact ⟨rfl, rfl, rfl, rfl⟩; exact ⟨rfl, rfl, rfl, rfl⟩; exact ⟨rfl, rfl, rfl, rfl⟩; exact rfl; exact rfl; exact rfl; exact rfl; exact HEq.rfl))
  exact Steps.done _ _ _

end Cert.Prefix

end
-- ==== Proof.Ref.Run.lean ====
/- The reference's run: it ends, its argument is as it was, and its results are the two rounds and the last assignment from
   initial indices that are the kernel's own. -/
module

public import proofs.«01_k».proof.Proof.Gen.KernelIdeal.Frame
public import proofs.«01_k».proof.Proof.Ref.Prefix
public import Idealize.ShloMosaic.Lib.Quiescent

@[expose] public section

set_option maxHeartbeats 4000000
set_option maxRecDepth 20000

noncomputable section

namespace Cert.RefRun

open Idealize.ShloMosaic Idealize.ShloMosaic.StableHlo Idealize.SL.Sem Cert.Sim Cert.ReferenceIdeal.Lines Cert.ReferenceIdeal.Tail

variable {F : FTy → Type} [FloatOps F]

section Kernel

open Cert.KernelIdeal Facts₀ Facts

/-- What the kernel's host code hands to its call as initial centroids: the points of the given numbers, coordinates first. -/
def startV (p : Pts F) (i : (⟨S64x1, .i32⟩ : BufTy).Contents (Elt F)) : (⟨S16x32x64, .f32⟩ : BufTy).Contents (Elt F) :=
  transpose S16x32x64 [0, 2, 1] (Host.gather gather_S16x8192x32_S64x1_S16x64x32_02_1_n_n_1_1_16132 p i) transposes_S16x64x32_S16x32x64_0_2_1

/-- The kernel's last two host operations. -/
abbrev lastOps : List (HloOp τ sig (Elt F)) :=
  [ StableHlo.TRef.binary (.of main_arg0 : TRef sig ⟨S16x8192x32, .f32⟩) (.of main_call0_v15 : TRef sig ⟨S64x1, .i32⟩) (.of main_call0_v16 : TRef sig ⟨S16x64x32, .f32⟩) (fun x i => Host.gather gather_S16x8192x32_S64x1_S16x64x32_02_1_n_n_1_1_16132 x i)
  , StableHlo.TRef.unary (.of main_call0_v16 : TRef sig ⟨S16x64x32, .f32⟩) (.of main_call0_v17 : TRef sig ⟨S16x32x64, .f32⟩) (transpose S16x32x64 [0, 2, 1] · transposes_S16x64x32_S16x32x64_0_2_1) ]

/-- The last two of the kernel's host operations. -/
theorem drop_eq : (Cert.KernelIdeal.Gen.hostOps0 (F := F)).drop 980 = lastOps := rfl

/-- They leave the initial centroids, coordinates before clusters. -/
theorem lastOps_v17 (v : Valuation τ sig (Elt F)) : after (lastOps (F := F)) v (Proc.devRef .tc main_call0_v17)
    = startV (v (Proc.devRef .tc main_arg0)) (v (Proc.devRef .tc main_call0_v15)) := by
  after_results_simp
  rfl

/-- They leave the points as they are. -/
theorem lastOps_arg0 (v : Valuation τ sig (Elt F)) : after (lastOps (F := F)) v (Proc.devRef .tc main_arg0)
    = v (Proc.devRef .tc main_arg0) := by
  after_results_simp

end Kernel

/-- Run from memories that hold the same points, the kernel's host code and the reference draw the same initial indices `i`:
    the kernel hands the points of those numbers to its call, and the reference's results are computed from them. -/
theorem drawn (c : Dev Cert.ReferenceIdeal.nD) (v : Valuation Cert.KernelIdeal.τ Cert.KernelIdeal.sig (Elt F))
    (w : Valuation Cert.ReferenceIdeal.τ Cert.ReferenceIdeal.sig (Elt F)) (p : Pts F)
    (hv : v (Proc.devRef .tc Cert.KernelIdeal.main_arg0) = p) (hw : w (Proc.devRef .tc Cert.ReferenceIdeal.main_arg0) = p)
    (hk : after (Cert.KernelIdeal.Gen.hostOps0 (F := F)) v (Proc.devRef .tc Cert.KernelIdeal.main_arg0) = p) :
    ∃ i : (⟨Cert.ReferenceIdeal.S64x1, .i32⟩ : BufTy).Contents (Elt F),
      after (Cert.KernelIdeal.Gen.hostOps0 (F := F)) v (Proc.devRef .tc Cert.KernelIdeal.main_call0_v17) = startV p i
      ∧ after (whole (F := F) c).ops w (Proc.devRef .tc Cert.ReferenceIdeal.main_v61) = centV p i
      ∧ after (whole (F := F) c).ops w (Proc.devRef .tc Cert.ReferenceIdeal.main_v70)
        = broadcastInDim Cert.ReferenceIdeal.S16x1x8192 ![0, 2] Cert.ReferenceIdeal.Facts₀.bcast_S16x8192_S16x1x8192_0_2 (nearV p (centV p i)) := by
  have h1 : Agree 1 v w := by
    intro r s k hr hs hk
    obtain rfl : k = 0 := by omega
    obtain rfl := hr.eq (s := Cert.KernelIdeal.main_arg0) ⟨rfl, rfl⟩
    obtain rfl := hs.eq (s := Cert.ReferenceIdeal.main_arg0) ⟨rfl, rfl⟩
    exact heq_of_eq (hv.trans hw.symm)
  obtain ⟨v', w', ha, h2, h3⟩ := (Cert.Prefix.in_step (F := F) c).run v w h1
  rw [drop_eq] at h2
  have e0 : v' (Proc.devRef .tc Cert.KernelIdeal.main_arg0) = p := by rw [← lastOps_arg0 v', ← h2, hk]
  have e1 : w' (Proc.devRef .tc Cert.ReferenceIdeal.main_arg0) = p :=
    (eq_of_heq (ha Cert.KernelIdeal.main_arg0 Cert.ReferenceIdeal.main_arg0 0 ⟨rfl, rfl⟩ ⟨rfl, rfl⟩ (by omega))).symm.trans e0
  have e2 : v' (Proc.devRef .tc Cert.KernelIdeal.main_call0_v15) = w' (Proc.devRef .tc Cert.ReferenceIdeal.main_v15) :=
    eq_of_heq (ha Cert.KernelIdeal.main_call0_v15 Cert.ReferenceIdeal.main_v15 980 ⟨rfl, rfl⟩ ⟨rfl, rfl⟩ (by omega))
  refine ⟨w' (Proc.devRef .tc Cert.ReferenceIdeal.main_v15), ?_, ?_, ?_⟩
  · rw [h2, lastOps_v17, e0, e2]
  · rw [h3, rest_v61, e1]
  · rw [h3, rest_v70, e1]

/-- The reference leaves the points as they were. -/
theorem kept (c : Dev Cert.ReferenceIdeal.nD) (w : Valuation Cert.ReferenceIdeal.τ Cert.ReferenceIdeal.sig (Elt F)) :
    after (whole (F := F) c).ops w (Proc.devRef .tc Cert.ReferenceIdeal.main_arg0) = w (Proc.devRef .tc Cert.ReferenceIdeal.main_arg0) := by
  obtain ⟨w', h1, h2⟩ := (Cert.Prefix.in_step (F := F) c).keep w
  rw [h1, rest_arg0, h2 Cert.ReferenceIdeal.main_arg0 0 ⟨rfl, rfl⟩ (by omega)]

/-- The reference's run: every buffer ends as its operations leave it. -/
theorem run (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      fun r => ∀ (d : Dev Cert.ReferenceIdeal.nD) (b : Ref Cert.ReferenceIdeal.sig .tc),
        r.2.mem ((d.tc : Thread Cert.ReferenceIdeal.nD Cert.ReferenceIdeal.τ).loc b)
          = after (whole (F := F) d).ops (launchContents m d) (Proc.devRef .tc b) :=
  run_seq (by decide) (by decide) _ _ (fun d => (whole (F := F) d).ops) (fun d => (whole (F := F) d).eq)
    (fun d => List.forall_iff_forall_mem.mpr fun op h => ((whole (F := F) d).fine op h).1) m g
    (fun d op h => ((whole (F := F) d).fine op h).2)

/-- The reference's frame. -/
theorem frame (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) ∧ r.2.sem = fun _ => 0 :=
  (θ_run _ _ _).mono (fun r h => ⟨fun c => (h c _).trans (kept c _), sem_eq_zero_of_no_sems (by decide) r.2⟩) (run m g)

end Cert.RefRun

end
-- ==== Proof.Means.Spec.lean ====
/- The mathematics of the problem over the extended reals: the squared distance, the score that orders the centroids of a
   point as the distance does, the first least of 64 values, and the means of the points by nearest centroid. -/
module

public import Idealize.ShloMosaic.PureOps.Ideal

@[expose] public section

noncomputable section

namespace Cert.Means

open Idealize.ShloMosaic

/-- A point or a centroid: 32 coordinates. -/
abbrev Pt : Type := Fin 32 → EReal

/-- The squared distance. -/
def dist (p c : Pt) : EReal := ∑ d, (p d - c d) * (p d - c d)

/-- The centroid's squared length less twice its product with the point. -/
def score (p c : Pt) : EReal := (∑ d, c d * c d) - 2 * ∑ d, p d * c d

/-- `k` is the first place where `f` is least. -/
def IsFirst (f : Fin 64 → EReal) (k : Fin 64) : Prop := ∀ j, f k ≤ f j ∧ (f j = f k → k ≤ j)

/-- There is a first least value. -/
theorem exists_first (f : Fin 64 → EReal) : ∃ k, IsFirst f k := by
  obtain ⟨k₀, hk₀⟩ := Finite.exists_min f
  have hne : (Finset.univ.filter fun k => ∀ j, f k ≤ f j).Nonempty := ⟨k₀, by simpa using hk₀⟩
  refine ⟨Finset.min' _ hne, fun j => ?_⟩
  have hm := Finset.min'_mem _ hne
  rw [Finset.mem_filter] at hm
  refine ⟨hm.2 j, fun h => Finset.min'_le _ _ ?_⟩
  rw [Finset.mem_filter]
  exact ⟨Finset.mem_univ _, fun i => h ▸ hm.2 i⟩

/-- The first place where `f` is least. -/
def first (f : Fin 64 → EReal) : Fin 64 := (exists_first f).choose

/-- It is the first least value. -/
theorem first_spec (f : Fin 64 → EReal) : IsFirst f (first f) := (exists_first f).choose_spec

/-- There is only one. -/
theorem IsFirst.eq {f : Fin 64 → EReal} {k : Fin 64} (h : IsFirst f k) : first f = k := by
  have h1 := first_spec f
  have e : f k = f (first f) := le_antisymm (h _).1 (h1 _).1
  exact le_antisymm ((h1 k).2 e) ((h _).2 e.symm)

/-- The nearest of the centroids `C`, the first of them where several are nearest. -/
def near (C : Fin 64 → Pt) (p : Pt) : Fin 64 := first fun k => dist p (C k)

/-- The means of the points `P` by their centroids `a`. -/
def mean (P : Fin 8192 → Pt) (a : Fin 8192 → Fin 64) : Fin 64 → Pt := fun k d =>
  Ideal.div (∑ n, if a n = k then P n d else 0) (∑ n, if a n = k then 1 else 0)

/-- One round: every point to its nearest centroid, then the means. -/
def round (P : Fin 8192 → Pt) (C : Fin 64 → Pt) : Fin 64 → Pt := mean P fun n => near C (P n)

/-- A centroid whose coordinates are all real, or all `⊥` (the quotient of no points). -/
def Good (c : Pt) : Prop := (∃ r : Fin 32 → ℝ, ∀ d, c d = (r d : EReal)) ∨ ∀ d, c d = ⊥

/-- A point of real coordinates, one of them positive or all of them zero. -/
def Plain (p : Pt) : Prop := ∃ r : Fin 32 → ℝ, (∀ d, p d = (r d : EReal)) ∧ ((∃ d, 0 < r d) ∨ ∀ d, r d = 0)

/-- A sum of reals, over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum with a term `⊥` is `⊥`. -/
theorem sum_bot {ι : Type} (s : Finset ι) (f : ι → EReal) (i : ι) (hi : i ∈ s) (h : f i = ⊥) : ∑ j ∈ s, f j = ⊥ := by
  classical
  rw [← Finset.add_sum_erase s f hi, h, EReal.bot_add]

/-- Thirty-two infinities sum to infinity. -/
theorem sum_top : (∑ _d : Fin 32, (⊤ : EReal)) = ⊤ := by
  rw [Finset.sum_const, EReal.nsmul_eq_mul, Finset.card_univ, Fintype.card_fin]
  exact EReal.coe_mul_top_of_pos (x := ((32 : ℕ) : ℝ)) (by norm_num)

/-- The distance is the score and the point's own squared length. -/
theorem dist_eq {p c : Pt} {r : Fin 32 → ℝ} (hp : ∀ d, p d = (r d : EReal)) (hr : (∃ d, 0 < r d) ∨ ∀ d, r d = 0) (hc : Good c) :
    dist p c = ((∑ d, r d * r d : ℝ) : EReal) + score p c := by
  rcases hc with ⟨s, hs⟩ | hs
  · unfold dist score
    simp only [hp, hs]
    have h2 : (2 : EReal) = ((2 : ℝ) : EReal) := rfl
    simp only [h2, ← EReal.coe_sub, ← EReal.coe_mul, ← coe_sum, ← EReal.coe_add]
    congr 1
    rw [Finset.mul_sum, ← Finset.sum_sub_distrib, ← Finset.sum_add_distrib]
    exact Finset.sum_congr rfl fun d _ => by ring
  · have h1 : dist p c = ⊤ := by
      unfold dist
      simp only [hp, hs, EReal.sub_bot (EReal.coe_ne_bot _), EReal.top_mul_top]
      exact sum_top
    have h3 : (∑ d, c d * c d) = ⊤ := by
      simp only [hs, EReal.bot_mul_bot]
      exact sum_top
    have h4 : score p c = ⊤ := by
      unfold score
      rw [h3]
      rcases hr with ⟨d, hd⟩ | h0
      · rw [sum_bot _ _ d (Finset.mem_univ d) (by rw [hp, hs]; exact EReal.coe_mul_bot_of_pos hd)]
        rw [EReal.mul_bot_of_pos (by norm_num), EReal.top_sub_bot]
      · simp only [hp, h0, EReal.coe_zero, zero_mul, Finset.sum_const_zero, mul_zero, sub_zero]
    rw [h1, h4, EReal.coe_add_top]

/-- A real added on both sides keeps the order. -/
theorem add_le_iff (r : ℝ) (x y : EReal) : (r : EReal) + x ≤ (r : EReal) + y ↔ x ≤ y := by
  constructor
  · intro h
    by_contra hlt
    exact absurd h (not_le.mpr (EReal.add_lt_add_left_coe (not_le.mp hlt) r))
  · exact fun h => add_le_add le_rfl h

/-- The first centroid of least score is the nearest. -/
theorem first_score {p : Pt} {C : Fin 64 → Pt} (hp : Plain p) (hC : ∀ k, Good (C k)) :
    first (fun k => score p (C k)) = near C p := by
  obtain ⟨r, h1, h2⟩ := hp
  have e : ∀ k, dist p (C k) = ((∑ d, r d * r d : ℝ) : EReal) + score p (C k) := fun k => dist_eq h1 h2 (hC k)
  refine IsFirst.eq fun j => ?_
  have h : dist p (C (near C p)) ≤ dist p (C j) ∧ (dist p (C j) = dist p (C (near C p)) → near C p ≤ j) :=
    first_spec (fun k => dist p (C k)) j
  rw [e, e] at h
  exact ⟨(add_le_iff _ _ _).mp h.1, fun hj => h.2 (congrArg _ hj)⟩

/-- Means are good centroids. -/
theorem good_mean {P : Fin 8192 → Pt} (hP : ∀ n, Plain (P n)) (a : Fin 8192 → Fin 64) (k : Fin 64) : Good (mean P a k) := by
  choose r hr _ using hP
  have hs : ∀ d, (∑ n, if a n = k then P n d else 0) = ((∑ n, if a n = k then r n d else 0 : ℝ) : EReal) := fun d => by
    rw [coe_sum]
    exact Finset.sum_congr rfl fun n _ => by split_ifs <;> simp [hr]
  have hc : (∑ n : Fin 8192, if a n = k then (1 : EReal) else 0) = ((∑ n : Fin 8192, if a n = k then (1 : ℝ) else 0 : ℝ) : EReal) := by
    rw [coe_sum]
    exact Finset.sum_congr rfl fun n _ => by split_ifs <;> simp
  by_cases h : ∃ n, a n = k
  · left
    have hne : (∑ n : Fin 8192, if a n = k then (1 : ℝ) else 0) ≠ 0 := by
      obtain ⟨n, hn⟩ := h
      refine ne_of_gt (Finset.sum_pos' (fun i _ => by split_ifs <;> norm_num) ⟨n, Finset.mem_univ _, by rw [if_pos hn]; norm_num⟩)
    refine ⟨fun d => (∑ n, if a n = k then r n d else 0) * (1 / ∑ n : Fin 8192, if a n = k then (1 : ℝ) else 0), fun d => ?_⟩
    unfold mean
    rw [hs, hc, Ideal.div_coe hne, EReal.coe_mul]
  · right
    intro d
    have h0 : ∀ n, ¬ a n = k := fun n hn => h ⟨n, hn⟩
    unfold mean
    simp only [h0, if_false, Finset.sum_const_zero]
    simp [Ideal.div]

end Cert.Means

end
-- ==== Proof.Means.Words.lean ====
/- The first least of 64 values as the kernel finds it: the least value by a fold of `min` from infinity, then the least of
   the positions' words where the value is that least one (64 elsewhere), by a fold of the signed `min`. -/
module

public import proofs.«01_k».proof.Proof.Means.Spec
public import Idealize.ShloMosaic.PureOps.Reduce
public import Idealize.ShloMosaic.Lib.Pipeline.Value

@[expose] public section

noncomputable section

namespace Cert.Means

open Idealize.ShloMosaic

/-- The fold of `min` from infinity is the value at the first least place. -/
theorem fold_min_first (f : Fin 64 → EReal) : (Finset.univ : Finset (Fin 64)).fold min ⊤ f = f (first f) := by
  apply le_antisymm
  · exact (Finset.fold_min_le _).mpr (.inr ⟨first f, Finset.mem_univ _, le_rfl⟩)
  · exact Finset.le_fold_min _ |>.mpr ⟨le_top, fun k _ => (first_spec f k).1⟩

/-- The signed least of two small words is the first, if it is the smaller number. -/
theorem minsi_ofNat {i j : Nat} (hij : i ≤ j) (hj : j < 2 ^ 31) :
    IntOp.minsi (BitVec.ofNat 32 i) (BitVec.ofNat 32 j) = BitVec.ofNat 32 i := by
  unfold IntOp.minsi
  split
  · rfl
  · rename_i h
    have hi : i < 2 ^ 31 := lt_of_le_of_lt hij hj
    have e : ∀ n, n < 2 ^ 31 → (BitVec.ofNat 32 n).toInt = (n : Int) := fun n hn => by
      rw [BitVec.toInt_eq_toNat_of_lt (by rw [BitVec.toNat_ofNat, Nat.mod_eq_of_lt (by omega)]; omega), BitVec.toNat_ofNat,
        Nat.mod_eq_of_lt (by omega)]
    rw [BitVec.slt_iff_toInt_lt, e i hi, e j hj] at h
    rw [show j = i by omega]

/-- A fold of the signed least is `v`, if `v` is one of the words and no word (nor the start) is less. -/
theorem fold_minsi {ι : Type} [Fintype ι] [DecidableEq ι] (w : ι → BitVec 32) (init v : BitVec 32) (k : ι) (hk : w k = v)
    (hw : ∀ i, IntOp.minsi v (w i) = v) (hi : IntOp.minsi v init = v) :
    (Finset.univ : Finset ι).fold IntOp.minsi init w = v := by
  have key : ∀ s : Finset ι, IntOp.minsi v (s.fold IntOp.minsi init w) = v := fun s => by
    induction s using Finset.induction_on with
    | empty => rw [Finset.fold_empty]; exact hi
    | insert a s ha ih =>
      rw [Finset.fold_insert ha, ← Std.Associative.assoc (op := IntOp.minsi (w := 32)) v, hw a, ih]
  rw [← Finset.insert_erase (Finset.mem_univ k), Finset.fold_insert (Finset.notMem_erase k _), hk]
  exact key _

/-- The least of the words of the places where `f` is least is the word of the first such place. -/
theorem fold_first (f : Fin 64 → EReal) :
    (Finset.univ : Finset (Fin 64)).fold IntOp.minsi 2147483647#32
        (fun k => if f k = f (first f) then BitVec.ofNat 32 k.val else 64#32) = BitVec.ofNat 32 (first f).val := by
  have hb := (first f).isLt
  refine fold_minsi (fun k => if f k = f (first f) then BitVec.ofNat 32 k.val else 64#32) _ _ (first f) (if_pos rfl) (fun k => ?_)
    (minsi_ofNat (j := 2147483647) (by omega) (by omega))
  split
  · rename_i h
    exact minsi_ofNat ((first_spec f k).2 h) (by have := k.isLt; omega)
  · exact minsi_ofNat (j := 64) (by omega) (by omega)

/-- Words of places are equal just when the places are. -/
theorem ofNat_inj (i j : Fin 64) : BitVec.ofNat 32 i.val = BitVec.ofNat 32 j.val ↔ i = j := by
  constructor
  · intro h
    have h := congrArg BitVec.toNat h
    rw [BitVec.toNat_ofNat, BitVec.toNat_ofNat, Nat.mod_eq_of_lt (by omega), Nat.mod_eq_of_lt (by omega)] at h
    exact Fin.ext h
  · rintro rfl; rfl

/-- The product with the indicator of a place is the value there. -/
theorem sum_hot (f : Fin 64 → EReal) (a : Fin 64) : ∑ k, f k * (if k = a then 1 else 0) = f a := by
  rw [Finset.sum_eq_single a (fun k _ h => by rw [if_neg h, mul_zero]) (fun h => absurd (Finset.mem_univ a) h), if_pos rfl, mul_one]

/-- Of the nearest centroid and any other place, the nearest first: if the other is as near, the nearest has the lesser
    word. -/
theorem choose_near (C : Fin 64 → Pt) (p : Pt) (b : Fin 64) :
    (if dist p (C (near C p)) < dist p (C b) then BitVec.ofNat 32 (near C p).val
      else if dist p (C b) < dist p (C (near C p)) then BitVec.ofNat 32 b.val
      else IntOp.minsi (BitVec.ofNat 32 (near C p).val) (BitVec.ofNat 32 b.val)) = BitVec.ofNat 32 (near C p).val := by
  have h : dist p (C (near C p)) ≤ dist p (C b) ∧ (dist p (C b) = dist p (C (near C p)) → near C p ≤ b) :=
    first_spec (fun k => dist p (C k)) b
  split_ifs with h1 h2
  · rfl
  · exact absurd h.1 (not_le.mpr h2)
  · exact minsi_ofNat (h.2 (le_antisymm (not_lt.mp h1) h.1)) (by have := b.isLt; omega)

end Cert.Means
-- ==== Proof.Block.Ops.lean ====
/- The kernel's array operations read at an index, at the shapes one block's computation uses. -/
module

public import proofs.«01_k».proof.Proof.Gen.KernelIdeal.Skeleton
public import proofs.«01_k».proof.Proof.Means.Words
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.ValueIdxCoords
public import Idealize.ShloMosaic.Lib.IdealHost

@[expose] public section

noncomputable section

namespace Cert.KernelIdeal.Block

open Idealize.ShloMosaic Idealize.ShloMosaic.ValueIdx Cert.KernelIdeal.Gen Cert.Means

/-- The number 2 as the kernel writes it. -/
theorem ofBits_two : Ideal.ofBits .f32 0x40000000#32 = 2 := by
  have h : Ideal.ofBits .f32 0x40000000#32 = ((2 : ℝ) : EReal) := by
    simp [Ideal.ofBits, Ideal.ieee]
    rw [← EReal.coe_mul]
    norm_num
  exact h

/-- Infinity as the kernel writes it. -/
theorem ofBits_inf : Ideal.ofBits .f32 0x7F800000#32 = ⊤ := by
  simp [Ideal.ofBits, Ideal.ieee]

/-- A product into a zero array is the sum of the products. -/
theorem dot_apply {M K N : ℕ} (x : FVec Ideal ⟨2, ![M, K]⟩ .f32) (y : FVec Ideal ⟨2, ![K, N]⟩ .f32) (r : Fin M) (c : Fin N) :
    FloatOps.matmul (DotDims.plain M K N) (some .fp32) x y (constant ⟨2, ![M, N]⟩ .f32 0x00000000#32) (ix2 r c)
      = ∑ k : Fin K, x (ix2 r k) * y (ix2 k c) := by
  rw [Ideal.matmul_plain_apply, constant_apply, Ideal.ofBits_zero_f32, zero_add]

/-- The points by the centroids. -/
theorem dot_pc (x : FVec Ideal S512x32 .f32) (y : FVec Ideal S32x64 .f32) (r : Fin 512) (c : Fin 64) :
    matmul dot_S512x32_S32x64_S512x64_1_0_0_1_n_n (some .fp32) x y (constant S512x64 .f32 0x00000000#32) (ix2 r c)
      = ∑ k : Fin 32, x (ix2 r k) * y (ix2 k c) :=
  dot_apply (M := 512) (K := 32) (N := 64) x y r c

/-- The centroids by an indicator of centroids. -/
theorem dot_ch (x : FVec Ideal S32x64 .f32) (y : FVec Ideal S64x512 .f32) (r : Fin 32) (c : Fin 512) :
    matmul dot_S32x64_S64x512_S32x512_1_0_0_1_n_n (some .fp32) x y (constant S32x512 .f32 0x00000000#32) (ix2 r c)
      = ∑ k : Fin 64, x (ix2 r k) * y (ix2 k c) :=
  dot_apply (M := 32) (K := 64) (N := 512) x y r c

/-- An indicator of centroids by the points. -/
theorem dot_hp (x : FVec Ideal S64x512 .f32) (y : FVec Ideal S512x32 .f32) (r : Fin 64) (c : Fin 32) :
    matmul dot_S64x512_S512x32_S64x32_1_0_0_1_n_n (some .fp32) x y (constant S64x32 .f32 0x00000000#32) (ix2 r c)
      = ∑ k : Fin 512, x (ix2 r k) * y (ix2 k c) :=
  dot_apply (M := 64) (K := 512) (N := 32) x y r c

/-- The sum down the columns of a 32-row array. -/
theorem sum_col (x : FVec Ideal S32x512 .f32) (n : Fin 512) :
    multiReduction .add [0] S512 x 0x00000000#32 reduces_S32x512_S512 (.inl rfl) rfl (ix1 n) = ∑ d : Fin 32, x (ix2 d n) := by
  refine (Ideal.multiReduction_add_single _ _ _ _ _ _).trans ?_
  refine Finset.sum_congr rfl fun d _ => congrArg x (funext fun a => Fin.ext ?_)
  match a with
  | ⟨0, _⟩ => rfl
  | ⟨1, _⟩ => rfl

/-- The sum down the columns of the centroids. -/
theorem sum_cen (x : FVec Ideal S32x64 .f32) (k : Fin 64) :
    multiReduction .add [0] S64 x 0x00000000#32 reduces_S32x64_S64 (.inl rfl) rfl (ix1 k) = ∑ d : Fin 32, x (ix2 d k) := by
  refine (Ideal.multiReduction_add_single _ _ _ _ _ _).trans ?_
  refine Finset.sum_congr rfl fun d _ => congrArg x (funext fun a => Fin.ext ?_)
  match a with
  | ⟨0, _⟩ => rfl
  | ⟨1, _⟩ => rfl

/-- The sum along the rows of an indicator. -/
theorem sum_row (x : FVec Ideal S64x512 .f32) (k : Fin 64) :
    multiReduction .add [1] S64 x 0x00000000#32 reduces_S64x512_S64 (.inl rfl) rfl (ix1 k) = ∑ n : Fin 512, x (ix2 k n) := by
  refine (Ideal.multiReduction_add_single _ _ _ _ _ _).trans ?_
  refine Finset.sum_congr rfl fun d _ => congrArg x (funext fun a => Fin.ext ?_)
  match a with
  | ⟨0, _⟩ => rfl
  | ⟨1, _⟩ => rfl

/-- The least down the columns. -/
theorem min_col (x : FVec Ideal S64x512 .f32) (n : Fin 512) :
    multiReduction .minimumf [0] S512 x 0x7F800000#32 reduces_S64x512_S512 (.inl rfl) rfl (ix1 n)
      = (Finset.univ : Finset (Fin 64)).fold min ⊤ fun k => x (ix2 k n) := by
  refine (multiReduction_minimumf_eq_fold _ _ _ _ _ _).trans ?_
  refine (reduces_S64x512_S512.fold_filter_drop_single _ _ x (ix1 n)).trans ?_
  have e : (x ∘ reduces_S64x512_S512.lift (ix1 n)) = fun k => x (ix2 k n) := funext fun k => congrArg x (funext fun a => Fin.ext (by
    match a with
    | ⟨0, _⟩ => rfl
    | ⟨1, _⟩ => rfl))
  rw [e]
  exact congrArg (fun b => Finset.fold min b (fun k => x (ix2 k n)) Finset.univ) ofBits_inf

/-- The least word down the columns. -/
theorem minI_col (x : IVec S64x512 32) (n : Fin 512) :
    multiReductionI .minsi [0] S512 x 2147483647#32 reduces_S64x512_S512 rfl (ix1 n)
      = (Finset.univ : Finset (Fin 64)).fold IntOp.minsi 2147483647#32 fun k => x (ix2 k n) := by
  refine (multiReductionI_eq_fold _ _ _ _ _ _).trans ?_
  refine (reduces_S64x512_S512.fold_filter_drop_single _ _ x (ix1 n)).trans ?_
  have e : (x ∘ reduces_S64x512_S512.lift (ix1 n)) = fun k => x (ix2 k n) := funext fun k => congrArg x (funext fun a => Fin.ext (by
    match a with
    | ⟨0, _⟩ => rfl
    | ⟨1, _⟩ => rfl))
  rw [e]
  rfl

/-- A condition decided is 1 just when it holds. -/
theorem select_decide {α : Type} (P : Prop) [Decidable P] (a b : α) :
    Scalar.select (BitVec.ofBool (decide P)) a b = if P then a else b := by
  by_cases h : P <;> simp [h, Scalar.select]

end Cert.KernelIdeal.Block
-- ==== Proof.Block.Chunk.lean ====
/- One chunk of 512 points: the word of each point's centroid, from the centroids (coordinates first) and the chunk. -/
module

public import proofs.«01_k».proof.Proof.Block.Ops

@[expose] public section

noncomputable section

namespace Cert.KernelIdeal.Block

open Idealize.ShloMosaic Idealize.ShloMosaic.ValueIdx Cert.KernelIdeal.Gen Cert.Means

section Defs

variable {F : FTy → Type} [FloatOps F]

/-- The centroids' numbers, down the rows. -/
def rows : IVec S64x512 32 := iota .tc S64x512 32 [0] iota_S64x512_d0_w32

/-- The centroids' squared lengths. -/
def cn (ct : FVec F S32x64 .f32) : FVec F S1x64 .f32 :=
  shapeCast S1x64 (multiReduction .add [0] S64 (mulf ct ct) 0x00000000#32 reduces_S32x64_S64 (.inl rfl) rfl) shapeCasts_S64_S1x64

/-- The number of the first least entry of each column. -/
def firstW (s : FVec F S64x512 .f32) : IVec S1x512 32 :=
  shapeCast S1x512 (multiReductionI .minsi [0] S512
    (select (cmpf .oeq s (broadcastTo S64x512 (shapeCast S1x512 (multiReduction .minimumf [0] S512 s 0x7F800000#32
      reduces_S64x512_S512 (.inl rfl) rfl) shapeCasts_S512_S1x512) broadcasts_S1x512_S64x512))
      rows (broadcast S64x512 64#32)) 2147483647#32 reduces_S64x512_S512 rfl) shapeCasts_S512_S1x512

/-- Where the row's number is the column's word. -/
def at_ (a : IVec S1x512 32) : IVec S64x512 1 := cmpi .eq rows (broadcastTo S64x512 a broadcasts_S1x512_S64x512)

/-- The indicator of each column's word. -/
def hot (a : IVec S1x512 32) : FVec F S64x512 .f32 :=
  select (at_ a) (broadcast S64x512 (Scalar.ofBits .f32 0x3F800000#32)) (broadcast S64x512 (Scalar.ofBits .f32 0x00000000#32))

/-- The columns with the entry at each column's word made infinite. -/
def without (s : FVec F S64x512 .f32) (a : IVec S1x512 32) : FVec F S64x512 .f32 :=
  select (at_ a) (broadcast S64x512 (Scalar.ofBits .f32 0x7F800000#32)) s

/-- The centroid of each column's word. -/
def pick (ct : FVec F S32x64 .f32) (a : IVec S1x512 32) : FVec F S32x512 .f32 :=
  matmul dot_S32x64_S64x512_S32x512_1_0_0_1_n_n (some .fp32) ct (hot a) (constant S32x512 .f32 0x00000000#32)

/-- The squared distances of columns. -/
def sq (x y : FVec F S32x512 .f32) : FVec F S1x512 .f32 :=
  shapeCast S1x512 (multiReduction .add [0] S512 (mulf (subf x y) (subf x y)) 0x00000000#32 reduces_S32x512_S512 (.inl rfl) rfl)
    shapeCasts_S512_S1x512

/-- Of two candidates the nearer, the lesser word where they are as near. -/
def nearer (d1 d2 : FVec F S1x512 .f32) (a1 a2 : IVec S1x512 32) : IVec S1x512 32 :=
  select (cmpf .olt d1 d2) a1 (select (cmpf .olt d2 d1) a2 (minsi a1 a2))

/-- The first candidate. -/
abbrev one (ct : FVec F S32x64 .f32) (ld : Vec F S1x512x32 .f32) : IVec S1x512 32 := firstW (k0_pay22 ct (cn ct) ld)

/-- The second candidate. -/
abbrev two (ct : FVec F S32x64 .f32) (ld : Vec F S1x512x32 .f32) : IVec S1x512 32 :=
  firstW (without (k0_pay22 ct (cn ct) ld) (one ct ld))

/-- The words of the points' centroids. -/
def assign (ct : FVec F S32x64 .f32) (ld : Vec F S1x512x32 .f32) : IVec S1x512 32 :=
  nearer (sq (k0_pay21 ld) (pick ct (one ct ld))) (sq (k0_pay21 ld) (pick ct (two ct ld))) (one ct ld) (two ct ld)

end Defs

/-- A row's word is its number. -/
theorem rows_apply (k : Fin 64) (n : Fin 512) : rows (ix2 k n) = BitVec.ofNat 32 k.val := by
  show BitVec.ofNat 32 (0 * 64 + k.val) = _
  rw [Nat.zero_mul, Nat.zero_add]

/-- The score of a point of the chunk for a centroid. -/
theorem score_apply (ct : FVec Ideal S32x64 .f32) (ld : Vec Ideal S1x512x32 .f32) (k : Fin 64) (n : Fin 512) :
    k0_pay22 ct (cn ct) ld (ix2 k n) = score (fun d => ld (ix3 (0 : Fin 1) n d)) (fun d => ct (ix2 d k)) := by
  unfold k0_pay22
  refine (transpose_ix2_apply _ _ _ _).trans ?_
  rw [subf_apply, mulf_apply, broadcast_apply]
  refine congrArg₂ (fun a b : EReal => a - b) ?_ (congrArg₂ (fun a b : EReal => a * b) ofBits_two ?_)
  · refine (broadcastTo_1b_ab_apply _ _ _ _).trans ?_
    unfold cn
    refine (shapeCast_a_1a_apply _ _ _ _).trans ?_
    exact sum_cen _ _
  · refine (dot_pc _ _ _ _).trans (Finset.sum_congr rfl fun d _ => ?_)
    refine congrArg (fun a : EReal => a * ct (ix2 d k)) ?_
    unfold k0_pay20
    exact shapeCast_1ab_ab_apply _ _ _ _

/-- The word found is the first least entry's. -/
theorem firstW_apply (s : FVec Ideal S64x512 .f32) (n : Fin 512) :
    firstW s (ix2 (0 : Fin 1) n) = BitVec.ofNat 32 (first fun k => s (ix2 k n)).val := by
  unfold firstW
  refine (shapeCast_a_1a_apply _ _ _ _).trans ((minI_col _ _).trans ?_)
  rw [← fold_first]
  refine congrArg (fun w => Finset.fold IntOp.minsi 2147483647#32 w Finset.univ) (funext fun k => ?_)
  rw [select_apply, rows_apply, broadcast_apply]
  refine (select_decide (s (ix2 k n) = _) _ _).trans ?_
  have e : broadcastTo S64x512 (shapeCast S1x512 (multiReduction .minimumf [0] S512 s 0x7F800000#32 reduces_S64x512_S512 (.inl rfl) rfl)
      shapeCasts_S512_S1x512) broadcasts_S1x512_S64x512 (ix2 k n) = s (ix2 (first fun k => s (ix2 k n)) n) :=
    (broadcastTo_1b_ab_apply _ _ _ _).trans ((shapeCast_a_1a_apply _ _ _ _).trans ((min_col _ _).trans (fold_min_first _)))
  rw [e]

/-- The mark of the rows that a word names. -/
theorem at_apply (a : IVec S1x512 32) (n : Fin 512) (b : Fin 64) (ha : a (ix2 (0 : Fin 1) n) = BitVec.ofNat 32 b.val) (k : Fin 64) :
    at_ a (ix2 k n) = BitVec.ofBool (decide (k = b)) := by
  show BitVec.ofBool (rows (ix2 k n) == broadcastTo S64x512 a broadcasts_S1x512_S64x512 (ix2 k n)) = _
  refine congrArg BitVec.ofBool ?_
  rw [rows_apply]
  refine (congrArg (fun x => BitVec.ofNat 32 k.val == x) ((broadcastTo_1b_ab_apply _ _ _ _).trans ha)).trans ?_
  rw [Bool.eq_iff_iff, beq_iff_eq, decide_eq_true_eq, ofNat_inj]

/-- The indicator of a column whose word is `b`'s. -/
theorem hot_apply (a : IVec S1x512 32) (n : Fin 512) (b : Fin 64) (ha : a (ix2 (0 : Fin 1) n) = BitVec.ofNat 32 b.val) (k : Fin 64) :
    hot (F := Ideal) a (ix2 k n) = if k = b then 1 else 0 := by
  unfold hot
  rw [select_apply, at_apply a n b ha k, select_decide]
  refine congrArg₂ (fun x y : EReal => if k = b then x else y) Ideal.ofBits_one_f32 Ideal.ofBits_zero_f32

/-- The centroid picked is the word's. -/
theorem pick_apply (ct : FVec Ideal S32x64 .f32) (a : IVec S1x512 32) (n : Fin 512) (b : Fin 64)
    (ha : a (ix2 (0 : Fin 1) n) = BitVec.ofNat 32 b.val) (d : Fin 32) : pick ct a (ix2 d n) = ct (ix2 d b) := by
  unfold pick
  refine (dot_ch _ _ _ _).trans ?_
  refine (Finset.sum_congr rfl fun k _ => congrArg (fun y : EReal => ct (ix2 d k) * y) (hot_apply a n b ha k)).trans ?_
  exact sum_hot (fun k => ct (ix2 d k)) b

/-- The distance from a point of the chunk to the centroid picked for it. -/
theorem sq_apply (ct : FVec Ideal S32x64 .f32) (ld : Vec Ideal S1x512x32 .f32) (a : IVec S1x512 32) (n : Fin 512) (b : Fin 64)
    (ha : a (ix2 (0 : Fin 1) n) = BitVec.ofNat 32 b.val) :
    sq (k0_pay21 ld) (pick ct a) (ix2 (0 : Fin 1) n) = Means.dist (fun d => ld (ix3 (0 : Fin 1) n d)) (fun d => ct (ix2 d b)) := by
  unfold sq
  refine (shapeCast_a_1a_apply _ _ _ _).trans ((sum_col _ _).trans ?_)
  refine Finset.sum_congr rfl fun d _ => ?_
  rw [mulf_apply, subf_apply, pick_apply ct a n b ha d]
  have e : k0_pay21 ld (ix2 d n) = ld (ix3 (0 : Fin 1) n d) := by
    unfold k0_pay21 k0_pay20
    exact (transpose_ix2_apply _ _ _ _).trans (shapeCast_1ab_ab_apply _ _ _ _)
  rw [e]

/-- The word chosen for a point is the nearest centroid's. -/
theorem assign_apply (ct : FVec Ideal S32x64 .f32) (ld : Vec Ideal S1x512x32 .f32) (C : Fin 64 → Pt) (p : Pt) (n : Fin 512)
    (hC : ∀ k d, ct (ix2 d k) = C k d) (hp : ∀ d, ld (ix3 (0 : Fin 1) n d) = p d) (hG : ∀ k, Good (C k)) (hP : Plain p) :
    assign ct ld (ix2 (0 : Fin 1) n) = BitVec.ofNat 32 (near C p).val := by
  have hC' : ∀ k, (fun d => ct (ix2 d k)) = C k := fun k => funext (hC k)
  have hp' : (fun d => ld (ix3 (0 : Fin 1) n d)) = p := funext hp
  have h1 : one ct ld (ix2 (0 : Fin 1) n) = BitVec.ofNat 32 (near C p).val := by
    refine (firstW_apply _ _).trans ?_
    rw [← first_score hP hG]
    refine congrArg (fun f => BitVec.ofNat 32 (first f).val) (funext fun k => ?_)
    rw [score_apply, hC', hp']
  obtain ⟨b, h2⟩ : ∃ b : Fin 64, two ct ld (ix2 (0 : Fin 1) n) = BitVec.ofNat 32 b.val := ⟨_, firstW_apply _ _⟩
  have e1 := sq_apply ct ld _ n _ h1
  have e2 := sq_apply ct ld _ n _ h2
  rw [hC', hp'] at e1 e2
  unfold assign nearer
  rw [select_apply, select_apply]
  refine (select_decide (_ < _) _ _).trans ?_
  refine Eq.trans ?_ (choose_near C p b)
  rw [e1, e2, h1]
  refine if_congr Iff.rfl rfl ?_
  refine (select_decide (_ < _) _ _).trans ?_
  rw [e1, e2, h2]
  refine if_congr Iff.rfl rfl ?_
  exact congrArg₂ IntOp.minsi h1 h2

end Cert.KernelIdeal.Block
-- ==== Proof.Block.Trips.lean ====
/- One trip of each of the kernel's loops: the trip reads one chunk of the block's points; in the two rounds it adds the
   chunk's sums and counts, in the last loop it stores the chunk's words. -/
module

public import proofs.«01_k».proof.Proof.Gen.KernelIdeal.Frame
public import proofs.«01_k».proof.Proof.Block.Chunk
public import Idealize.ShloMosaic.Lib.Pipeline.ValueKit.Tiles

@[expose] public section

noncomputable section

namespace Cert.KernelIdeal.Block

open Idealize.ShloMosaic Idealize.ShloMosaic.TcCoe Idealize.ShloMosaic.ValueIdx Idealize.SL.Sem Cert.KernelIdeal.Gen

variable {F : FTy → Type} [FloatOps F]

/-- Sums and counts with a chunk's added, from the words of the chunk's points. -/
def add (a : IVec S1x512 32) (ld : Vec F S1x512x32 .f32) (acc : FVec F S64x32 .f32 × FVec F S64x1 .f32) :
    FVec F S64x32 .f32 × FVec F S64x1 .f32 :=
  (addf acc.1 (matmul dot_S64x512_S512x32_S64x32_1_0_0_1_n_n (some .fp32) (hot a) (k0_pay20 ld) (constant S64x32 .f32 0x00000000#32)),
   addf acc.2 (shapeCast S64x1 (multiReduction .add [1] S64 (hot (F := F) a) 0x00000000#32 reduces_S64x512_S64 (.inl rfl) rfl) shapeCasts_S64_S64x1))

/-- Chunk `k` of a block's points. -/
def chunk (x : Vec F S1x8192x32 .f32) (k : ℕ) (hk : k < 16) : Vec F S1x512x32 .f32 := fun j =>
  x (ix3 (0 : Fin 1) (⟨512 * k + (j 1).val, by have : (j 1).val < 512 := (j 1).isLt; omega⟩ : Fin 8192) (j 2))

/-- The first loop makes at most 16 trips. -/
theorem trips1 : k0_t1_loop.trips ≤ 16 := k0_t1_abs.2.1
/-- The second loop makes at most 16 trips. -/
theorem trips2 : k0_t2_loop.trips ≤ 16 := k0_t2_abs.2.1
/-- The third loop makes at most 16 trips. -/
theorem trips3 : k0_t3_loop.trips ≤ 16 := k0_t3_abs.2.1

/-- A load of 512 points from the `512 k`-th on is chunk `k`. -/
theorem ld_chunk (arg1 : Memref sig .tc .vmem S1x8192x32 .f32) (harg1 : arg1.IsWhole) (x : Vec F S1x8192x32 .f32) (k : ℕ) (hk : k < 16)
    (off : Fin 3 → ℕ) (ho : off = ![0, 512 * k, 0]) (inb : ∀ a, off a + S1x512x32.size a ≤ S1x8192x32.size a) :
    arg1.view.readAt (Elt F) (Rect.unit (s := S1x8192x32) off S1x512x32.size inb).toLoadRect (harg1.unread x) = chunk x k hk := by
  subst ho
  funext j
  refine (congrArg (fun y => View.ld y (Rect.unit (s := S1x8192x32) ![0, 512 * k, 0] S1x512x32.size inb) j) (harg1.read_unread x)).trans ?_
  refine View.ld_unit_apply_of _ _ _ _ _ _ fun a => ?_
  match a with
  | ⟨0, _⟩ =>
    have h : (j 0).val < 1 := (j 0).isLt
    show 0 = 0 + (j 0).val
    omega
  | ⟨1, _⟩ => rfl
  | ⟨2, _⟩ => exact (Nat.zero_add _).symm

/-- The stored form of a chunk's words. -/
def stored (a : IVec S1x512 32) : IVec S1x1x512 32 :=
  shapeCast S1x1x512 (shapeCast S512 a shapeCasts_S1x512_S512) shapeCasts_S512_S1x1x512

variable (𝒱 : Variants) (c : Dev nD) (bd : Option 𝒱.V) (i : grid0.Coords)
  (arg1 : Memref sig .tc .vmem S1x8192x32 .f32) (harg1 : arg1.IsWhole) (arg2 : Memref sig .tc .vmem S1x32x64 .f32) (harg2 : arg2.IsWhole)
  (arg3 : Memref sig .tc .vmem S1x1x8192 .i32) (harg3 : arg3.IsWhole) (arg4 : Memref sig .tc .vmem S1x64x32 .f32) (harg4 : arg4.IsWhole)

/-- A trip of the first round adds its chunk. -/
theorem trip1 (v1 : Vec F S1x32x64 .f32) (x : Vec F S1x8192x32 .f32) (k : Fin k0_t1_loop.trips)
    (acc : FVec F S64x32 .f32 × FVec F S64x1 .f32) :
    tripR_k0_t1 𝒱 c bd i arg1 harg1 arg2 harg2 arg3 harg3 arg4 harg4 rows v1 (harg1.unread x) k acc
      = add (assign (k0_pay1 v1) (chunk x k (lt_of_lt_of_le k.isLt trips1))) (chunk x k (lt_of_lt_of_le k.isLt trips1)) acc := by
  rw [← ld_chunk arg1 harg1 x k.val _ (k0_off1 k) (k0_off1_eq k) (k0_off1_inb k)]
  unfold tripR_k0_t1 trip_k0_t1
  dsimp only
  sl_unfold_words
  rfl

/-- A trip of the second round adds its chunk. -/
theorem trip2 (s : FVec F S64x32 .f32) (n : FVec F S64x1 .f32) (x : Vec F S1x8192x32 .f32) (k : Fin k0_t2_loop.trips)
    (acc : FVec F S64x32 .f32 × FVec F S64x1 .f32) :
    tripR_k0_t2 𝒱 c bd i arg1 harg1 arg2 harg2 arg3 harg3 arg4 harg4 rows s n (harg1.unread x) k acc
      = add (assign (k0_pay8 s n) (chunk x k (lt_of_lt_of_le k.isLt trips2))) (chunk x k (lt_of_lt_of_le k.isLt trips2)) acc := by
  rw [← ld_chunk arg1 harg1 x k.val _ (k0_off2 k) (k0_off2_eq k) (k0_off2_inb k)]
  unfold tripR_k0_t2 trip_k0_t2
  dsimp only
  sl_unfold_words
  rfl

/-- A trip of the last loop stores its chunk's words. -/
theorem trip3 (s : FVec F S64x32 .f32) (n : FVec F S64x1 .f32) (x : Vec F S1x8192x32 .f32) (k : Fin k0_t3_loop.trips) :
    tripL_k0_t3 𝒱 c bd i arg1 harg1 arg2 harg2 arg3 harg3 arg4 harg4 rows s n (harg1.unread x) k
      = [⟨Rect.unit (s := S1x1x8192) (k0_off4 k) S1x1x512.size (k0_off4_inb k),
          stored (assign (k0_pay16 s n) (chunk x k (lt_of_lt_of_le k.isLt trips3)))⟩] := by
  rw [← ld_chunk arg1 harg1 x k.val _ (k0_off3 k) (k0_off3_eq k) (k0_off3_inb k)]
  unfold tripL_k0_t3 trip_k0_t3
  dsimp only
  sl_unfold_words
  rfl

end Cert.KernelIdeal.Block
-- ==== Proof.Block.Rounds.lean ====
/- A round of the kernel on one block: the sums and counts of the sixteen chunks are those of the block's 8192 points, and
   their quotients are the means. -/
module

public import proofs.«01_k».proof.Proof.Block.Trips

@[expose] public section

noncomputable section

namespace Cert.KernelIdeal.Block

open Idealize.ShloMosaic Idealize.ShloMosaic.ValueIdx Cert.KernelIdeal.Gen Cert.Means

/-- A block's points. -/
def pts (x : Vec Ideal S1x8192x32 .f32) : Fin 8192 → Pt := fun n d => x (ix3 (0 : Fin 1) n d)

/-- The sums with a chunk's added. -/
theorem add_sum (a : IVec S1x512 32) (ld : Vec Ideal S1x512x32 .f32) (acc : FVec Ideal S64x32 .f32 × FVec Ideal S64x1 .f32)
    (b : Fin 512 → Fin 64) (ha : ∀ n, a (ix2 (0 : Fin 1) n) = BitVec.ofNat 32 (b n).val) (r : Fin 64) (d : Fin 32) :
    (add a ld acc).1 (ix2 r d) = acc.1 (ix2 r d) + ∑ n : Fin 512, if b n = r then ld (ix3 (0 : Fin 1) n d) else 0 := by
  refine congrArg (fun y : EReal => acc.1 (ix2 r d) + y) ((dot_hp _ _ _ _).trans (Finset.sum_congr rfl fun n _ => ?_))
  rw [hot_apply a n (b n) (ha n) r]
  have e : k0_pay20 ld (ix2 n d) = ld (ix3 (0 : Fin 1) n d) := by
    unfold k0_pay20
    exact shapeCast_1ab_ab_apply _ _ _ _
  rw [e]
  by_cases h : r = b n
  · rw [if_pos h, if_pos h.symm, one_mul]
  · rw [if_neg h, if_neg (fun h' => h h'.symm), zero_mul]

/-- The counts with a chunk's added. -/
theorem add_count (a : IVec S1x512 32) (ld : Vec Ideal S1x512x32 .f32) (acc : FVec Ideal S64x32 .f32 × FVec Ideal S64x1 .f32)
    (b : Fin 512 → Fin 64) (ha : ∀ n, a (ix2 (0 : Fin 1) n) = BitVec.ofNat 32 (b n).val) (r : Fin 64) :
    (add a ld acc).2 (ix2 r (0 : Fin 1)) = acc.2 (ix2 r (0 : Fin 1)) + ∑ n : Fin 512, if b n = r then 1 else 0 := by
  refine congrArg (fun y : EReal => acc.2 (ix2 r (0 : Fin 1)) + y) ?_
  refine (shapeCast_a_a1_apply _ _ _ _).trans ((sum_row _ _).trans (Finset.sum_congr rfl fun n _ => ?_))
  rw [hot_apply a n (b n) (ha n) r]
  exact if_congr eq_comm rfl rfl

/-- The sum over the first points, over the numbers. -/
def upTo (f : Fin 8192 → EReal) (k : ℕ) : EReal := ∑ n ∈ Finset.range (512 * k), if h : n < 8192 then f ⟨n, h⟩ else 0

/-- One more chunk adds the sum over it. -/
theorem upTo_succ (f : Fin 8192 → EReal) (k : ℕ) (hk : k < 16) :
    upTo f (k + 1) = upTo f k + ∑ n : Fin 512, f ⟨512 * k + n.val, by omega⟩ := by
  unfold upTo
  rw [Nat.mul_succ, Finset.sum_range_add, Finset.sum_range (n := 512)]
  refine congrArg (fun y : EReal => _ + y) (Finset.sum_congr rfl fun n _ => ?_)
  rw [dif_pos]

/-- Sixteen chunks are all the points. -/
theorem upTo_all (f : Fin 8192 → EReal) : upTo f 16 = ∑ n, f n := by
  unfold upTo
  rw [show 512 * 16 = 8192 from rfl, Finset.sum_range]
  exact Finset.sum_congr rfl fun n _ => dif_pos n.isLt

section Loop

variable (x : Vec Ideal S1x8192x32 .f32) (ct : FVec Ideal S32x64 .f32) (C : Fin 64 → Pt)
  (hC : ∀ k d, ct (ix2 d k) = C k d) (hG : ∀ k, Good (C k)) (hP : ∀ n, Plain (pts x n))
  (st : ℕ → FVec Ideal S64x32 .f32 × FVec Ideal S64x1 .f32)
  (h0 : ∀ r d, (st 0).1 (ix2 r d) = 0) (h0' : ∀ r, (st 0).2 (ix2 r (0 : Fin 1)) = 0)
  (hs : ∀ k (hk : k < 16), st (k + 1) = add (assign ct (chunk x k hk)) (chunk x k hk) (st k))

include hC hG hP in
/-- The words of a chunk's points. -/
theorem chunk_words (k : ℕ) (hk : k < 16) (n : Fin 512) :
    assign ct (chunk x k hk) (ix2 (0 : Fin 1) n) = BitVec.ofNat 32 (near C (pts x ⟨512 * k + n.val, by omega⟩)).val :=
  assign_apply ct _ C _ n hC (fun _ => rfl) hG (hP _)

include hC hG hP h0 h0' hs in
/-- After `k` chunks: the sums and counts of the first `512 k` points. -/
theorem loop_upTo (k : ℕ) (hk : k ≤ 16) :
    (∀ r d, (st k).1 (ix2 r d) = upTo (fun n => if near C (pts x n) = r then pts x n d else 0) k)
      ∧ ∀ r, (st k).2 (ix2 r (0 : Fin 1)) = upTo (fun n => if near C (pts x n) = r then 1 else 0) k := by
  induction k with
  | zero => exact ⟨fun r d => by rw [h0]; rfl, fun r => by rw [h0']; rfl⟩
  | succ k ih =>
    have hk' : k < 16 := hk
    obtain ⟨i1, i2⟩ := ih hk'.le
    rw [hs k hk']
    refine ⟨fun r d => ?_, fun r => ?_⟩
    · rw [add_sum _ _ _ _ (chunk_words x ct C hC hG hP k hk'), upTo_succ _ k hk', i1]
      rfl
    · rw [add_count _ _ _ _ (chunk_words x ct C hC hG hP k hk'), upTo_succ _ k hk', i2]

/-- The quotients, coordinates first. -/
theorem pay8_apply (s : FVec Ideal S64x32 .f32) (n : FVec Ideal S64x1 .f32) (k : Fin 64) (d : Fin 32) :
    k0_pay8 s n (ix2 d k) = Ideal.div (s (ix2 k d)) (n (ix2 k (0 : Fin 1))) := by
  unfold k0_pay8
  refine (transpose_ix2_apply _ _ _ _).trans ?_
  rw [divf_apply]
  refine congrArg (Ideal.div (s (ix2 k d))) (broadcastTo_apply _ _ _ _ fun a => ?_)
  match a with
  | ⟨0, _⟩ => rfl
  | ⟨1, _⟩ => rfl

include hC hG hP h0 h0' hs in
/-- The quotients after all the chunks are the means. -/
theorem round_apply (k : Fin 64) (d : Fin 32) : k0_pay8 (st 16).1 (st 16).2 (ix2 d k) = round (pts x) C k d := by
  obtain ⟨h1, h2⟩ := loop_upTo x ct C hC hG hP st h0 h0' hs 16 le_rfl
  rw [pay8_apply, h1, h2, upTo_all, upTo_all]
  rfl

end Loop

/-- The last quotients are the same, coordinates second. -/
theorem pay16_eq (s : FVec Ideal S64x32 .f32) (n : FVec Ideal S64x1 .f32) : k0_pay16 s n = k0_pay8 s n := rfl

/-- The quotients, clusters first. -/
theorem pay15_apply (s : FVec Ideal S64x32 .f32) (n : FVec Ideal S64x1 .f32) (k : Fin 64) (d : Fin 32) :
    k0_pay15 s n (ix2 k d) = k0_pay8 s n (ix2 d k) :=
  (transpose_ix2_apply (k0_pay15 s n) transposes_S64x32_p1_0_S32x64 d k).symm

end Cert.KernelIdeal.Block
-- ==== Proof.Block.Out.lean ====
/- What the kernel leaves in a block's results: the centroids after two rounds, and the words of the points' nearest of them. -/
module

public import proofs.«01_k».proof.Proof.Block.Rounds

@[expose] public section

noncomputable section

namespace Cert.KernelIdeal.Block

open Idealize.ShloMosaic Idealize.ShloMosaic.TcCoe Idealize.ShloMosaic.ValueIdx Idealize.SL.Sem Cert.KernelIdeal.Gen Cert.Means

section Runs

variable {F : FTy → Type} [FloatOps F]
variable (c : Dev nD) (i : grid0.Coords)
  (arg1 : Memref sig .tc .vmem S1x8192x32 .f32) (harg1 : arg1.IsWhole) (arg2 : Memref sig .tc .vmem S1x32x64 .f32) (harg2 : arg2.IsWhole)
  (arg3 : Memref sig .tc .vmem S1x1x8192 .i32) (harg3 : arg3.IsWhole) (arg4 : Memref sig .tc .vmem S1x64x32 .f32) (harg4 : arg4.IsWhole)
  (x0 : Vec F S1x8192x32 .f32) (x1 : Vec F S1x32x64 .f32)

/-- The first round's sums and counts after `k` chunks. -/
abbrev s1 (k : ℕ) : FVec F S64x32 .f32 × FVec F S64x1 .f32 :=
  st_k0_t1 Variants.none c none i arg1 harg1 arg2 harg2 arg3 harg3 arg4 harg4 rows x1 (harg1.unread x0) (k0_pay3, k0_pay4) k

/-- The second round's sums and counts after `k` chunks. -/
abbrev s2 (k : ℕ) : FVec F S64x32 .f32 × FVec F S64x1 .f32 :=
  st_k0_t2 Variants.none c none i arg1 harg1 arg2 harg2 arg3 harg3 arg4 harg4 rows
    (s1 c i arg1 harg1 arg2 harg2 arg3 harg3 arg4 harg4 x0 x1 16).1 (s1 c i arg1 harg1 arg2 harg2 arg3 harg3 arg4 harg4 x0 x1 16).2
    (harg1.unread x0) (k0_pay10, k0_pay11) k

/-- Each loop makes 16 trips. -/
theorem trips_eq : Scf.trips (0#32) (Scalar.addi 0#32 16#32) 1#32 = 16 := by decide

/-- The offsets 0, 0, 0. -/
theorem hz3 : (![0, 0, 0] : Fin 3 → ℕ) = fun _ => 0 := funext fun a => by fin_cases a <;> rfl

/-- A load of the whole of the initial centroids is them. -/
theorem ld_cen (inb : ∀ a, (![0, 0, 0] : Fin 3 → ℕ) a + S1x32x64.size a ≤ S1x32x64.size a) :
    arg2.view.readAt (Elt F) (Rect.unit (s := S1x32x64) ![0, 0, 0] S1x32x64.size inb).toLoadRect (harg2.unread x1) = x1 :=
  (congrArg (fun y => View.ld y (Rect.unit (s := S1x32x64) ![0, 0, 0] S1x32x64.size inb)) (harg2.read_unread x1)).trans
    (View.ld_unit_zero (S := S1x32x64) hz3 inb x1)

/-- One more chunk in the first round: its points are added to their clusters. -/
theorem s1_succ (k : ℕ) (hk : k < 16) :
    s1 c i arg1 harg1 arg2 harg2 arg3 harg3 arg4 harg4 x0 x1 (k + 1)
      = add (assign (k0_pay1 x1) (chunk x0 k hk)) (chunk x0 k hk) (s1 c i arg1 harg1 arg2 harg2 arg3 harg3 arg4 harg4 x0 x1 k) := by
  have hk' : k < k0_t1_loop.trips := hk.trans_eq (by decide)
  exact (st_k0_t1_succ Variants.none c none i arg1 harg1 arg2 harg2 arg3 harg3 arg4 harg4 rows x1 (harg1.unread x0) (k0_pay3, k0_pay4)
    ⟨k, hk'⟩).trans (trip1 Variants.none c none i arg1 harg1 arg2 harg2 arg3 harg3 arg4 harg4 x1 x0 ⟨k, hk'⟩ _)

/-- One more chunk in the second round: its points are added to their clusters. -/
theorem s2_succ (k : ℕ) (hk : k < 16) :
    s2 c i arg1 harg1 arg2 harg2 arg3 harg3 arg4 harg4 x0 x1 (k + 1)
      = add (assign (k0_pay8 (s1 c i arg1 harg1 arg2 harg2 arg3 harg3 arg4 harg4 x0 x1 16).1
            (s1 c i arg1 harg1 arg2 harg2 arg3 harg3 arg4 harg4 x0 x1 16).2) (chunk x0 k hk))
          (chunk x0 k hk) (s2 c i arg1 harg1 arg2 harg2 arg3 harg3 arg4 harg4 x0 x1 k) := by
  have hk' : k < k0_t2_loop.trips := hk.trans_eq (by decide)
  exact (st_k0_t2_succ Variants.none c none i arg1 harg1 arg2 harg2 arg3 harg3 arg4 harg4 rows _ _ (harg1.unread x0) (k0_pay10, k0_pay11)
    ⟨k, hk'⟩).trans (trip2 Variants.none c none i arg1 harg1 arg2 harg2 arg3 harg3 arg4 harg4 _ _ x0 ⟨k, hk'⟩ _)

/-- The centroids' block is the last quotients. -/
theorem out3 : out0_A_3 c i arg1 harg1 arg2 harg2 arg3 harg3 arg4 harg4 x0 x1
    = k0_pay19 (s2 c i arg1 harg1 arg2 harg2 arg3 harg3 arg4 harg4 x0 x1 16).1 (s2 c i arg1 harg1 arg2 harg2 arg3 harg3 arg4 harg4 x0 x1 16).2 := by
  unfold out0_A_3
  rw [View.read_writes_eq_canon _ _ _ (cover0_A_3 c i arg1 harg1 arg2 harg2 arg3 harg3 arg4 harg4 x0 x1)]
  unfold kernelRun0_A
  dsimp only
  sl_unfold_words
  rw [View.canon_unit_zero (S := S1x64x32) hz3, ld_cen, trips_eq]
  rfl

/-- The words' block is the pieces of the last loop. -/
theorem out2 : out0_A_2 c i arg1 harg1 arg2 harg2 arg3 harg3 arg4 harg4 x0 x1
    = View.canon (pb_k0_t3 Variants.none c none i arg1 harg1 arg2 harg2 arg3 harg3 arg4 harg4 rows
        (s2 c i arg1 harg1 arg2 harg2 arg3 harg3 arg4 harg4 x0 x1 16).1 (s2 c i arg1 harg1 arg2 harg2 arg3 harg3 arg4 harg4 x0 x1 16).2
        (harg1.unread x0) 16)
    ∧ ∀ y, ∃ pc ∈ pb_k0_t3 Variants.none c none i arg1 harg1 arg2 harg2 arg3 harg3 arg4 harg4 rows
        (s2 c i arg1 harg1 arg2 harg2 arg3 harg3 arg4 harg4 x0 x1 16).1 (s2 c i arg1 harg1 arg2 harg2 arg3 harg3 arg4 harg4 x0 x1 16).2
        (harg1.unread x0) 16, y ∈ pc.1.set := by
  have hc := cover0_A_2 c i arg1 harg1 arg2 harg2 arg3 harg3 arg4 harg4 x0 x1
  unfold out0_A_2
  rw [View.read_writes_eq_canon _ _ _ hc]
  have e : (kernelRun0_A c i arg1 harg1 arg2 harg2 arg3 harg3 arg4 harg4 x0 x1).1
      = pb_k0_t3 Variants.none c none i arg1 harg1 arg2 harg2 arg3 harg3 arg4 harg4 rows
        (s2 c i arg1 harg1 arg2 harg2 arg3 harg3 arg4 harg4 x0 x1 16).1 (s2 c i arg1 harg1 arg2 harg2 arg3 harg3 arg4 harg4 x0 x1 16).2
        (harg1.unread x0) 16 := by
    unfold kernelRun0_A
    dsimp only
    sl_unfold_words
    rw [ld_cen, trips_eq]
    rfl
  rw [e] at hc ⊢
  exact ⟨rfl, hc⟩

end Runs

section Value

variable (c : Dev nD) (i : grid0.Coords)
  (arg1 : Memref sig .tc .vmem S1x8192x32 .f32) (harg1 : arg1.IsWhole) (arg2 : Memref sig .tc .vmem S1x32x64 .f32) (harg2 : arg2.IsWhole)
  (arg3 : Memref sig .tc .vmem S1x1x8192 .i32) (harg3 : arg3.IsWhole) (arg4 : Memref sig .tc .vmem S1x64x32 .f32) (harg4 : arg4.IsWhole)
  (x0 : Vec Ideal S1x8192x32 .f32) (x1 : Vec Ideal S1x32x64 .f32) (C : Fin 64 → Pt)
  (hC : ∀ k d, x1 (ix3 (0 : Fin 1) d k) = C k d) (hG : ∀ k, Good (C k)) (hP : ∀ n, Plain (pts x0 n))

include hC hG hP in
/-- The first round's quotients. -/
theorem round1 (k : Fin 64) (d : Fin 32) :
    k0_pay8 (s1 c i arg1 harg1 arg2 harg2 arg3 harg3 arg4 harg4 x0 x1 16).1 (s1 c i arg1 harg1 arg2 harg2 arg3 harg3 arg4 harg4 x0 x1 16).2
      (ix2 d k) = round (pts x0) C k d := by
  refine round_apply x0 (k0_pay1 x1) C (fun k d => ?_) hG hP (s1 c i arg1 harg1 arg2 harg2 arg3 harg3 arg4 harg4 x0 x1)
    (fun r d => Ideal.ofBits_zero_f32) (fun r => Ideal.ofBits_zero_f32)
    (s1_succ c i arg1 harg1 arg2 harg2 arg3 harg3 arg4 harg4 x0 x1) k d
  refine Eq.trans ?_ (hC k d)
  exact shapeCast_1ab_ab_apply x1 shapeCasts_S1x32x64_S32x64 d k

include hC hG hP in
/-- The second round's quotients. -/
theorem round2 (k : Fin 64) (d : Fin 32) :
    k0_pay8 (s2 c i arg1 harg1 arg2 harg2 arg3 harg3 arg4 harg4 x0 x1 16).1 (s2 c i arg1 harg1 arg2 harg2 arg3 harg3 arg4 harg4 x0 x1 16).2
      (ix2 d k) = round (pts x0) (round (pts x0) C) k d :=
  round_apply x0 _ (round (pts x0) C) (round1 c i arg1 harg1 arg2 harg2 arg3 harg3 arg4 harg4 x0 x1 C hC hG hP)
    (fun k => good_mean hP _ k) hP (s2 c i arg1 harg1 arg2 harg2 arg3 harg3 arg4 harg4 x0 x1)
    (fun r d => Ideal.ofBits_zero_f32) (fun r => Ideal.ofBits_zero_f32)
    (s2_succ c i arg1 harg1 arg2 harg2 arg3 harg3 arg4 harg4 x0 x1) k d

include hC hG hP in
/-- The centroids left are those of two rounds. -/
theorem out3_apply (k : Fin 64) (d : Fin 32) :
    out0_A_3 c i arg1 harg1 arg2 harg2 arg3 harg3 arg4 harg4 x0 x1 (ix3 (0 : Fin 1) k d) = round (pts x0) (round (pts x0) C) k d := by
  rw [out3]
  refine Eq.trans ?_ (round2 c i arg1 harg1 arg2 harg2 arg3 harg3 arg4 harg4 x0 x1 C hC hG hP k d)
  unfold k0_pay19
  exact (shapeCast_ab_1ab_apply _ _ _ _ _).trans (pay15_apply _ _ _ _)

/-- The stored form of a chunk's words at a place. -/
theorem stored_apply (a : IVec S1x512 32) (j : S1x1x512.Idx) : stored a j = a (ix2 (0 : Fin 1) (j 2)) := by
  unfold stored
  have h0 : (j 0).val < 1 := (j 0).isLt
  have h1 : (j 1).val < 1 := (j 1).isLt
  refine (shapeCast_apply _ _ j (ix1 (j 2)) ?_).trans (shapeCast_1a_a_apply _ _ _)
  rw [Shape.rowMajor_val_three, Shape.rowMajor_val_one]
  show (j 2).val = ((j 0).val * 1 + (j 1).val) * 512 + (j 2).val
  omega

include hC hG hP in
/-- The words left are those of the nearest of the centroids left. -/
theorem out2_apply (n : Fin 8192) :
    out0_A_2 c i arg1 harg1 arg2 harg2 arg3 harg3 arg4 harg4 x0 x1 (ix3 (0 : Fin 1) (0 : Fin 1) n)
      = BitVec.ofNat 32 (near (round (pts x0) (round (pts x0) C)) (pts x0 n)).val := by
  obtain ⟨e, hc⟩ := out2 c i arg1 harg1 arg2 harg2 arg3 harg3 arg4 harg4 x0 x1
  rw [e]
  refine View.canon_eq_of_allAt _ _ _ (hc _) ?_
  have key : ∀ k, k ≤ 16 → View.AllAt (pb_k0_t3 Variants.none c none i arg1 harg1 arg2 harg2 arg3 harg3 arg4 harg4 rows
      (s2 c i arg1 harg1 arg2 harg2 arg3 harg3 arg4 harg4 x0 x1 16).1 (s2 c i arg1 harg1 arg2 harg2 arg3 harg3 arg4 harg4 x0 x1 16).2
      (harg1.unread x0) k) (ix3 (0 : Fin 1) (0 : Fin 1) n)
      (BitVec.ofNat 32 (near (round (pts x0) (round (pts x0) C)) (pts x0 n)).val) := by
    intro k
    induction k with
    | zero => exact fun _ => View.allAt_nil _ _
    | succ k ih =>
      intro hk
      have hk' : k < k0_t3_loop.trips := (show k < 16 from hk).trans_eq (by decide)
      rw [pb_k0_t3_succ Variants.none c none i arg1 harg1 arg2 harg2 arg3 harg3 arg4 harg4 rows _ _ _ ⟨k, hk'⟩,
        trip3 Variants.none c none i arg1 harg1 arg2 harg2 arg3 harg3 arg4 harg4 _ _ x0 ⟨k, hk'⟩]
      refine View.allAt_cons_unit _ _ _ _ _ (fun j hj => ?_) (ih (Nat.le_of_succ_le hk))
      rw [stored_apply]
      have h2 : n.val = 512 * k + (j 2).val := by
        have := hj 2
        rw [k0_off4_eq] at this
        exact this
      refine (chunk_words x0 _ (round (pts x0) (round (pts x0) C))
        (fun k d => round2 c i arg1 harg1 arg2 harg2 arg3 harg3 arg4 harg4 x0 x1 C hC hG hP k d) (fun k => good_mean hP _ k) hP k _ _).trans ?_
      congr 4
      exact Fin.ext h2.symm
  exact key 16 le_rfl

end Value

end Cert.KernelIdeal.Block
-- ==== Proof.Block.Arrays.lean ====
/- The arrays the kernel leaves, read at a place: grid point `t` works on batch `t`. -/
module

public import proofs.«01_k».proof.Proof.Block.Out
public import proofs.«01_k».proof.Proof.Gen.KernelIdeal.Value

@[expose] public section

noncomputable section

namespace Cert.KernelIdeal.Block

open Idealize.ShloMosaic Idealize.ShloMosaic.TcCoe Idealize.ShloMosaic.ValueIdx Idealize.SL.Sem Cert.KernelIdeal.Gen Cert.KernelIdeal.Value Cert.Means

/-- Every window's block index is the grid point on the batch axis and zero on the others. -/
theorem places : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- Where a batch's points lie in the array of points. -/
theorem place0 (t : Fin 16) (n : Fin 8192) (d : Fin 32) :
    ((cfg0.win 0).blk t).view.emb (ix3 (0 : Fin 1) n d) = ix3 t n d := by
  obtain ⟨⟨e0, e1, e2⟩, -⟩ := places t
  funext a; apply Fin.ext
  match a with
  | ⟨0, _⟩ => show win0_0.index t (0 : Fin 3) * 1 + 1 * 0 = t.val; omega
  | ⟨1, _⟩ => show win0_0.index t (1 : Fin 3) * 8192 + 1 * n.val = n.val; omega
  | ⟨2, _⟩ => show win0_0.index t (2 : Fin 3) * 32 + 1 * d.val = d.val; omega

/-- Where a batch's initial centroids lie in the array of them. -/
theorem place1 (t : Fin 16) (d : Fin 32) (k : Fin 64) :
    ((cfg0.win 1).blk t).view.emb (ix3 (0 : Fin 1) d k) = ix3 t d k := by
  obtain ⟨-, ⟨e0, e1, e2⟩, -⟩ := places t
  funext a; apply Fin.ext
  match a with
  | ⟨0, _⟩ => show win0_1.index t (0 : Fin 3) * 1 + 1 * 0 = t.val; omega
  | ⟨1, _⟩ => show win0_1.index t (1 : Fin 3) * 32 + 1 * d.val = d.val; omega
  | ⟨2, _⟩ => show win0_1.index t (2 : Fin 3) * 64 + 1 * k.val = k.val; omega

/-- Where a batch's assignment lies in the first result. -/
theorem place2 (t : Fin 16) (n : Fin 8192) :
    ((cfg0.win 2).blk t).view.emb (ix3 (0 : Fin 1) (0 : Fin 1) n) = ix3 t (0 : Fin 1) n := by
  obtain ⟨-, -, ⟨e0, e1, e2⟩, -⟩ := places t
  funext a; apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 8192 + 1 * n.val = n.val; omega

/-- Where a batch's centroids lie in the second result. -/
theorem place3 (t : Fin 16) (k : Fin 64) (d : Fin 32) :
    ((cfg0.win 3).blk t).view.emb (ix3 (0 : Fin 1) k d) = ix3 t k d := by
  obtain ⟨-, -, -, ⟨e0, e1, e2⟩⟩ := places t
  funext a; apply Fin.ext
  match a with
  | ⟨0, _⟩ => show win0_3.index t (0 : Fin 3) * 1 + 1 * 0 = t.val; omega
  | ⟨1, _⟩ => show win0_3.index t (1 : Fin 3) * 64 + 1 * k.val = k.val; omega
  | ⟨2, _⟩ => show win0_3.index t (2 : Fin 3) * 32 + 1 * d.val = d.val; omega

/-- Block `t` of an array of points. -/
theorem read0 (A : S16x8192x32.Idx → Elt Ideal .f32) (t : Fin 16) (n : Fin 8192) (d : Fin 32) :
    ((cfg0.win 0).blk t).view.read (Elt Ideal) A (ix3 (0 : Fin 1) n d) = A (ix3 t n d) := congrArg A (place0 t n d)

/-- Block `t` of an array of initial centroids. -/
theorem read1 (A : S16x32x64.Idx → Elt Ideal .f32) (t : Fin 16) (d : Fin 32) (k : Fin 64) :
    ((cfg0.win 1).blk t).view.read (Elt Ideal) A (ix3 (0 : Fin 1) d k) = A (ix3 t d k) := congrArg A (place1 t d k)

/-- Block `t` of an array of words. -/
theorem read2 (A : S16x1x8192.Idx → Elt Ideal .i32) (t : Fin 16) (n : Fin 8192) :
    ((cfg0.win 2).blk t).view.read (Elt Ideal) A (ix3 (0 : Fin 1) (0 : Fin 1) n) = A (ix3 t (0 : Fin 1) n) := congrArg A (place2 t n)

/-- Block `t` of an array of centroids. -/
theorem read3 (A : S16x64x32.Idx → Elt Ideal .f32) (t : Fin 16) (k : Fin 64) (d : Fin 32) :
    ((cfg0.win 3).blk t).view.read (Elt Ideal) A (ix3 (0 : Fin 1) k d) = A (ix3 t k d) := congrArg A (place3 t k d)

variable (m : (ℓ : Loc nD τ sig) → Buf (Elt Ideal) ℓ) (c : Dev nD) (t : Fin 16) (P : Fin 8192 → Pt) (C : Fin 64 → Pt)
  (hm : ∀ n d, m ((c : Thread nD τ).loc main_arg0) (ix3 t n d) = P n d) (hC : ∀ k d, V m c main_call0_v17 (ix3 t d k) = C k d)

include hm in
/-- The points of block `t`. -/
theorem pts_iblk : pts (iblk m c 0 t) = P :=
  funext fun n => funext fun d => (read0 (V m c main_arg0) t n d).trans ((congrFun (V_main_arg0 m c) _).trans (hm n d))

include hC in
/-- The initial centroids of block `t`. -/
theorem cen_iblk (k : Fin 64) (d : Fin 32) : iblk m c 1 t (ix3 (0 : Fin 1) d k) = C k d :=
  (read1 (V m c main_call0_v17) t d k).trans (hC k d)

variable (hG : ∀ k, Good (C k)) (hP : ∀ n, Plain (P n))

include hm hC hG hP in
/-- The centroids the kernel leaves. -/
theorem arr3 (k : Fin 64) (d : Fin 32) : (dats m 0 c).arrAt 3 cfg0.N (ix3 t k d) = round P (round P C) k d := by
  have e := congrFun ((blocks3 m c t (flush0_3 t)).trans (flushed3_A m c t)) (ix3 (0 : Fin 1) k d)
  have hp := pts_iblk m c t P hm
  rw [← hp]
  refine (read3 ((dats m 0 c).arrAt 3 cfg0.N) t k d).symm.trans (e.trans ?_)
  exact out3_apply c (grid0.coords t) (ms0_0 t) (hs0_0 t) (ms0_1 t) (hs0_1 t) (ms0_2 t) (hs0_2 t) (ms0_3 t) (hs0_3 t)
    (iblk m c 0 t) (iblk m c 1 t) C (cen_iblk m c t C hC) hG (fun n => by rw [hp]; exact hP n) k d

include hm hC hG hP in
/-- The words the kernel leaves. -/
theorem arr2 (n : Fin 8192) : (dats m 0 c).arrAt 2 cfg0.N (ix3 t (0 : Fin 1) n) = BitVec.ofNat 32 (near (round P (round P C)) (P n)).val := by
  have e := congrFun ((blocks2 m c t (flush0_2 t)).trans (flushed2_A m c t)) (ix3 (0 : Fin 1) (0 : Fin 1) n)
  have hp := pts_iblk m c t P hm
  rw [← hp]
  refine (read2 ((dats m 0 c).arrAt 2 cfg0.N) t n).symm.trans (e.trans ?_)
  exact out2_apply c (grid0.coords t) (ms0_0 t) (hs0_0 t) (ms0_1 t) (hs0_1 t) (ms0_2 t) (hs0_2 t) (ms0_3 t) (hs0_3 t)
    (iblk m c 0 t) (iblk m c 1 t) C (cen_iblk m c t C hC) hG (fun n => by rw [hp]; exact hP n) n

end Cert.KernelIdeal.Block
-- ==== Proof.Ref.Near.lean ====
/- The reference's assignment, read at a place: the squared distances, and the first centroid at the least of them. -/
module

public import proofs.«01_k».proof.Proof.Ref.Tail
public import proofs.«01_k».proof.Proof.Means.Spec
public import proofs.«01_k».proof.Proof.Block.Ops
public import Idealize.ShloMosaic.Lib.IdealHost
public import Idealize.ShloMosaic.Lib.ValueIdx

@[expose] public section

noncomputable section

namespace Cert.RefValue

open Idealize.ShloMosaic Idealize.ShloMosaic.ValueIdx Cert.ReferenceIdeal Cert.ReferenceIdeal.Tail Facts₀ Facts Cert.Means

/-- The points of batch `b`. -/
abbrev ptsOf (p : Pts Ideal) (b : Fin 16) : Fin 8192 → Pt := fun n d => p (ix3 b n d)

/-- The centroids of batch `b`. -/
abbrev cenOf (c : Cen Ideal) (b : Fin 16) : Fin 64 → Pt := fun k d => c (ix3 b k d)

/-! ## The squared distances -/

/-- The points, spread over the centroids. -/
theorem spread_pts (p : Pts Ideal) (b : Fin 16) (n : Fin 8192) (k : Fin 64) (d : Fin 32) :
    broadcastInDim S16x8192x64x32 ![0, 1, 2, 3] bcast_S16x8192x1x32_S16x8192x64x32_0_1_2_3
      (broadcastInDim S16x8192x1x32 ![0, 1, 3] bcast_S16x8192x32_S16x8192x1x32_0_1_3 p) (ix4 b n k d) = p (ix3 b n d) := by
  refine (broadcastInDim_apply _ _ _ _ (ix4 b n (0 : Fin 1) d) fun a => ?_).trans (broadcastInDim_apply _ _ _ _ (ix3 b n d) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The centroids, spread over the points. -/
theorem spread_cen (c : Cen Ideal) (b : Fin 16) (n : Fin 8192) (k : Fin 64) (d : Fin 32) :
    broadcastInDim S16x8192x64x32 ![0, 1, 2, 3] bcast_S16x1x64x32_S16x8192x64x32_0_1_2_3
      (broadcastInDim S16x1x64x32 ![0, 2, 3] bcast_S16x64x32_S16x1x64x32_0_2_3 c) (ix4 b n k d) = c (ix3 b k d) := by
  refine (broadcastInDim_apply _ _ _ _ (ix4 b (0 : Fin 1) k d) fun a => ?_).trans (broadcastInDim_apply _ _ _ _ (ix3 b k d) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The squares reduce over their coordinates. -/
theorem reduces_last : S16x8192x64x32.Reduces [3] S16x8192x64 := by decide

/-- The reference's distances are the squared distances. -/
theorem distV_apply (p : Pts Ideal) (c : Cen Ideal) (b : Fin 16) (n : Fin 8192) (k : Fin 64) :
    distV p c (ix3 b n k) = dist (ptsOf p b n) (cenOf c b k) := by
  unfold distV
  refine (hostReduceAdd_apply _ _ _ _ _).trans ((Ideal.hostReduceAdd_single _ reduces_last _ _ _).trans ?_)
  refine (congrArg (· + _) Ideal.ofBits_zero_f32).trans ((zero_add _).trans ?_)
  refine Finset.sum_congr rfl fun d _ => ?_
  have e : reduces_last.lift (ix3 b n k) d = ix4 b n k d := funext fun a => Fin.ext (by
    match a with
    | ⟨0, _⟩ => rfl
    | ⟨1, _⟩ => rfl
    | ⟨2, _⟩ => rfl
    | ⟨3, _⟩ => rfl)
  rw [e]
  refine congrArg (fun x : EReal => x * x) ?_
  exact congr (congrArg (fun x y : EReal => x - y) (spread_pts p b n k d)) (spread_cen c b n k d)

/-! ## The first least -/

/-- The reference's choice between two pairs of a distance and a word. -/
theorem red_eq (a b : EReal × BitVec 32) :
    reducer_argmin_f32_i32 (F := Ideal) a b = if a.1 < b.1 then a else if a.1 = b.1 ∧ a.2.slt b.2 = true then a else b := by
  obtain ⟨a1, a2⟩ := a
  obtain ⟨b1, b2⟩ := b
  unfold reducer_argmin_f32_i32
  dsimp only [FloatOps.cmpf, Ideal.cmp, IntOp.ori, IntOp.andi, IntOp.cmpi, Scalar.select]
  by_cases h1 : a1 < b1
  · simp only [h1, decide_true, if_true]
    generalize BitVec.ofBool (decide (a1 ≠ a1)) = u
    generalize BitVec.ofBool (decide (a1 = b1)) &&& BitVec.ofBool (a2.slt b2) = v
    have e : ∀ u v : BitVec 1, BitVec.ofBool true ||| u = 1 ∧ BitVec.ofBool true ||| u ||| v = 1 := by decide
    rw [if_pos (e u v).1, if_pos (e u v).2]
  · by_cases h2 : a1 = b1
    · subst h2
      by_cases h3 : a2.slt b2 = true <;> simp [h3]
    · simp [h1, h2]

/-- The pair `t` comes first: it has the lesser distance, or the same and no greater a word. -/
def Before (t a : EReal × BitVec 32) : Prop := t.1 < a.1 ∨ t.1 = a.1 ∧ t.2.toInt ≤ a.2.toInt

/-- The reducer keeps its first pair where that comes first. -/
theorem red_left {t b : EReal × BitVec 32} (h : Before t b) : reducer_argmin_f32_i32 (F := Ideal) t b = t := by
  rw [red_eq]
  rcases h with h | ⟨h1, h2⟩
  · rw [if_pos h]
  · split
    · rfl
    · split
      · rfl
      · rename_i h3 h4
        have h5 : ¬ t.2.toInt < b.2.toInt := fun h => h4 ⟨h1, by rw [BitVec.slt_iff_toInt_lt]; exact h⟩
        exact (Prod.ext h1 (BitVec.toInt_inj.mp (by omega))).symm

/-- The reducer keeps its second pair where that comes first. -/
theorem red_right {t a : EReal × BitVec 32} (h : Before t a) : reducer_argmin_f32_i32 (F := Ideal) a t = t := by
  rw [red_eq]
  rcases h with h | ⟨h1, h2⟩
  · rw [if_neg h.asymm, if_neg fun e => h.ne' e.1]
  · rw [if_neg (by rw [h1]; exact lt_irrefl _), if_neg fun e => ?_]
    have := e.2
    rw [BitVec.slt_iff_toInt_lt] at this
    omega

/-- A pair that comes before two others comes before the one that is kept of them. -/
theorem red_before {t a b : EReal × BitVec 32} (ha : Before t a) (hb : Before t b) :
    Before t (reducer_argmin_f32_i32 (F := Ideal) a b) := by
  rw [red_eq]
  split
  · exact ha
  · split
    · exact ha
    · exact hb

/-- A list of pairs all after one of them, `t`, folds to `t`. -/
theorem fold_red (t : EReal × BitVec 32) : ∀ (l : List (EReal × BitVec 32)) (a : EReal × BitVec 32), Before t a → (∀ b ∈ l, Before t b) →
    (a = t ∨ t ∈ l) → l.foldl (reducer_argmin_f32_i32 (F := Ideal)) a = t
  | [], _, _, _, h => by
    rcases h with h | h
    · exact h
    · exact absurd h List.not_mem_nil
  | b :: l, a, ha, hl, h => by
    have hb := hl b List.mem_cons_self
    refine fold_red t l _ (red_before ha hb) (fun b hb => hl b (List.mem_cons_of_mem _ hb)) ?_
    rcases h with rfl | h
    · exact .inl (red_left hb)
    · rcases List.mem_cons.mp h with rfl | h
      · exact .inl (red_right ha)
      · exact .inr h

/-- A centroid's word, as an integer, is its number. -/
theorem toInt_word (k : Fin 64) : (BitVec.ofNat 32 k.val).toInt = k.val := by
  have := k.isLt
  rw [BitVec.toInt_eq_toNat_of_lt] <;> rw [BitVec.toNat_ofNat, Nat.mod_eq_of_lt] <;> omega

/-- The first place of the least is before every place. -/
theorem before_first (f : Fin 64 → EReal) (k : Fin 64) : Before (f (first f), BitVec.ofNat 32 (first f).val) (f k, BitVec.ofNat 32 k.val) := by
  obtain ⟨h1, h2⟩ := first_spec f k
  rcases h1.lt_or_eq with h | h
  · exact .inl h
  · refine .inr ⟨h, ?_⟩
    show (BitVec.ofNat 32 (first f).val).toInt ≤ (BitVec.ofNat 32 k.val).toInt
    rw [toInt_word, toInt_word]
    exact_mod_cast h2 h.symm

/-- … and before the pair the reference starts from. -/
theorem before_start (f : Fin 64 → EReal) : Before (f (first f), BitVec.ofNat 32 (first f).val) (⊤, 0#32) := by
  rcases eq_or_ne (f (first f)) ⊤ with h | h
  · have e : first f = 0 := le_antisymm ((first_spec f 0).2 ((top_le_iff.mp (h ▸ (first_spec f 0).1)).trans h.symm)) (Fin.zero_le _)
    exact .inr ⟨h, by rw [e]; exact le_rfl⟩
  · exact .inl (lt_top_iff_ne_top.mpr h)

/-- A reduction by that choice: if `t` is before the start and every pair reduced, and is one of them, the result is `t`. -/
theorem argReduce_eq {s r u : Shape} {axes : List (Fin s.rank)} (x : FVec Ideal s .f32) (y : s.Idx → BitVec 32) (ix : u.Idx → Ideal .f32)
    (iy : u.Idx → BitVec 32) (h : s.ReducesTo axes r) (hu : 0 < u.numel) (j : r.Idx) (t : EReal × BitVec 32)
    (h0 : Before t (ix (Shape.Idx.first hu), iy (Shape.Idx.first hu))) (hall : ∀ i, h.drop i = j → Before t (x i, y i))
    (k : s.Idx) (hk : h.drop k = j) (ht : (x k, y k) = t) :
    Host.argReduce (reducer_argmin_f32_i32 (F := Ideal)) x y ix iy h hu j = t := by
  rw [Ideal.argReduce_eq_reduce2, Host.reduce2_eq_foldl_fiber]
  unfold Host.argReduceFiber
  refine fold_red t _ _ h0 (fun z hz => ?_) (.inr ?_)
  · obtain ⟨i, hi, rfl⟩ := List.mem_map.mp hz
    exact hall _ (of_decide_eq_true (List.mem_filter.mp hi).2)
  · refine List.mem_map.mpr ⟨s.rowMajor k, List.mem_filter.mpr ⟨List.mem_finRange _, decide_eq_true ?_⟩, ?_⟩
    · rw [Equiv.symm_apply_apply]
      exact hk
    · rw [Equiv.symm_apply_apply]
      exact ht

/-- The places reduced to point `n` of batch `b` are its distances. -/
theorem drop_iff (h : S16x8192x64.ReducesTo [2] S16x8192) (i : S16x8192x64.Idx) (b : Fin 16) (n : Fin 8192) :
    h.drop i = ix2 b n ↔ i = ix3 b n (i 2) := by
  have d0 : (h.drop i (0 : Fin 2) : ℕ) = i (0 : Fin 3) := h.drop_apply_val_of_eq i (0 : Fin 2) (0 : Fin 3)
  have d1 : (h.drop i (1 : Fin 2) : ℕ) = i (1 : Fin 3) := h.drop_apply_val_of_eq i (1 : Fin 2) (1 : Fin 3)
  constructor
  · intro e
    refine funext fun a => Fin.ext ?_
    match a with
    | ⟨0, _⟩ => exact d0.symm.trans (congrArg (fun q : S16x8192.Idx => (q 0).val) e)
    | ⟨1, _⟩ => exact d1.symm.trans (congrArg (fun q : S16x8192.Idx => (q 1).val) e)
    | ⟨2, _⟩ => rfl
  · intro e
    refine funext fun a => Fin.ext ?_
    match a with
    | ⟨0, _⟩ => exact d0.trans (congrArg (fun q : S16x8192x64.Idx => (q 0).val) e)
    | ⟨1, _⟩ => exact d1.trans (congrArg (fun q : S16x8192x64.Idx => (q 1).val) e)

/-- The words reduced beside the distances are the centroids' numbers. -/
theorem wordV_apply (i : S16x8192x64.Idx) : iotaInDim S16x8192x64 32 2 i = BitVec.ofNat 32 (i (2 : Fin 3)).val := iotaInDim_apply _ _ _

/-- The pair of the nearest centroid's distance and word. -/
def best (p : Pts Ideal) (c : Cen Ideal) (b : Fin 16) (n : Fin 8192) : EReal × BitVec 32 :=
  (dist (ptsOf p b n) (cenOf c b (near (cenOf c b) (ptsOf p b n))), BitVec.ofNat 32 (near (cenOf c b) (ptsOf p b n)).val)

/-- The nearest pair comes before the initial one. -/
theorem best_start (p : Pts Ideal) (c : Cen Ideal) (b : Fin 16) (n : Fin 8192) :
    Before (best p c b n) (constant (F := Ideal) S_ .f32 0x7F800000#32 (Shape.Idx.first h_S_), constantI S_ 32 0#32 (Shape.Idx.first h_S_)) :=
  (congrArg (fun t => Before _ (t, 0#32)) Cert.KernelIdeal.Block.ofBits_inf).mpr (before_start fun k => dist (ptsOf p b n) (cenOf c b k))

/-- The nearest pair comes before every centroid's. -/
theorem best_before (p : Pts Ideal) (c : Cen Ideal) (b : Fin 16) (n : Fin 8192) (i : S16x8192x64.Idx)
    (hi : reducesTo_S16x8192x64_S16x8192_d2.drop i = ix2 b n) :
    Before (best p c b n) (distV p c i, iotaInDim S16x8192x64 32 2 i) := by
  have e := (drop_iff _ i b n).mp hi
  have e1 : distV p c i = dist (ptsOf p b n) (cenOf c b (i 2)) := (congrArg (distV p c) e).trans (distV_apply p c b n (i 2))
  rw [e1, wordV_apply]
  exact before_first (fun k => dist (ptsOf p b n) (cenOf c b k)) (i 2)

/-- The nearest pair is one of the centroids'. -/
theorem best_at (p : Pts Ideal) (c : Cen Ideal) (b : Fin 16) (n : Fin 8192) :
    (distV p c (ix3 b n (near (cenOf c b) (ptsOf p b n))), iotaInDim S16x8192x64 32 2 (ix3 b n (near (cenOf c b) (ptsOf p b n)))) = best p c b n :=
  Prod.ext (distV_apply p c b n _) (wordV_apply _)

/-- The entries reduced for a point are its distances. -/
theorem best_drop (k : Fin 64) (b : Fin 16) (n : Fin 8192) : (reducesTo_S16x8192x64_S16x8192_d2).drop (ix3 b n k) = ix2 b n :=
  (drop_iff _ _ b n).mpr rfl

/-- The reduction of the distances is the pair of the nearest centroid. -/
theorem best_eq (p : Pts Ideal) (c : Cen Ideal) (b : Fin 16) (n : Fin 8192) :
    Host.argReduce (reducer_argmin_f32_i32 (F := Ideal)) (distV p c) (iotaInDim S16x8192x64 32 2) (constant S_ .f32 0x7F800000#32)
      (constantI S_ 32 0#32) reducesTo_S16x8192x64_S16x8192_d2 h_S_ (ix2 b n) = best p c b n :=
  argReduce_eq _ _ _ _ _ _ _ _ (best_start p c b n) (best_before p c b n) _ (best_drop _ b n) (best_at p c b n)

/-- The reference's assignment is the words of the reduction. -/
theorem nearV_def (p : Pts Ideal) (c : Cen Ideal) : nearV p c = fun j =>
  (Host.argReduce (reducer_argmin_f32_i32 (F := Ideal)) (distV p c) (iotaInDim S16x8192x64 32 2) (constant S_ .f32 0x7F800000#32)
      (constantI S_ 32 0#32) reducesTo_S16x8192x64_S16x8192_d2 h_S_ j).2 := by
  delta nearV
  exact Eq.refl _

/-- The nearest pair's word is the nearest centroid's number. -/
theorem best_snd (p : Pts Ideal) (c : Cen Ideal) (b : Fin 16) (n : Fin 8192) :
    (best p c b n).2 = BitVec.ofNat 32 (near (cenOf c b) (ptsOf p b n)).val := by
  unfold best
  exact Eq.refl _

/-- The reference's assignment is the nearest centroid. -/
theorem nearV_apply (p : Pts Ideal) (c : Cen Ideal) (b : Fin 16) (n : Fin 8192) :
    nearV p c (ix2 b n) = BitVec.ofNat 32 (near (cenOf c b) (ptsOf p b n)).val := by
  have h2 := congrArg Prod.snd (best_eq p c b n)
  have h1 := congrFun (nearV_def p c) (ix2 b n)
  beta_reduce at h1
  rw [h2] at h1
  exact h1.trans (best_snd p c b n)

end Cert.RefValue
-- ==== Proof.Ref.Mean.lean ====
/- The reference's means, read at a place: the points are added up, and counted, at the rows of their nearest centroids. -/
module

public import proofs.«01_k».proof.Proof.Ref.Near

@[expose] public section

noncomputable section

namespace Cert.RefValue

open Idealize.ShloMosaic Idealize.ShloMosaic.ValueIdx Cert.ReferenceIdeal Cert.ReferenceIdeal.Tail Facts₀ Facts Cert.Means

/-- The row of point `n` of batch `b` among all the points. -/
def flat (b : Fin 16) (n : Fin 8192) : Fin 131072 := ⟨8192 * b.val + n.val, by omega⟩

/-- The row of centroid `k` of batch `b` among all the centroids. -/
def cell (b : Fin 16) (k : Fin 64) : Fin 1024 := ⟨64 * b.val + k.val, by omega⟩

/-- Every row is some point of some batch. -/
theorem exists_flat (r : Fin 131072) : ∃ b n, r = flat b n :=
  ⟨⟨r.val / 8192, by omega⟩, ⟨r.val % 8192, by omega⟩, Fin.ext (by show r.val = 8192 * (r.val / 8192) + r.val % 8192; omega)⟩

/-! ## Where an update goes -/

/-- The dimensions of the two segment sums. -/
abbrev sd : ScatterDims S1024x32 S131072x1 S131072x32 := scatter_S1024x32_S131072x1_S131072x32_1_0_0_1

/-- An update's row is given by its word. -/
theorem start0 (r : Fin 131072) (d : Fin 32) (idx : IVec S131072x1 32) :
    sd.start (ix2 r d) idx (0 : Fin 2) = (idx (ix2 r (0 : Fin 1))).toInt := by
  unfold ScatterDims.start
  rw [dif_pos (show (0 : Fin 2) ∈ sd.scatterDimsToOperandDims from List.mem_singleton.mpr rfl)]
  refine congrArg (fun i => (idx i).toInt) (funext fun a => Fin.ext ?_)
  match a with
  | ⟨0, _⟩ => rfl
  | ⟨1, _⟩ => rfl

/-- An update's first column is 0. -/
theorem start1 (r : Fin 131072) (d : Fin 32) (idx : IVec S131072x1 32) : sd.start (ix2 r d) idx (1 : Fin 2) = 0 := by
  unfold ScatterDims.start
  exact dif_neg (show (1 : Fin 2) ∉ [(0 : Fin 2)] by decide)

/-- An update has one row. -/
theorem window0 (r : Fin 131072) (d : Fin 32) : sd.window (ix2 r d) (0 : Fin 2) = 0 := by
  unfold ScatterDims.window
  exact dif_neg (show (0 : Fin 2) ∉ Shape.kept S1024x32 [(0 : Fin 2)] by decide)

/-- An update's entries keep their column. -/
theorem window1 (r : Fin 131072) (d : Fin 32) : sd.window (ix2 r d) (1 : Fin 2) = d.val := by
  unfold ScatterDims.window
  rw [dif_pos (show (1 : Fin 2) ∈ sd.sKept from (show (1 : Fin 2) ∈ Shape.kept S1024x32 [(0 : Fin 2)] by decide))]
  rfl

/-- Update `(r, d)` goes to row `i` of the result just when its index is `i`, and to its own column. -/
theorem result_iff (r : Fin 131072) (d e : Fin 32) (i : Fin 1024) (idx : IVec S131072x1 32) :
    sd.resultIdx? (ix2 r d) idx = some (ix2 i e) ↔ (idx (ix2 r (0 : Fin 1))).toInt = i.val ∧ d = e := by
  have s0 := start0 r d idx
  have s1 := start1 r d idx
  have w0 := window0 r d
  have w1 := window1 r d
  have hi := i.isLt
  have hd := d.isLt
  unfold ScatterDims.resultIdx?
  constructor
  · intro h
    split at h
    · rename_i hb
      have h := Option.some.inj h
      have h0 := congrArg (fun q : S1024x32.Idx => (q 0).val) h
      have h1 := congrArg (fun q : S1024x32.Idx => (q 1).val) h
      have b0 := hb (0 : Fin 2)
      change (sd.start (ix2 r d) idx (0 : Fin 2) + sd.window (ix2 r d) (0 : Fin 2)).toNat = i.val at h0
      change (sd.start (ix2 r d) idx (1 : Fin 2) + sd.window (ix2 r d) (1 : Fin 2)).toNat = e.val at h1
      rw [s0, w0] at h0 b0
      rw [s1, w1] at h1
      refine ⟨?_, Fin.ext ?_⟩ <;> omega
    · exact absurd h (by simp)
  · rintro ⟨h, rfl⟩
    have hb : ∀ a : Fin 2, 0 ≤ sd.start (ix2 r d) idx a + sd.window (ix2 r d) a
        ∧ sd.start (ix2 r d) idx a + sd.window (ix2 r d) a < S1024x32.size a := by
      intro a
      match a with
      | ⟨0, _⟩ =>
        show 0 ≤ sd.start (ix2 r d) idx (0 : Fin 2) + sd.window (ix2 r d) (0 : Fin 2)
          ∧ sd.start (ix2 r d) idx (0 : Fin 2) + sd.window (ix2 r d) (0 : Fin 2) < ((1024 : ℕ) : ℤ)
        rw [s0, w0]; omega
      | ⟨1, _⟩ =>
        show 0 ≤ sd.start (ix2 r d) idx (1 : Fin 2) + sd.window (ix2 r d) (1 : Fin 2)
          ∧ sd.start (ix2 r d) idx (1 : Fin 2) + sd.window (ix2 r d) (1 : Fin 2) < ((32 : ℕ) : ℤ)
        rw [s1, w1]; omega
    rw [dif_pos hb]
    refine congrArg some (funext fun a => Fin.ext ?_)
    match a with
    | ⟨0, _⟩ =>
      show (sd.start (ix2 r d) idx (0 : Fin 2) + sd.window (ix2 r d) (0 : Fin 2)).toNat = i.val
      rw [s0, w0]; omega
    | ⟨1, _⟩ =>
      show (sd.start (ix2 r d) idx (1 : Fin 2) + sd.window (ix2 r d) (1 : Fin 2)).toNat = d.val
      rw [s1, w1]; omega

/-! ## The rows -/

/-- The row of a point's nearest centroid. -/
theorem rowV_apply (a : Asg Ideal) (b : Fin 16) (n : Fin 8192) (k : Fin 64) (h : a (ix2 b n) = BitVec.ofNat 32 k.val) :
    (rowV (F := Ideal) a baseV (ix2 (flat b n) (0 : Fin 1))).toInt = ((cell b k).val : ℤ) := by
  have hb := b.isLt
  have hk := k.isLt
  have hn := n.isLt
  have e : rowV (F := Ideal) a baseV (ix2 (flat b n) (0 : Fin 1)) = BitVec.ofNat 32 k.val + BitVec.ofNat 32 b.val * 64#32 := by
    unfold rowV
    refine (broadcastInDim_apply _ _ _ _ (ix1 (flat b n)) fun c => ?_).trans ((shapeCast_apply _ _ _ (ix2 b n) ?_).trans ?_)
    · match c with
      | ⟨0, _⟩ => rfl
    · rw [Shape.rowMajor_val_two, Shape.rowMajor_val_one]
      show b.val * 8192 + n.val = 8192 * b.val + n.val
      omega
    · refine congr (congrArg (fun x y : BitVec 32 => x + y) h) ?_
      refine (broadcastInDim_apply _ _ _ _ (ix2 b (0 : Fin 1)) fun c => ?_).trans ?_
      · match c with
        | ⟨0, _⟩ => rfl
        | ⟨1, _⟩ => rfl
      · unfold baseV
        refine (broadcastInDim_apply _ _ _ _ (ix1 b) fun c => ?_).trans ?_
        · match c with
          | ⟨0, _⟩ => rfl
        · exact congr (congrArg (fun x y : BitVec 32 => x * y) (iotaInDim_apply 32 (0 : Fin 1) (ix1 b))) (broadcastInDim_scalar_apply _ _ _)
  rw [e]
  have e2 : BitVec.ofNat 32 k.val + BitVec.ofNat 32 b.val * 64#32 = BitVec.ofNat 32 (64 * b.val + k.val) := by
    apply BitVec.eq_of_toNat_eq
    simp only [BitVec.toNat_add, BitVec.toNat_mul, BitVec.toNat_ofNat]
    omega
  rw [e2, BitVec.toInt_eq_toNat_of_lt] <;> rw [BitVec.toNat_ofNat, Nat.mod_eq_of_lt (by omega)]
  · rfl
  · omega

/-- What is added up at a centroid's row: over the points whose nearest centroid it is. -/
theorem scatter_apply (a : Asg Ideal) (w : Fin 16 → Fin 8192 → Fin 64) (h : ∀ b n, a (ix2 b n) = BitVec.ofNat 32 (w b n).val)
    (x : FVec Ideal S1024x32 .f32) (u : FVec Ideal S131072x32 .f32) (b : Fin 16) (k : Fin 64) (d : Fin 32) :
    Host.scatterAdd sd x (rowV (F := Ideal) a baseV) u (ix2 (cell b k) d)
      = x (ix2 (cell b k) d) + ∑ n, if w b n = k then u (ix2 (flat b n) d) else 0 := by
  show Ideal.hostScatterAdd sd x (rowV (F := Ideal) a baseV) u (ix2 (cell b k) d) = _
  unfold Ideal.hostScatterAdd
  refine congrArg (x (ix2 (cell b k) d) + ·) ?_
  rw [← Finset.sum_filter]
  symm
  refine Finset.sum_nbij (fun n => ix2 (flat b n) d) (fun n hn => ?_) (fun n _ n' _ e => ?_) (fun j hj => ?_) (fun n _ => rfl)
  · rw [Finset.mem_filter] at hn ⊢
    refine ⟨Finset.mem_univ _, (result_iff _ _ _ _ _).mpr ⟨?_, rfl⟩⟩
    rw [rowV_apply a b n (w b n) (h b n), hn.2]
  · have e := congrArg (fun q : S131072x32.Idx => (q 0).val) e
    change 8192 * b.val + n.val = 8192 * b.val + n'.val at e
    exact Fin.ext (by omega)
  · have hj := (Finset.mem_filter.mp hj).2
    obtain ⟨b', n', e⟩ := exists_flat (j 0)
    have ej : j = ix2 (flat b' n') (j 1) := funext fun c => by
      match c with
      | ⟨0, _⟩ => exact e
      | ⟨1, _⟩ => rfl
    rw [ej] at hj
    obtain ⟨h1, h2⟩ := (result_iff _ _ _ _ _).mp hj
    rw [rowV_apply a b' n' (w b' n') (h b' n')] at h1
    have h1 : 64 * b'.val + (w b' n').val = 64 * b.val + k.val := by exact_mod_cast h1
    have hk := k.isLt
    have hw := (w b' n').isLt
    obtain rfl : b' = b := Fin.ext (by omega)
    refine ⟨n', Finset.mem_coe.mpr (Finset.mem_filter.mpr ⟨Finset.mem_univ _, Fin.ext (by omega)⟩), ?_⟩
    rw [ej, h2]
    rfl

/-- The points as rows. -/
theorem rows_apply (p : Pts Ideal) (b : Fin 16) (n : Fin 8192) (d : Fin 32) :
    shapeCast S131072x32 p shapeCasts_S16x8192x32_S131072x32 (ix2 (flat b n) d) = p (ix3 b n d) := by
  refine shapeCast_apply _ _ _ (ix3 b n d) ?_
  rw [Shape.rowMajor_val_three, Shape.rowMajor_val_two]
  show (b.val * 8192 + n.val) * 32 + d.val = (8192 * b.val + n.val) * 32 + d.val
  omega

/-- A quotient of arrays at a place. -/
theorem divf_apply {s : Shape} (x y : FVec Ideal s .f32) (i : s.Idx) : Host.divf x y i = Ideal.div (x i) (y i) := rfl

/-- The reference's round is the round. -/
theorem roundV_apply (p : Pts Ideal) (c : Cen Ideal) (b : Fin 16) (k : Fin 64) (d : Fin 32) :
    roundV p c (ix3 b k d) = round (ptsOf p b) (cenOf c b) k d := by
  have h := nearV_apply p c
  unfold roundV
  generalize nearV p c = a at h
  unfold meanV
  refine (shapeCast_apply _ _ _ (ix2 (cell b k) d) ?_).trans ?_
  · rw [Shape.rowMajor_val_three, Shape.rowMajor_val_two]
    show (64 * b.val + k.val) * 32 + d.val = (b.val * 64 + k.val) * 32 + d.val
    omega
  · have hz : ∀ i, broadcastInDim S1024x32 ![] bcast_S_S1024x32 (constant (F := Ideal) S_ .f32 0x00000000#32) i = 0 :=
      fun i => (broadcastInDim_scalar_apply _ _ i).trans Ideal.ofBits_zero_f32
    have ho : ∀ i, broadcastInDim S131072x32 ![] bcast_S_S131072x32 (constant (F := Ideal) S_ .f32 0x3F800000#32) i = 1 :=
      fun i => (broadcastInDim_scalar_apply _ _ i).trans Ideal.ofBits_one_f32
    have hs := scatter_apply a (fun b n => near (cenOf c b) (ptsOf p b n)) h
    rw [divf_apply]
    unfold Means.round Means.mean
    refine congrArg₂ Ideal.div ?_ ?_
    · refine (hs _ _ b k d).trans ?_
      rw [hz, zero_add]
      refine Finset.sum_congr rfl fun n _ => ?_
      rw [rows_apply]
    · refine (hs _ _ b k d).trans ?_
      rw [hz, zero_add]
      refine Finset.sum_congr rfl fun n _ => ?_
      rw [ho]

end Cert.RefValue
-- ==== Proof.Ref.Plain.lean ====
/- The precondition, read: every point has real coordinates, and one of them is positive or all are zero. -/
module

public import proofs.«01_k».proof.Proof.Gen.Pre_plain
public import proofs.«01_k».proof.Proof.Means.Spec
public import proofs.«01_k».proof.Proof.Block.Ops
public import Idealize.ShloMosaic.Lib.IdealHost
public import Idealize.ShloMosaic.Lib.ValueIdx
public import Idealize.ShloMosaic.PureOps.Reduce

@[expose] public section

noncomputable section

namespace Cert.RefValue

open Idealize.ShloMosaic Idealize.ShloMosaic.ValueIdx Cert.Means

/-- An `or` of bits that is 1 has one that is. -/
theorem exists_of_fold_ori {ι : Type} [DecidableEq ι] (x : ι → BitVec 1) (s : Finset ι) (h : s.fold IntOp.ori 0#1 x = 1#1) :
    ∃ i, x i = 1#1 := by
  induction s using Finset.induction_on with
  | empty => rw [Finset.fold_empty] at h; exact absurd h (by decide)
  | insert a s ha ih =>
    rw [Finset.fold_insert ha] at h
    have e : ∀ u v : BitVec 1, IntOp.ori u v = 1#1 → u = 1#1 ∨ v = 1#1 := by decide
    rcases e _ _ h with h | h
    · exact ⟨a, h⟩
    · exact ih h

/-- An `and` of bits that is 1 has them all 1. -/
theorem forall_of_fold_andi {ι : Type} [DecidableEq ι] (x : ι → BitVec 1) (s : Finset ι) (h : s.fold IntOp.andi 1#1 x = 1#1) :
    ∀ i ∈ s, x i = 1#1 := by
  induction s using Finset.induction_on with
  | empty => exact fun i hi => absurd hi (Finset.notMem_empty i)
  | insert a s ha ih =>
    rw [Finset.fold_insert ha] at h
    have e : ∀ u v : BitVec 1, IntOp.andi u v = 1#1 → u = 1#1 ∧ v = 1#1 := by decide
    intro i hi
    rcases Finset.mem_insert.mp hi with rfl | hi
    · exact (e _ _ h).1
    · exact ih (e _ _ h).2 i hi

/-- A condition whose bit is set holds. -/
theorem of_bit {P : Prop} [Decidable P] (h : BitVec.ofBool (decide P) = 1#1) : P := by
  by_contra hn
  rw [decide_eq_false hn] at h
  exact absurd h (by decide)

/-- An extended real whose absolute value is below `⊤` is real. -/
theorem real_of_abs {x : EReal} (h : max x (-x) < ⊤) : ∃ r : ℝ, x = (r : EReal) := by
  obtain ⟨h1, h2⟩ := max_lt_iff.mp h
  refine ⟨x.toReal, (EReal.coe_toReal h1.ne fun e => ?_).symm⟩
  rw [e, EReal.neg_bot] at h2
  exact absurd h2 (lt_irrefl _)

section

variable [Cert.Pre_plain.Facts]

open Cert.Pre_plain Cert.Pre_plain.Facts

/-- The points reduce over their coordinates. -/
theorem reduces_coord : S16x8192x32.Reduces [2] S16x8192 := by decide

/-- The entries reduced for a point are its coordinates. -/
theorem lift_coord (b : Fin 16) (n : Fin 8192) (d : Fin 32) : reduces_coord.lift (ix2 b n) d = ix3 b n d :=
  funext fun a => Fin.ext (by
    match a with
    | ⟨0, _⟩ => rfl
    | ⟨1, _⟩ => rfl
    | ⟨2, _⟩ => rfl)

/-- A flag of a point, spread over its coordinates. -/
theorem spread_flag (x : IVec S16x8192 1) (b : Fin 16) (n : Fin 8192) :
    broadcastInDim S16x8192x1 ![0, 1] bcast_S16x8192_S16x8192x1_0_1 x (ix3 b n (0 : Fin 1)) = x (ix2 b n) := by
  refine broadcastInDim_apply _ _ _ _ (ix2 b n) fun a => ?_
  match a with
  | ⟨0, _⟩ => rfl
  | ⟨1, _⟩ => rfl

/-- A point's flag at each of its coordinates. -/
theorem spread_point (x : IVec S16x8192x1 1) (b : Fin 16) (n : Fin 8192) (d : Fin 32) :
    broadcastInDim S16x8192x32 ![0, 1, 2] bcast_S16x8192x1_S16x8192x32_0_1_2 x (ix3 b n d) = x (ix3 b n (0 : Fin 1)) := by
  refine broadcastInDim_apply _ _ _ _ (ix3 b n (0 : Fin 1)) fun a => ?_
  match a with
  | ⟨0, _⟩ => rfl
  | ⟨1, _⟩ => rfl
  | ⟨2, _⟩ => rfl

/-- An `or` over the coordinates of a point. -/
theorem any_coord (x : IVec S16x8192x32 1) (b : Fin 16) (n : Fin 8192)
    (h : Host.reduce IntOp.ori x (constantI S_ 1 0#1) reducesTo_S16x8192x32_S16x8192_d2 h_S_ (ix2 b n) = 1#1) : ∃ d : Fin 32, x (ix3 b n d) = 1#1 := by
  rw [Host.reduce_eq_fold_single _ _ _ _ reduces_coord] at h
  obtain ⟨d, hd⟩ := exists_of_fold_ori _ _ h
  exact ⟨d, (congrArg x (lift_coord b n d)).symm.trans hd⟩

/-- An `and` over the coordinates of a point. -/
theorem all_coord (x : IVec S16x8192x32 1) (b : Fin 16) (n : Fin 8192)
    (h : Host.reduce IntOp.andi x (constantI S_ 1 1#1) reducesTo_S16x8192x32_S16x8192_d2 h_S_ (ix2 b n) = 1#1) (d : Fin 32) : x (ix3 b n d) = 1#1 := by
  rw [Host.reduce_eq_fold_single _ _ _ _ reduces_coord] at h
  exact (congrArg x (lift_coord b n d)).symm.trans (forall_of_fold_andi _ _ h d (Finset.mem_univ _))

/-- What the precondition says of a point. -/
theorem plain_of_pre (p : FVec Ideal S16x8192x32 .f32) (h : fn (F := Ideal) p = fun _ => 1#1) (b : Fin 16) (n : Fin 8192) :
    Plain fun d => p (ix3 b n d) := by
  have hz : ∀ i, broadcastInDim S16x8192x32 ![] bcast_S_S16x8192x32 (constant (F := Ideal) S_ .f32 0x00000000#32) i = 0 :=
    fun i => (broadcastInDim_scalar_apply _ _ i).trans Ideal.ofBits_zero_f32
  have ht : ∀ i, broadcastInDim S16x8192x32 ![] bcast_S_S16x8192x32 (constant (F := Ideal) S_ .f32 0x7F800000#32) i = ⊤ :=
    fun i => (broadcastInDim_scalar_apply _ _ i).trans Cert.KernelIdeal.Block.ofBits_inf
  have e : ∀ u v : BitVec 1, IntOp.andi u v = 1#1 → u = 1#1 ∧ v = 1#1 := by decide
  have e' : ∀ u v : BitVec 1, IntOp.ori u v = 1#1 → u = 1#1 ∨ v = 1#1 := by decide
  have key := fun d => e _ _ (congrFun h (ix3 b n d))
  have hr : ∀ d : Fin 32, ∃ r : ℝ, p (ix3 b n d) = (r : EReal) := fun d => by
    refine real_of_abs ?_
    have := of_bit (P := max (p (ix3 b n d)) (-(p (ix3 b n d))) < _) (key d).1
    rwa [ht] at this
  choose r hr using hr
  refine ⟨r, hr, ?_⟩
  have h2 := (spread_point _ b n 0).symm.trans (key 0).2
  rcases e' _ _ h2 with h3 | h3
  · obtain ⟨d, hd⟩ := any_coord _ b n ((spread_flag _ b n).symm.trans h3)
    have hd := of_bit (P := _ < p (ix3 b n d)) hd
    rw [hz, hr d] at hd
    exact .inl ⟨d, EReal.coe_pos.mp hd⟩
  · refine .inr fun d => ?_
    have hd := of_bit (P := p (ix3 b n d) = _) (all_coord _ b n ((spread_flag _ b n).symm.trans h3) d)
    rw [hz, hr d] at hd
    exact EReal.coe_eq_zero.mp hd

end

end Cert.RefValue
-- ==== Proof.Value.lean ====
/- The kernel's results are the reference's: both are two rounds from the same initial centroids, and the nearest of the last. -/
module

public import proofs.«01_k».proof.Proof.Block.Arrays
public import proofs.«01_k».proof.Proof.Ref.Run
public import proofs.«01_k».proof.Proof.Ref.Mean
public import proofs.«01_k».proof.Proof.Ref.Plain

@[expose] public section

noncomputable section

namespace Cert.RefValue

open Idealize.ShloMosaic Idealize.ShloMosaic.StableHlo Idealize.ShloMosaic.ValueIdx Cert.Means Cert.ReferenceIdeal.Tail

/-- The reference's centroids: two rounds. -/
theorem centV_eq (p : Pts Ideal) (i : IVec Cert.ReferenceIdeal.S64x1 32) (b : Fin 16) :
    cenOf (centV p i) b = round (ptsOf p b) (round (ptsOf p b) (cenOf (pickV p i) b)) := by
  have h : ∀ c : Cen Ideal, cenOf (roundV p c) b = round (ptsOf p b) (cenOf c b) :=
    fun c => funext fun k => funext fun d => roundV_apply p c b k d
  unfold centV
  rw [h, h]

/-- The reference's assignment in its result's shape. -/
theorem out_apply (x : Asg Ideal) (b : Fin 16) (n : Fin 8192) :
    broadcastInDim Cert.ReferenceIdeal.S16x1x8192 ![0, 2] Cert.ReferenceIdeal.Facts₀.bcast_S16x8192_S16x1x8192_0_2 x (ix3 b (0 : Fin 1) n)
      = x (ix2 b n) := by
  refine broadcastInDim_apply _ _ _ _ (ix2 b n) fun a => ?_
  match a with
  | ⟨0, _⟩ => rfl
  | ⟨1, _⟩ => rfl

/-- The initial centroids the kernel is handed are the reference's. -/
theorem startV_apply (p : Pts Ideal) (i : IVec Cert.ReferenceIdeal.S64x1 32) (b : Fin 16) (k : Fin 64) (d : Fin 32) :
    Cert.RefRun.startV p i (ix3 b d k) = cenOf (pickV p i) b k d := by
  unfold Cert.RefRun.startV
  exact transpose_ix3_021_apply _ _ b d k

/-- The initial centroids are points. -/
theorem good_pick (p : Pts Ideal) (hp : ∀ b n, Plain (ptsOf p b n)) (i : IVec Cert.ReferenceIdeal.S64x1 32) (b : Fin 16) (k : Fin 64) :
    Good (cenOf (pickV p i) b k) := by
  have h : ∀ j : Cert.ReferenceIdeal.S16x8192x32.Idx, ∃ r : ℝ, p j = (r : EReal) := fun j => by
    obtain ⟨r, hr, -⟩ := hp (j 0) (j 1)
    refine ⟨r (j 2), (congrArg p (funext fun a => ?_)).trans (hr (j 2))⟩
    match a with
    | ⟨0, _⟩ => rfl
    | ⟨1, _⟩ => rfl
    | ⟨2, _⟩ => rfl
  refine .inl ?_
  choose r hr using h
  exact ⟨fun d => r _, fun d => hr _⟩

variable (m : (ℓ : Loc Cert.KernelIdeal.nD Cert.KernelIdeal.τ Cert.KernelIdeal.sig) → Buf (Elt Ideal) ℓ)
  (c : Dev Cert.KernelIdeal.nD) (p : Pts Ideal) (i : IVec Cert.ReferenceIdeal.S64x1 32)
  (hm : m ((c.tc : Thread Cert.KernelIdeal.nD Cert.KernelIdeal.τ).loc Cert.KernelIdeal.main_arg0) = p)
  (hv : Cert.KernelIdeal.Gen.V m c Cert.KernelIdeal.main_call0_v17 = Cert.RefRun.startV p i) (hp : ∀ b n, Plain (ptsOf p b n))

include hm hv hp in
/-- The kernel's centroids are the reference's. -/
theorem cent_eq : (Cert.KernelIdeal.Gen.dats m 0 c).arrAt 3 Cert.KernelIdeal.cfg0.N = centV p i := by
  funext j
  have e : j = ix3 (j 0) (j 1) (j 2) := funext fun a => by
    match a with
    | ⟨0, _⟩ => rfl
    | ⟨1, _⟩ => rfl
    | ⟨2, _⟩ => rfl
  rw [e]
  exact (Cert.KernelIdeal.Block.arr3 m c (j 0) (ptsOf p (j 0)) (cenOf (pickV p i) (j 0)) (fun n d => congrFun hm _)
    (fun k d => (congrFun hv _).trans (startV_apply p i (j 0) k d)) (good_pick p hp i (j 0)) (hp (j 0)) (j 1) (j 2)).trans
    (congrFun (congrFun (centV_eq p i (j 0)) (j 1)) (j 2)).symm

include hm hv hp in
/-- The kernel's assignment is the reference's. -/
theorem near_eq : (Cert.KernelIdeal.Gen.dats m 0 c).arrAt 2 Cert.KernelIdeal.cfg0.N
    = broadcastInDim Cert.ReferenceIdeal.S16x1x8192 ![0, 2] Cert.ReferenceIdeal.Facts₀.bcast_S16x8192_S16x1x8192_0_2 (nearV p (centV p i)) := by
  funext j
  have e : j = ix3 (j 0) (0 : Fin 1) (j 2) := funext fun a => by
    match a with
    | ⟨0, _⟩ => rfl
    | ⟨1, _⟩ => exact Subsingleton.elim (α := Fin 1) _ _
    | ⟨2, _⟩ => rfl
  rw [e]
  refine (Cert.KernelIdeal.Block.arr2 m c (j 0) (ptsOf p (j 0)) (cenOf (pickV p i) (j 0)) (fun n d => congrFun hm _)
    (fun k d => (congrFun hv _).trans (startV_apply p i (j 0) k d)) (good_pick p hp i (j 0)) (hp (j 0)) (j 2)).trans ?_
  refine Eq.trans ?_ ((out_apply _ (j 0) (j 2)).trans (nearV_apply _ _ _ _)).symm
  exact congrArg (fun C => BitVec.ofNat 32 (near C (ptsOf p (j 0) (j 2))).val) (centV_eq p i (j 0)).symm

end Cert.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_plain
public import proofs.«01_k».proof.Proof.Gen.KernelIdeal.Value
public import proofs.«01_k».proof.Proof.Ref.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The value claim: from memories that hold the same plain points, kernel and reference draw the same initial centroids and leave
    the same assignment and the same centroids. -/
theorem algebraic : Cert.algebraic_KernelIdeal_ReferenceIdeal_pre_plain (hKernelIdeal := Cert.KernelIdeal.Gen.facts)
    (hReferenceIdeal := Cert.ReferenceIdeal.Gen.facts) (hPre_plain := Cert.Pre_plain.Gen.facts) := by
  intro m g m' g' hpre hagree
  have hp : ∀ (c : Dev Cert.KernelIdeal.nD) b n, Cert.Means.Plain (Cert.RefValue.ptsOf
      (m ((c.tc : Thread Cert.KernelIdeal.nD Cert.KernelIdeal.τ).loc Cert.KernelIdeal.main_arg0)) b n) :=
    fun c b n => Cert.RefValue.plain_of_pre _ (hpre c) b n
  refine ⟨fun c => (Cert.KernelIdeal.Gen.dats m 0 c).arrAt 2 Cert.KernelIdeal.cfg0.N, fun c => (Cert.KernelIdeal.Gen.dats m 0 c).arrAt 3 Cert.KernelIdeal.cfg0.N,
    Cert.KernelIdeal.Value.run_blocks m g, ?_⟩
  refine (θ_run _ _ _).mono (fun r h c => ?_) (Cert.RefRun.run m' g')
  obtain ⟨i, hv, h61, h70⟩ := Cert.RefRun.drawn c (fun b => m (c, b)) (Idealize.ShloMosaic.StableHlo.launchContents m' c) _
    rfl (hagree c) (Cert.KernelIdeal.Gen.V_main_arg0 m c)
  refine ⟨(h c _).trans (h70.trans ?_), (h c _).trans (h61.trans ?_), (h c _).trans (Cert.RefRun.kept c _)⟩
  · exact (Cert.RefValue.near_eq m c _ i rfl hv (hp c)).symm
  · exact (Cert.RefValue.cent_eq m c _ i rfl hv (hp c)).symm

/-- All the claims. -/
theorem claim : Cert.Claim := ⟨Cert.Kernel.Gen.facts, Cert.KernelIdeal.Gen.facts, Cert.ReferenceIdeal.Gen.facts, Cert.Pre_plain.Gen.facts,
  fun m g _ => Cert.Kernel.Gen.frame m g, fun m g _ => Cert.KernelIdeal.Gen.frame m g, fun m g _ => Cert.KernelIdeal.Gen.frame m g,
  fun m g _ => Cert.RefRun.frame m g, fun m g _ => Cert.RefRun.frame m g, trivial, algebraic⟩

end Cert.Proof

end
